-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_v60) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v17)) (v1 : (c : Dev Cert.Kernel5Ideal.nD) → Buf (Elt Ideal) ((c.tc : Thread Cert.Kernel5Ideal.nD Cert.Kernel5Ideal.τ).loc Cert.Kernel5Ideal.main_v18)) (v2 : (c : Dev Cert.Kernel5Ideal.nD) → Buf (Elt Ideal) ((c.tc : Thread Cert.Kernel5Ideal.nD Cert.Kernel5Ideal.τ).loc Cert.Kernel5Ideal.main_v15)) (v3 : (c : Dev Cert.Kernel5Ideal.nD) → Buf (Elt Ideal) ((c.tc : Thread Cert.Kernel5Ideal.nD Cert.Kernel5Ideal.τ).loc Cert.Kernel5Ideal.main_v16)) (v4 : (c : Dev Cert.Kernel5Ideal.nD) → Buf (Elt Ideal) ((c.tc : Thread Cert.Kernel5Ideal.nD Cert.Kernel5Ideal.τ).loc Cert.Kernel5Ideal.main_v13)) (v5 : (c : Dev Cert.Kernel5Ideal.nD) → Buf (Elt Ideal) ((c.tc : Thread Cert.Kernel5Ideal.nD Cert.Kernel5Ideal.τ).loc Cert.Kernel5Ideal.main_v14)) (v6 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_v18) = v1 c
          ∧ r.2.mem ((c.tc : Thread Cert.Kernel5Ideal.nD Cert.Kernel5Ideal.τ).loc Cert.Kernel5Ideal.main_v15) = v2 c
          ∧ r.2.mem ((c.tc : Thread Cert.Kernel5Ideal.nD Cert.Kernel5Ideal.τ).loc Cert.Kernel5Ideal.main_v16) = v3 c
          ∧ r.2.mem ((c.tc : Thread Cert.Kernel5Ideal.nD Cert.Kernel5Ideal.τ).loc Cert.Kernel5Ideal.main_v13) = v4 c
          ∧ r.2.mem ((c.tc : Thread Cert.Kernel5Ideal.nD Cert.Kernel5Ideal.τ).loc Cert.Kernel5Ideal.main_v14) = v5 c
          ∧ r.2.mem ((c.tc : Thread Cert.Kernel5Ideal.nD Cert.Kernel5Ideal.τ).loc Cert.Kernel5Ideal.main_v10) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v33) = v2 c
          ∧ r.2.mem ((c.tc : Thread Cert.Reference5Ideal.nD Cert.Reference5Ideal.τ).loc Cert.Reference5Ideal.main_v28) = v3 c
          ∧ r.2.mem ((c.tc : Thread Cert.Reference5Ideal.nD Cert.Reference5Ideal.τ).loc Cert.Reference5Ideal.main_v39) = v4 c
          ∧ r.2.mem ((c.tc : Thread Cert.Reference5Ideal.nD Cert.Reference5Ideal.τ).loc Cert.Reference5Ideal.main_v40) = v5 c
          ∧ r.2.mem ((c.tc : Thread Cert.Reference5Ideal.nD Cert.Reference5Ideal.τ).loc Cert.Reference5Ideal.main_v41) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)) (v2 : (c : Dev Cert.Kernel15Ideal.nD) → Buf (Elt Ideal) ((c.tc : Thread Cert.Kernel15Ideal.nD Cert.Kernel15Ideal.τ).loc Cert.Kernel15Ideal.main_v2_2)) (v3 : (c : Dev Cert.Kernel15Ideal.nD) → Buf (Elt Ideal) ((c.tc : Thread Cert.Kernel15Ideal.nD Cert.Kernel15Ideal.τ).loc Cert.Kernel15Ideal.main_v2_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_v2_2) = v2 c
          ∧ r.2.mem ((c.tc : Thread Cert.Kernel15Ideal.nD Cert.Kernel15Ideal.τ).loc Cert.Kernel15Ideal.main_v2_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v51) = v0 c
          ∧ r.2.mem ((c.tc : Thread Cert.Reference15Ideal.nD Cert.Reference15Ideal.τ).loc Cert.Reference15Ideal.main_v52) = v1 c
          ∧ r.2.mem ((c.tc : Thread Cert.Reference15Ideal.nD Cert.Reference15Ideal.τ).loc Cert.Reference15Ideal.main_v53) = v2 c
          ∧ r.2.mem ((c.tc : Thread Cert.Reference15Ideal.nD Cert.Reference15Ideal.τ).loc Cert.Reference15Ideal.main_v54) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v36) = v0 c
          ∧ r.2.mem ((c.tc : Thread Cert.Reference16Ideal.nD Cert.Reference16Ideal.τ).loc Cert.Reference16Ideal.main_v37) = v1 c
          ∧ r.2.mem ((c.tc : Thread Cert.Reference16Ideal.nD Cert.Reference16Ideal.τ).loc Cert.Reference16Ideal.main_v38) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v22)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v22) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v116) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2x2048x1024 .f32) (main_v14 : IVec S_ 1) (main_v15 : FVec F S2816x1024 .f32) (main_cst_5 : FVec F S_ .f32) : IVec S_ 1 :=
  let main_v16 : FVec F S2816x1024 .f32 := broadcastInDim S2816x1024 ![] bcast_S_S2816x1024 main_cst_5
  let main_v17 : IVec S2816x1024 1 := cmpf .olt main_v15 main_v16
  let main_c_6 : IVec S_ 1 := constantI S_ 1 1#1
  let main_v18 : IVec S_ 1 := (fun x v => Host.reduce IntOp.andi x v reducesTo_S2816x1024_S_d0_1 h_S_) main_v17 main_c_6
  let main_v19 : IVec S_ 1 := andi main_v14 main_v18
  let main_v20 : FVec F S2x2048x1024 .f32 := Host.absf main_arg4
  let main_cst_7 : FVec F S_ .f32 := constant S_ .f32 0x7F800000#32
  let main_v21 : FVec F S2x2048x1024 .f32 := broadcastInDim S2x2048x1024 ![] bcast_S_S2x2048x1024 main_cst_7
  let main_v22 : IVec S2x2048x1024 1 := cmpf .olt main_v20 main_v21
  let main_c_8 : IVec S_ 1 := constantI S_ 1 1#1
  let main_v23 : IVec S_ 1 := (fun x v => Host.reduce IntOp.andi x v reducesTo_S2x2048x1024_S_d0_1_2 h_S_) main_v22 main_c_8
  let main_v24 : IVec S_ 1 := andi main_v19 main_v23
  main_v24

def fn {F : FTy → Type} [FloatOps F] (main_arg0 : FVec F S2x2048x1024 .f32) (main_arg1 : FVec F S1024 .f32) (main_arg2 : FVec F S1024x5632 .f32) (main_arg3 : FVec F S2816x1024 .f32) (main_arg4 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x5632 .f32 := Host.absf main_arg2
  let main_cst_3 : FVec F S_ .f32 := constant S_ .f32 0x7F800000#32
  let main_v11 : FVec F S1024x5632 .f32 := broadcastInDim S1024x5632 ![] bcast_S_S1024x5632 main_cst_3
  let main_v12 : IVec S1024x5632 1 := cmpf .olt main_v10 main_v11
  let main_c_4 : IVec S_ 1 := constantI S_ 1 1#1
  let main_v13 : IVec S_ 1 := (fun x v => Host.reduce IntOp.andi x v reducesTo_S1024x5632_S_d0_1 h_S_) main_v12 main_c_4
  let main_v14 : IVec S_ 1 := andi main_v9 main_v13
  let main_v15 : FVec F S2816x1024 .f32 := Host.absf main_arg3
  let main_cst_5 : FVec F S_ .f32 := constant S_ .f32 0x7F800000#32
  fn_part1 (F := F) main_arg4 main_v14 main_v15 main_cst_5
-- ==== Kernel.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩
abbrev S4096x2816 : Shape := ⟨2, ![4096, 2816]⟩
abbrev S1024x256 : Shape := ⟨2, ![1024, 256]⟩
abbrev S4096x256 : Shape := ⟨2, ![4096, 256]⟩
abbrev S512x2816 : Shape := ⟨2, ![512, 2816]⟩
abbrev S512x1024 : Shape := ⟨2, ![512, 1024]⟩
abbrev S4096x1408 : Shape := ⟨2, ![4096, 1408]⟩
abbrev S1408x1024 : Shape := ⟨2, ![1408, 1024]⟩
abbrev S256x1024 : Shape := ⟨2, ![256, 1024]⟩
abbrev S1024x1408 : Shape := ⟨2, ![1024, 1408]⟩
abbrev S1024x2816 : Shape := ⟨2, ![1024, 2816]⟩
abbrev S_ : Shape := ⟨0, ![]⟩

abbrev nBuf : Space → Nat
  | .hbm => 32
  | .vmem => 73
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x2048x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1024x5632, .bf16⟩
  | .hbm, ⟨9, _⟩ => ⟨S2816x1024, .bf16⟩
  | .hbm, ⟨10, _⟩ => ⟨S4096x1024, .bf16⟩
  | .hbm, ⟨11, _⟩ => ⟨S4096x2816, .bf16⟩
  | .hbm, ⟨12, _⟩ => ⟨S4096x2816, .bf16⟩
  | .hbm, ⟨13, _⟩ => ⟨S4096x2816, .bf16⟩
  | .hbm, ⟨14, _⟩ => ⟨S4096x1024, .f32⟩
  | .hbm, ⟨15, _⟩ => ⟨S4096x1024, .bf16⟩
  | .hbm, ⟨16, _⟩ => ⟨S2816x1024, .bf16⟩
  | .hbm, ⟨17, _⟩ => ⟨S4096x2816, .bf16⟩
  | .hbm, ⟨18, _⟩ => ⟨S4096x2816, .bf16⟩
  | .hbm, ⟨19, _⟩ => ⟨S1024x5632, .bf16⟩
  | .hbm, ⟨20, _⟩ => ⟨S1024x5632, .bf16⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .bf16⟩
  | .hbm, ⟨28, _⟩ => ⟨S1x1024, .f32⟩
  | .hbm, ⟨29, _⟩ => ⟨S2x2048x1024, .f32⟩
  | .hbm, ⟨30, _⟩ => ⟨S2x2048x1024, .f32⟩
  | .hbm, ⟨31, _⟩ => ⟨S1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S4096x1024, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S512x2816, .bf16⟩
  | .local _ .vmem, ⟨17, _⟩ => ⟨S512x2816, .bf16⟩
  | .local _ .vmem, ⟨18, _⟩ => ⟨S2816x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S4096x1408, .bf16⟩
  | .local _ .vmem, ⟨24, _⟩ => ⟨S4096x1408, .bf16⟩
  | .local _ .vmem, ⟨25, _⟩ => ⟨S4096x1024, .bf16⟩
  | .local _ .vmem, ⟨26, _⟩ => ⟨S1408x1024, .bf16⟩
  | .local _ .vmem, ⟨27, _⟩ => ⟨S1408x1024, .bf16⟩
  | .local _ .vmem, ⟨28, _⟩ => ⟨S4096x1024, .bf16⟩
  | .local _ .vmem, ⟨29, _⟩ => ⟨S256x1024, .bf16⟩
  | .local _ .vmem, ⟨30, _⟩ => ⟨S256x1024, .bf16⟩
  | .local _ .vmem, ⟨31, _⟩ => ⟨S4096x256, .bf16⟩
  | .local _ .vmem, ⟨32, _⟩ => ⟨S4096x256, .bf16⟩
  | .local _ .vmem, ⟨33, _⟩ => ⟨S4096x256, .bf16⟩
  | .local _ .vmem, ⟨34, _⟩ => ⟨S4096x256, .bf16⟩
  | .local _ .vmem, ⟨35, _⟩ => ⟨S4096x256, .bf16⟩
  | .local _ .vmem, ⟨36, _⟩ => ⟨S4096x256, .bf16⟩
  | .local _ .vmem, ⟨37, _⟩ => ⟨S4096x256, .bf16⟩
  | .local _ .vmem, ⟨38, _⟩ => ⟨S4096x256, .bf16⟩
  | .local _ .vmem, ⟨39, _⟩ => ⟨S4096x1024, .bf16⟩
  | .local _ .vmem, ⟨40, _⟩ => ⟨S4096x1408, .bf16⟩
  | .local _ .vmem, ⟨41, _⟩ => ⟨S4096x1408, .bf16⟩
  | .local _ .vmem, ⟨42, _⟩ => ⟨S1024x1408, .bf16⟩
  | .local _ .vmem, ⟨43, _⟩ => ⟨S1024x1408, .bf16⟩
  | .local _ .vmem, ⟨44, _⟩ => ⟨S4096x1024, .bf16⟩
  | .local _ .vmem, ⟨45, _⟩ => ⟨S4096x1408, .bf16⟩
  | .local _ .vmem, ⟨46, _⟩ => ⟨S4096x1408, .bf16⟩
  | .local _ .vmem, ⟨47, _⟩ => ⟨S1024x1408, .bf16⟩
  | .local _ .vmem, ⟨48, _⟩ => ⟨S1024x1408, .bf16⟩
  | .local _ .vmem, ⟨49, _⟩ => ⟨S512x2816, .bf16⟩
  | .local _ .vmem, ⟨50, _⟩ => ⟨S512x2816, .bf16⟩
  | .local _ .vmem, ⟨51, _⟩ => ⟨S1024x2816, .bf16⟩
  | .local _ .vmem, ⟨52, _⟩ => ⟨S512x1024, .f32⟩
  | .local _ .vmem, ⟨53, _⟩ => ⟨S512x1024, .f32⟩
  | .local _ .vmem, ⟨54, _⟩ => ⟨S512x2816, .bf16⟩
  | .local _ .vmem, ⟨55, _⟩ => ⟨S512x2816, .bf16⟩
  | .local _ .vmem, ⟨56, _⟩ => ⟨S1024x2816, .bf16⟩
  | .local _ .vmem, ⟨57, _⟩ => ⟨S512x1024, .f32⟩
  | .local _ .vmem, ⟨58, _⟩ => ⟨S512x1024, .f32⟩
  | .local _ .vmem, ⟨59, _⟩ => ⟨S512x1024, .f32⟩
  | .local _ .vmem, ⟨60, _⟩ => ⟨S512x1024, .f32⟩
  | .local _ .vmem, ⟨61, _⟩ => ⟨S1024x1024, .f32⟩
  | .local _ .vmem, ⟨62, _⟩ => ⟨S1024x1024, .f32⟩
  | .local _ .vmem, ⟨63, _⟩ => ⟨S1024x1024, .f32⟩
  | .local _ .vmem, ⟨64, _⟩ => ⟨S1024x1024, .f32⟩
  | .local _ .vmem, ⟨65, _⟩ => ⟨S1x1024, .f32⟩
  | .local _ .vmem, ⟨66, _⟩ => ⟨S1024x1024, .f32⟩
  | .local _ .vmem, ⟨67, _⟩ => ⟨S1024x1024, .f32⟩
  | .local _ .vmem, ⟨68, _⟩ => ⟨S1024x1024, .f32⟩
  | .local _ .vmem, ⟨69, _⟩ => ⟨S1024x1024, .f32⟩
  | .local _ .vmem, ⟨70, _⟩ => ⟨S1024x1024, .bf16⟩
  | .local _ .vmem, ⟨71, _⟩ => ⟨S1024x1024, .bf16⟩
  | .local _ .vmem, ⟨72, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc4_stg4_1 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg2_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg2_1 : Ref sig .tc := ⟨.vmem, 58, rfl⟩
abbrev cc8_stg3_0 : Ref sig .tc := ⟨.vmem, 59, rfl⟩
abbrev cc8_stg3_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg1_1 : Ref sig .tc := ⟨.vmem, 64, rfl⟩
abbrev cc9_stg2_0 : Ref sig .tc := ⟨.vmem, 65, rfl⟩
abbrev cc9_stg3_0 : Ref sig .tc := ⟨.vmem, 66, rfl⟩
abbrev cc9_stg3_1 : Ref sig .tc := ⟨.vmem, 67, rfl⟩
abbrev cc9_stg4_0 : Ref sig .tc := ⟨.vmem, 68, rfl⟩
abbrev cc9_stg4_1 : Ref sig .tc := ⟨.vmem, 69, rfl⟩
abbrev cc9_stg5_0 : Ref sig .tc := ⟨.vmem, 70, rfl⟩
abbrev cc9_stg5_1 : Ref sig .tc := ⟨.vmem, 71, rfl⟩
abbrev cc9_stg6_0 : Ref sig .tc := ⟨.vmem, 72, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc4_sem4_0 : DmaSem sig := 35
abbrev cc4_sem4_1 : DmaSem sig := 36
abbrev cc4_sem5_0 : DmaSem sig := 37
abbrev cc4_sem5_1 : DmaSem sig := 38
abbrev cc5_sem0_0 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem1_0 : DmaSem sig := 45
abbrev cc6_sem1_1 : DmaSem sig := 46
abbrev cc6_sem2_0 : DmaSem sig := 47
abbrev cc6_sem2_1 : DmaSem sig := 48
abbrev cc7_sem0_0 : DmaSem sig := 49
abbrev cc7_sem0_1 : DmaSem sig := 50
abbrev cc7_sem1_0 : DmaSem sig := 51
abbrev cc7_sem2_0 : DmaSem sig := 52
abbrev cc7_sem2_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem2_1 : DmaSem sig := 58
abbrev cc8_sem3_0 : DmaSem sig := 59
abbrev cc8_sem3_1 : DmaSem sig := 60
abbrev cc9_sem0_0 : DmaSem sig := 61
abbrev cc9_sem0_1 : DmaSem sig := 62
abbrev cc9_sem1_0 : DmaSem sig := 63
abbrev cc9_sem1_1 : DmaSem sig := 64
abbrev cc9_sem2_0 : DmaSem sig := 65
abbrev cc9_sem3_0 : DmaSem sig := 66
abbrev cc9_sem3_1 : DmaSem sig := 67
abbrev cc9_sem4_0 : DmaSem sig := 68
abbrev cc9_sem4_1 : DmaSem sig := 69
abbrev cc9_sem5_0 : DmaSem sig := 70
abbrev cc9_sem5_1 : DmaSem sig := 71
abbrev cc9_sem6_0 : DmaSem sig := 72

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4096x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S4096x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage3_0 : Fin 2 → Memref sig .tc .vmem S4096x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1408x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨2, ![1, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S256x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S4096x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S4096x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S4096x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S4096x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨3, ![1, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S4096x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

abbrev stage6_0 : Fin 1 → Memref sig .tc .vmem S4096x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S4096x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1408 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![8, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage7_0 : Fin 2 → Memref sig .tc .vmem S512x2816 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S1024x2816 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![8, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg1.toNat, v0.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc8_transform_3 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage8_0 : Fin 2 → Memref sig .tc .vmem S512x2816 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S1024x2816 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S512x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev stage8_3 : Fin 2 → Memref sig .tc .vmem S512x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, false]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S1024x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1024x1024 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S1024x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S1024x1024 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S1024x1024 .bf16 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S1x1024 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]
-- ==== ReferenceIdeal.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2048x2816 : Shape := ⟨3, ![2, 2048, 2816]⟩
abbrev S1024x2816 : Shape := ⟨2, ![1024, 2816]⟩
abbrev S5632x1024 : Shape := ⟨2, ![5632, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x5632, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S_, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S2x2048x1024, .f32⟩
  | .hbm, ⟨43, _⟩ => ⟨S_, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S_, .f32⟩
  | .hbm, ⟨49, _⟩ => ⟨S2x2048x1024, .f32⟩
  | .hbm, ⟨50, _⟩ => ⟨S2x2048x1024, .f32⟩
  | .hbm, ⟨51, _⟩ => ⟨S1024x2816, .f32⟩
  | .hbm, ⟨52, _⟩ => ⟨S2816x1024, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x5632, .f32⟩
  | .hbm, ⟨61, _⟩ => ⟨S5632x1024, .f32⟩
  | .hbm, ⟨62, _⟩ => ⟨S1024x5632, .f32⟩
  | .hbm, ⟨63, _⟩ => ⟨S2x2048x1024, .f32⟩
  | .hbm, ⟨64, _⟩ => ⟨S2x2048x1024, .f32⟩
  | .hbm, ⟨65, _⟩ => ⟨S_, .f32⟩
  | .hbm, ⟨66, _⟩ => ⟨S1024, .f32⟩
  | .hbm, ⟨67, _⟩ => ⟨S1x1x1024, .f32⟩
  | .hbm, ⟨68, _⟩ => ⟨S2x2048x1024, .f32⟩
  | .hbm, ⟨69, _⟩ => ⟨S2x2048x1024, .f32⟩
  | .hbm, ⟨70, _⟩ => ⟨S_, .f32⟩
  | .hbm, ⟨71, _⟩ => ⟨S1024, .f32⟩
  | .hbm, ⟨72, _⟩ => ⟨S2x2048x1024, .f32⟩
  | .hbm, ⟨73, _⟩ => ⟨S_, .f32⟩
  | .hbm, ⟨74, _⟩ => ⟨S2x2048, .f32⟩
  | .hbm, ⟨75, _⟩ => ⟨S2x2048x1, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S2x2048x1, .f32⟩
  | .hbm, ⟨80, _⟩ => ⟨S_, .f32⟩
  | .hbm, ⟨81, _⟩ => ⟨S2x2048x1, .f32⟩
  | .hbm, ⟨82, _⟩ => ⟨S2x2048x1, .f32⟩
  | .hbm, ⟨83, _⟩ => ⟨S_, .f32⟩
  | .hbm, ⟨84, _⟩ => ⟨S2x2048, .f32⟩
  | .hbm, ⟨85, _⟩ => ⟨S2x2048x1024, .f32⟩
  | .hbm, ⟨86, _⟩ => ⟨S2x2048x1024, .f32⟩
  | .hbm, ⟨87, _⟩ => ⟨S2x2048x1024, .f32⟩
  | .hbm, ⟨88, _⟩ => ⟨S2x2048x1024, .f32⟩
  | .hbm, ⟨89, _⟩ => ⟨S2x2048x1024, .f32⟩
  | .hbm, ⟨90, _⟩ => ⟨S1024x5632, .bf16⟩
  | .hbm, ⟨91, _⟩ => ⟨S2816x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel2.lean ====
abbrev S2x2048x1024 : Shape := ⟨3, ![2, 2048, 1024]⟩
abbrev S1024 : Shape := ⟨1, ![1024]⟩
abbrev S1024x5888 : Shape := ⟨2, ![1024, 5888]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩
abbrev S4096x5888 : Shape := ⟨2, ![4096, 5888]⟩
abbrev S1024x256 : Shape := ⟨2, ![1024, 256]⟩
abbrev S4096x256 : Shape := ⟨2, ![4096, 256]⟩
abbrev S2x2048x5888 : Shape := ⟨3, ![2, 2048, 5888]⟩

abbrev nBuf : Space → Nat
  | .hbm => 9
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5888, .f32⟩
  | .hbm, ⟨3, _⟩ => ⟨S4096x1024, .f32⟩
  | .hbm, ⟨4, _⟩ => ⟨S1x1024, .f32⟩
  | .hbm, ⟨5, _⟩ => ⟨S1024x5888, .bf16⟩
  | .hbm, ⟨6, _⟩ => ⟨S4096x1024, .bf16⟩
  | .hbm, ⟨7, _⟩ => ⟨S4096x5888, .f32⟩
  | .hbm, ⟨8, _⟩ => ⟨S2x2048x5888, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S4096x1024, .bf16⟩
  | .local _ .vmem, ⟨6, _⟩ => ⟨S1024x256, .bf16⟩
  | .local _ .vmem, ⟨7, _⟩ => ⟨S1024x256, .bf16⟩
  | .local _ .vmem, ⟨8, _⟩ => ⟨S4096x256, .f32⟩
  | .local _ .vmem, ⟨9, _⟩ => ⟨S4096x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 23, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference2Ideal.lean ====
abbrev S2x2048x1024 : Shape := ⟨3, ![2, 2048, 1024]⟩
abbrev S1024 : Shape := ⟨1, ![1024]⟩
abbrev S1024x5888 : Shape := ⟨2, ![1024, 5888]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5888 : Shape := ⟨3, ![2, 2048, 5888]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5888, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x5888, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel3.lean ====
abbrev S4096x1024 : Shape := ⟨2, ![4096, 1024]⟩
abbrev S4096x5888 : Shape := ⟨2, ![4096, 5888]⟩
abbrev S1024x5888 : Shape := ⟨2, ![1024, 5888]⟩
abbrev S2048x512 : Shape := ⟨2, ![2048, 512]⟩
abbrev S2048x2944 : Shape := ⟨2, ![2048, 2944]⟩
abbrev S512x2944 : Shape := ⟨2, ![512, 2944]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5888, .bf16⟩
  | .hbm, ⟨2, _⟩ => ⟨S1024x5888, .bf16⟩
  | .local _ .vmem, ⟨0, _⟩ => ⟨S2048x512, .bf16⟩
  | .local _ .vmem, ⟨1, _⟩ => ⟨S2048x512, .bf16⟩
  | .local _ .vmem, ⟨2, _⟩ => ⟨S2048x2944, .bf16⟩
  | .local _ .vmem, ⟨3, _⟩ => ⟨S2048x2944, .bf16⟩
  | .local _ .vmem, ⟨4, _⟩ => ⟨S512x2944, .bf16⟩
  | .local _ .vmem, ⟨5, _⟩ => ⟨S512x2944, .bf16⟩
  | .local _ .vmem, ⟨6, _⟩ => ⟨S512x2944, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2944 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x5888 : Shape := ⟨2, ![4096, 5888]⟩
abbrev S_ : Shape := ⟨0, ![]⟩
abbrev S1024x5888 : Shape := ⟨2, ![1024, 5888]⟩
abbrev S5888x1024 : Shape := ⟨2, ![5888, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5888, .bf16⟩
  | .hbm, ⟨2, _⟩ => ⟨S_, .f32⟩
  | .hbm, ⟨3, _⟩ => ⟨S1024x5888, .f32⟩
  | .hbm, ⟨4, _⟩ => ⟨S4096x1024, .f32⟩
  | .hbm, ⟨5, _⟩ => ⟨S4096x5888, .f32⟩
  | .hbm, ⟨6, _⟩ => ⟨S4096x5888, .f32⟩
  | .hbm, ⟨7, _⟩ => ⟨S5888x1024, .f32⟩
  | .hbm, ⟨8, _⟩ => ⟨S1024x5888, .f32⟩
  | .hbm, ⟨9, _⟩ => ⟨S1024x5888, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x5888 : Shape := ⟨2, ![4096, 5888]⟩
abbrev S1024x5888 : Shape := ⟨2, ![1024, 5888]⟩
abbrev S4096x1024 : Shape := ⟨2, ![4096, 1024]⟩
abbrev S1024x2944 : Shape := ⟨2, ![1024, 2944]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5888, .bf16⟩
  | .hbm, ⟨1, _⟩ => ⟨S1024x5888, .bf16⟩
  | .hbm, ⟨2, _⟩ => ⟨S4096x1024, .f32⟩
  | .local _ .vmem, ⟨0, _⟩ => ⟨S1024x2944, .bf16⟩
  | .local _ .vmem, ⟨1, _⟩ => ⟨S1024x2944, .bf16⟩
  | .local _ .vmem, ⟨2, _⟩ => ⟨S1024x2944, .bf16⟩
  | .local _ .vmem, ⟨3, _⟩ => ⟨S1024x2944, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5888 : Shape := ⟨2, ![4096, 5888]⟩
abbrev S1024x5888 : Shape := ⟨2, ![1024, 5888]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5888, .bf16⟩
  | .hbm, ⟨1, _⟩ => ⟨S1024x5888, .bf16⟩
  | .hbm, ⟨2, _⟩ => ⟨S_, .f32⟩
  | .hbm, ⟨3, _⟩ => ⟨S4096x1024, .f32⟩
  | .hbm, ⟨4, _⟩ => ⟨S1024x5888, .f32⟩
  | .hbm, ⟨5, _⟩ => ⟨S4096x5888, .f32⟩
  | .hbm, ⟨6, _⟩ => ⟨S4096x5888, .f32⟩
  | .hbm, ⟨7, _⟩ => ⟨S4096x1024, .f32⟩
  | _, _ => ⟨S4096x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2x2048x1024 : Shape := ⟨3, ![2, 2048, 1024]⟩
abbrev S4096x5888 : Shape := ⟨2, ![4096, 5888]⟩
abbrev S4096x256 : Shape := ⟨2, ![4096, 256]⟩
abbrev S4096x512 : Shape := ⟨2, ![4096, 512]⟩
abbrev S256x1024 : Shape := ⟨2, ![256, 1024]⟩
abbrev S512x1024 : Shape := ⟨2, ![512, 1024]⟩
abbrev S1024x1024 : Shape := ⟨2, ![1024, 1024]⟩
abbrev S4096x1024 : Shape := ⟨2, ![4096, 1024]⟩
abbrev S2x4096x1024 : Shape := ⟨3, ![2, 4096, 1024]⟩
abbrev S256x256 : Shape := ⟨2, ![256, 256]⟩
abbrev S1x4096x256 : Shape := ⟨3, ![1, 4096, 256]⟩
abbrev S512x256 : Shape := ⟨2, ![512, 256]⟩
abbrev S2048x256 : Shape := ⟨2, ![2048, 256]⟩
abbrev S1x2048x256 : Shape := ⟨3, ![1, 2048, 256]⟩
abbrev S1024x256 : Shape := ⟨2, ![1024, 256]⟩
abbrev S1x4096x1024 : Shape := ⟨3, ![1, 4096, 1024]⟩
abbrev S4096x2048 : Shape := ⟨2, ![4096, 2048]⟩

abbrev nBuf : Space → Nat
  | .hbm => 28
  | .vmem => 59
  | .smem => 0
  | _ => 0

abbrev bufTy : (tb : Table) → Fin (tcTables nBuf tb) → BufTy
  | .hbm, ⟨0, _⟩ => ⟨S2x2048x1024, .f32⟩
  | .hbm, ⟨1, _⟩ => ⟨S4096x5888, .f32⟩
  | .hbm, ⟨2, _⟩ => ⟨S4096x256, .bf16⟩
  | .hbm, ⟨3, _⟩ => ⟨S4096x512, .bf16⟩
  | .hbm, ⟨4, _⟩ => ⟨S256x1024, .f32⟩
  | .hbm, ⟨5, _⟩ => ⟨S512x1024, .f32⟩
  | .hbm, ⟨6, _⟩ => ⟨S1024x1024, .f32⟩
  | .hbm, ⟨7, _⟩ => ⟨S2x2048x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S256x1024, .bf16⟩
  | .hbm, ⟨12, _⟩ => ⟨S512x1024, .bf16⟩
  | .hbm, ⟨13, _⟩ => ⟨S1024x1024, .bf16⟩
  | .hbm, ⟨14, _⟩ => ⟨S2x4096x1024, .f32⟩
  | .hbm, ⟨15, _⟩ => ⟨S2x4096x1024, .f32⟩
  | .hbm, ⟨16, _⟩ => ⟨S4096x1024, .bf16⟩
  | .hbm, ⟨17, _⟩ => ⟨S4096x1024, .f32⟩
  | .hbm, ⟨18, _⟩ => ⟨S1024x1024, .bf16⟩
  | .hbm, ⟨19, _⟩ => ⟨S4096x1024, .f32⟩
  | .hbm, ⟨20, _⟩ => ⟨S2x4096x1024, .bf16⟩
  | .hbm, ⟨21, _⟩ => ⟨S4096x5888, .bf16⟩
  | .hbm, ⟨22, _⟩ => ⟨S256x1024, .bf16⟩
  | .hbm, ⟨23, _⟩ => ⟨S512x1024, .bf16⟩
  | .hbm, ⟨24, _⟩ => ⟨S4096x256, .f32⟩
  | .hbm, ⟨25, _⟩ => ⟨S4096x512, .f32⟩
  | .hbm, ⟨26, _⟩ => ⟨S2x2048x1024, .f32⟩
  | .hbm, ⟨27, _⟩ => ⟨S4096x2048, .bf16⟩
  | .local _ .vmem, ⟨0, _⟩ => ⟨S4096x256, .bf16⟩
  | .local _ .vmem, ⟨1, _⟩ => ⟨S256x256, .bf16⟩
  | .local _ .vmem, ⟨2, _⟩ => ⟨S256x256, .bf16⟩
  | .local _ .vmem, ⟨3, _⟩ => ⟨S1x4096x256, .f32⟩
  | .local _ .vmem, ⟨4, _⟩ => ⟨S1x4096x256, .f32⟩
  | .local _ .vmem, ⟨5, _⟩ => ⟨S4096x512, .bf16⟩
  | .local _ .vmem, ⟨6, _⟩ => ⟨S512x256, .bf16⟩
  | .local _ .vmem, ⟨7, _⟩ => ⟨S512x256, .bf16⟩
  | .local _ .vmem, ⟨8, _⟩ => ⟨S1x4096x256, .f32⟩
  | .local _ .vmem, ⟨9, _⟩ => ⟨S1x4096x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S2048x256, .bf16⟩
  | .local _ .vmem, ⟨19, _⟩ => ⟨S2048x256, .bf16⟩
  | .local _ .vmem, ⟨20, _⟩ => ⟨S4096x1024, .bf16⟩
  | .local _ .vmem, ⟨21, _⟩ => ⟨S1024x256, .bf16⟩
  | .local _ .vmem, ⟨22, _⟩ => ⟨S1024x256, .bf16⟩
  | .local _ .vmem, ⟨23, _⟩ => ⟨S4096x256, .f32⟩
  | .local _ .vmem, ⟨24, _⟩ => ⟨S4096x256, .f32⟩
  | .local _ .vmem, ⟨25, _⟩ => ⟨S4096x256, .f32⟩
  | .local _ .vmem, ⟨26, _⟩ => ⟨S4096x256, .f32⟩
  | .local _ .vmem, ⟨27, _⟩ => ⟨S4096x1024, .bf16⟩
  | .local _ .vmem, ⟨28, _⟩ => ⟨S4096x1024, .bf16⟩
  | .local _ .vmem, ⟨29, _⟩ => ⟨S1024x1024, .bf16⟩
  | .local _ .vmem, ⟨30, _⟩ => ⟨S4096x1024, .bf16⟩
  | .local _ .vmem, ⟨31, _⟩ => ⟨S256x1024, .bf16⟩
  | .local _ .vmem, ⟨32, _⟩ => ⟨S256x1024, .bf16⟩
  | .local _ .vmem, ⟨33, _⟩ => ⟨S4096x256, .f32⟩
  | .local _ .vmem, ⟨34, _⟩ => ⟨S4096x256, .f32⟩
  | .local _ .vmem, ⟨35, _⟩ => ⟨S2048x256, .f32⟩
  | .local _ .vmem, ⟨36, _⟩ => ⟨S2048x256, .f32⟩
  | .local _ .vmem, ⟨37, _⟩ => ⟨S2048x256, .f32⟩
  | .local _ .vmem, ⟨38, _⟩ => ⟨S2048x256, .f32⟩
  | .local _ .vmem, ⟨39, _⟩ => ⟨S1x2048x256, .f32⟩
  | .local _ .vmem, ⟨40, _⟩ => ⟨S1x2048x256, .f32⟩
  | .local _ .vmem, ⟨41, _⟩ => ⟨S1x2048x256, .bf16⟩
  | .local _ .vmem, ⟨42, _⟩ => ⟨S1x2048x256, .bf16⟩
  | .local _ .vmem, ⟨43, _⟩ => ⟨S2048x256, .bf16⟩
  | .local _ .vmem, ⟨44, _⟩ => ⟨S2048x256, .bf16⟩
  | .local _ .vmem, ⟨45, _⟩ => ⟨S4096x256, .bf16⟩
  | .local _ .vmem, ⟨46, _⟩ => ⟨S1x4096x1024, .bf16⟩
  | .local _ .vmem, ⟨47, _⟩ => ⟨S256x1024, .bf16⟩
  | .local _ .vmem, ⟨48, _⟩ => ⟨S4096x512, .bf16⟩
  | .local _ .vmem, ⟨49, _⟩ => ⟨S1x4096x1024, .bf16⟩
  | .local _ .vmem, ⟨50, _⟩ => ⟨S512x1024, .bf16⟩
  | .local _ .vmem, ⟨51, _⟩ => ⟨S1x4096x1024, .bf16⟩
  | .local _ .vmem, ⟨52, _⟩ => ⟨S256x1024, .bf16⟩
  | .local _ .vmem, ⟨53, _⟩ => ⟨S4096x256, .f32⟩
  | .local _ .vmem, ⟨54, _⟩ => ⟨S1x4096x1024, .bf16⟩
  | .local _ .vmem, ⟨55, _⟩ => ⟨S256x1024, .bf16⟩
  | .local _ .vmem, ⟨56, _⟩ => ⟨S256x1024, .bf16⟩
  | .local _ .vmem, ⟨57, _⟩ => ⟨S4096x256, .f32⟩
  | .local _ .vmem, ⟨58, _⟩ => ⟨S4096x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg1_0 : Ref sig .tc := ⟨.vmem, 28, rfl⟩
abbrev cc4_stg2_0 : Ref sig .tc := ⟨.vmem, 29, rfl⟩
abbrev cc5_stg0_0 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg2_1 : Ref sig .tc := ⟨.vmem, 40, rfl⟩
abbrev cc6_stg3_0 : Ref sig .tc := ⟨.vmem, 41, rfl⟩
abbrev cc6_stg3_1 : Ref sig .tc := ⟨.vmem, 42, rfl⟩
abbrev cc6_stg4_0 : Ref sig .tc := ⟨.vmem, 43, rfl⟩
abbrev cc6_stg4_1 : Ref sig .tc := ⟨.vmem, 44, rfl⟩
abbrev cc7_stg0_0 : Ref sig .tc := ⟨.vmem, 45, rfl⟩
abbrev cc7_stg1_0 : Ref sig .tc := ⟨.vmem, 46, rfl⟩
abbrev cc7_stg2_0 : Ref sig .tc := ⟨.vmem, 47, rfl⟩
abbrev cc8_stg0_0 : Ref sig .tc := ⟨.vmem, 48, rfl⟩
abbrev cc8_stg1_0 : Ref sig .tc := ⟨.vmem, 49, rfl⟩
abbrev cc8_stg2_0 : Ref sig .tc := ⟨.vmem, 50, rfl⟩
abbrev cc9_stg0_0 : Ref sig .tc := ⟨.vmem, 51, rfl⟩
abbrev cc9_stg1_0 : Ref sig .tc := ⟨.vmem, 52, rfl⟩
abbrev cc9_stg2_0 : Ref sig .tc := ⟨.vmem, 53, rfl⟩
abbrev cc10_stg0_0 : Ref sig .tc := ⟨.vmem, 54, rfl⟩
abbrev cc10_stg1_0 : Ref sig .tc := ⟨.vmem, 55, rfl⟩
abbrev cc10_stg1_1 : Ref sig .tc := ⟨.vmem, 56, rfl⟩
abbrev cc10_stg2_0 : Ref sig .tc := ⟨.vmem, 57, rfl⟩
abbrev cc10_stg2_1 : Ref sig .tc := ⟨.vmem, 58, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem3_1 : DmaSem sig := 26
abbrev cc4_sem0_0 : DmaSem sig := 27
abbrev cc4_sem1_0 : DmaSem sig := 28
abbrev cc4_sem2_0 : DmaSem sig := 29
abbrev cc5_sem0_0 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem1_1 : DmaSem sig := 38
abbrev cc6_sem2_0 : DmaSem sig := 39
abbrev cc6_sem2_1 : DmaSem sig := 40
abbrev cc6_sem3_0 : DmaSem sig := 41
abbrev cc6_sem3_1 : DmaSem sig := 42
abbrev cc6_sem4_0 : DmaSem sig := 43
abbrev cc6_sem4_1 : DmaSem sig := 44
abbrev cc7_sem0_0 : DmaSem sig := 45
abbrev cc7_sem1_0 : DmaSem sig := 46
abbrev cc7_sem2_0 : DmaSem sig := 47
abbrev cc8_sem0_0 : DmaSem sig := 48
abbrev cc8_sem1_0 : DmaSem sig := 49
abbrev cc8_sem2_0 : DmaSem sig := 50
abbrev cc9_sem0_0 : DmaSem sig := 51
abbrev cc9_sem1_0 : DmaSem sig := 52
abbrev cc9_sem2_0 : DmaSem sig := 53
abbrev cc10_sem0_0 : DmaSem sig := 54
abbrev cc10_sem1_0 : DmaSem sig := 55
abbrev cc10_sem1_1 : DmaSem sig := 56
abbrev cc10_sem2_0 : DmaSem sig := 57
abbrev cc10_sem2_1 : DmaSem sig := 58

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let c0_i32_0 : BitVec 32 := 0#32
  ![c1_i32.toNat, arg0.toNat, v0.toNat]

abbrev stage1_0 : Fin 1 → Memref sig .tc .vmem S4096x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc2_transform_1 (i : grid2.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_3 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2048x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S1024x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S4096x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S4096x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S1024x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![1, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S256x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S4096x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨2, ![2, 8], ![false, false]⟩

def cc6_transform_0 (i : grid6.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc6_transform_1 (i : grid6.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc6_transform_2 (i : grid6.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc6_transform_3 (i : grid6.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc6_transform_4 (i : grid6.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

abbrev stage6_0 : Fin 2 → Memref sig .tc .vmem S2048x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S2048x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x2048x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1x2048x256 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S2048x256 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev grid7 : Pipeline.Grid := ⟨3, ![1, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage7_0 : Fin 1 → Memref sig .tc .vmem S4096x256 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 1 → Memref sig .tc .vmem S1x4096x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 1 → Memref sig .tc .vmem S256x1024 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, true, false]

abbrev grid8 : Pipeline.Grid := ⟨3, ![1, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let c0_i32_0 : BitVec 32 := 0#32
  ![c1_i32.toNat, v0.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage8_0 : Fin 1 → Memref sig .tc .vmem S4096x512 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 1 → Memref sig .tc .vmem S1x4096x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 1 → Memref sig .tc .vmem S512x1024 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, true, false]

abbrev grid9 : Pipeline.Grid := ⟨3, ![1, 1, 1], ![false, false, false]⟩

def cc9_transform_0 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage9_0 : Fin 1 → Memref sig .tc .vmem S1x4096x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false, true]

abbrev stage9_1 : Fin 1 → Memref sig .tc .vmem S256x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 1 → Memref sig .tc .vmem S4096x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, true, false]

abbrev grid10 : Pipeline.Grid := ⟨3, ![1, 2, 1], ![false, false, false]⟩

def cc10_transform_0 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage10_0 : Fin 1 → Memref sig .tc .vmem S1x4096x1024 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false, true]

abbrev stage10_1 : Fin 2 → Memref sig .tc .vmem S256x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S4096x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]
-- ==== Reference5Ideal.lean ====
abbrev S2x2048x1024 : Shape := ⟨3, ![2, 2048, 1024]⟩
abbrev S4096x5888 : Shape := ⟨2, ![4096, 5888]⟩
abbrev S4096x256 : Shape := ⟨2, ![4096, 256]⟩
abbrev S4096x512 : Shape := ⟨2, ![4096, 512]⟩
abbrev S256x1024 : Shape := ⟨2, ![256, 1024]⟩
abbrev S512x1024 : Shape := ⟨2, ![512, 1024]⟩
abbrev S1024x1024 : Shape := ⟨2, ![1024, 1024]⟩
abbrev S4096x2048 : Shape := ⟨2, ![4096, 2048]⟩
abbrev S_ : Shape := ⟨0, ![]⟩
abbrev S4096x1024 : Shape := ⟨2, ![4096, 1024]⟩
abbrev S1024x512 : Shape := ⟨2, ![1024, 512]⟩
abbrev S1024x256 : Shape := ⟨2, ![1024, 256]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S4096x5888, .f32⟩
  | .hbm, ⟨2, _⟩ => ⟨S4096x256, .bf16⟩
  | .hbm, ⟨3, _⟩ => ⟨S4096x512, .bf16⟩
  | .hbm, ⟨4, _⟩ => ⟨S256x1024, .f32⟩
  | .hbm, ⟨5, _⟩ => ⟨S512x1024, .f32⟩
  | .hbm, ⟨6, _⟩ => ⟨S1024x1024, .f32⟩
  | .hbm, ⟨7, _⟩ => ⟨S2x2048x1024, .f32⟩
  | .hbm, ⟨8, _⟩ => ⟨S4096x2048, .f32⟩
  | .hbm, ⟨9, _⟩ => ⟨S4096x256, .f32⟩
  | .hbm, ⟨10, _⟩ => ⟨S4096x512, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1024x1024, .f32⟩
  | .hbm, ⟨33, _⟩ => ⟨S1024x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x512, .f32⟩
  | .hbm, ⟨38, _⟩ => ⟨S512x1024, .f32⟩
  | .hbm, ⟨39, _⟩ => ⟨S4096x512, .f32⟩
  | .hbm, ⟨40, _⟩ => ⟨S4096x1024, .f32⟩
  | .hbm, ⟨41, _⟩ => ⟨S4096x1024, .f32⟩
  | .hbm, ⟨42, _⟩ => ⟨S1024x256, .f32⟩
  | .hbm, ⟨43, _⟩ => ⟨S256x1024, .f32⟩
  | .hbm, ⟨44, _⟩ => ⟨S4096x256, .f32⟩
  | .hbm, ⟨45, _⟩ => ⟨S4096x2048, .f32⟩
  | .hbm, ⟨46, _⟩ => ⟨S4096x2048, .f32⟩
  | .hbm, ⟨47, _⟩ => ⟨S2x2048x1024, .f32⟩
  | .hbm, ⟨48, _⟩ => ⟨S2x2048x1024, .f32⟩
  | .hbm, ⟨49, _⟩ => ⟨S4096x2048, .bf16⟩
  | .hbm, ⟨50, _⟩ => ⟨S256x1024, .bf16⟩
  | .hbm, ⟨51, _⟩ => ⟨S512x1024, .bf16⟩
  | .hbm, ⟨52, _⟩ => ⟨S1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Kernel6.lean ====
abbrev S2x1024x1408 : Shape := ⟨3, ![2, 1024, 1408]⟩
abbrev S1x512x1408 : Shape := ⟨3, ![1, 512, 1408]⟩
abbrev S512x1408 : Shape := ⟨2, ![512, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .local _ .vmem, ⟨0, _⟩ => ⟨S1x512x1408, .f32⟩
  | .local _ .vmem, ⟨1, _⟩ => ⟨S1x512x1408, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel6Ideal.lean ====
abbrev S2x1024x1408 : Shape := ⟨3, ![2, 1024, 1408]⟩
abbrev S1x512x1408 : Shape := ⟨3, ![1, 512, 1408]⟩
abbrev S512x1408 : Shape := ⟨2, ![512, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .local _ .vmem, ⟨0, _⟩ => ⟨S1x512x1408, .f32⟩
  | .local _ .vmem, ⟨1, _⟩ => ⟨S1x512x1408, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S2x704x1024 : Shape := ⟨3, ![2, 704, 1024]⟩
abbrev S1x64x1024 : Shape := ⟨3, ![1, 64, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel7Ideal.lean ====
abbrev S2x704x1024 : Shape := ⟨3, ![2, 704, 1024]⟩
abbrev S1x64x1024 : Shape := ⟨3, ![1, 64, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S2x1024x1472 : Shape := ⟨3, ![2, 1024, 1472]⟩
abbrev S1x512x1472 : Shape := ⟨3, ![1, 512, 1472]⟩
abbrev S512x1472 : Shape := ⟨2, ![512, 1472]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1472, .f32⟩
  | .hbm, ⟨1, _⟩ => ⟨S2x1024x1472, .f32⟩
  | .hbm, ⟨2, _⟩ => ⟨S2x1024x1472, .f32⟩
  | .hbm, ⟨3, _⟩ => ⟨S2x1024x1472, .f32⟩
  | .hbm, ⟨4, _⟩ => ⟨S2x1024x1472, .f32⟩
  | .hbm, ⟨5, _⟩ => ⟨S2x1024x1472, .f32⟩
  | .hbm, ⟨6, _⟩ => ⟨S2x1024x1472, .f32⟩
  | .local _ .vmem, ⟨0, _⟩ => ⟨S1x512x1472, .f32⟩
  | .local _ .vmem, ⟨1, _⟩ => ⟨S1x512x1472, .f32⟩
  | .local _ .vmem, ⟨2, _⟩ => ⟨S1x512x1472, .f32⟩
  | .local _ .vmem, ⟨3, _⟩ => ⟨S1x512x1472, .f32⟩
  | .local _ .vmem, ⟨4, _⟩ => ⟨S1x512x1472, .f32⟩
  | .local _ .vmem, ⟨5, _⟩ => ⟨S1x512x1472, .f32⟩
  | .local _ .vmem, ⟨6, _⟩ => ⟨S1x512x1472, .f32⟩
  | .local _ .vmem, ⟨7, _⟩ => ⟨S1x512x1472, .f32⟩
  | .local _ .vmem, ⟨8, _⟩ => ⟨S1x512x1472, .f32⟩
  | .local _ .vmem, ⟨9, _⟩ => ⟨S1x512x1472, .f32⟩
  | .local _ .vmem, ⟨10, _⟩ => ⟨S1x512x1472, .f32⟩
  | .local _ .vmem, ⟨11, _⟩ => ⟨S1x512x1472, .f32⟩
  | .local _ .vmem, ⟨12, _⟩ => ⟨S1x512x1472, .f32⟩
  | .local _ .vmem, ⟨13, _⟩ => ⟨S1x512x1472, .f32⟩
  | _, _ => ⟨S2x1024x1472, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1472 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1472 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1472 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1472 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1472 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1472 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1472 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel8Ideal.lean ====
abbrev S2x1024x1472 : Shape := ⟨3, ![2, 1024, 1472]⟩
abbrev S1x512x1472 : Shape := ⟨3, ![1, 512, 1472]⟩
abbrev S512x1472 : Shape := ⟨2, ![512, 1472]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1472, .f32⟩
  | .hbm, ⟨1, _⟩ => ⟨S2x1024x1472, .f32⟩
  | .hbm, ⟨2, _⟩ => ⟨S2x1024x1472, .f32⟩
  | .hbm, ⟨3, _⟩ => ⟨S2x1024x1472, .f32⟩
  | .hbm, ⟨4, _⟩ => ⟨S2x1024x1472, .f32⟩
  | .hbm, ⟨5, _⟩ => ⟨S2x1024x1472, .f32⟩
  | .hbm, ⟨6, _⟩ => ⟨S2x1024x1472, .f32⟩
  | .local _ .vmem, ⟨0, _⟩ => ⟨S1x512x1472, .f32⟩
  | .local _ .vmem, ⟨1, _⟩ => ⟨S1x512x1472, .f32⟩
  | .local _ .vmem, ⟨2, _⟩ => ⟨S1x512x1472, .f32⟩
  | .local _ .vmem, ⟨3, _⟩ => ⟨S1x512x1472, .f32⟩
  | .local _ .vmem, ⟨4, _⟩ => ⟨S1x512x1472, .f32⟩
  | .local _ .vmem, ⟨5, _⟩ => ⟨S1x512x1472, .f32⟩
  | .local _ .vmem, ⟨6, _⟩ => ⟨S1x512x1472, .f32⟩
  | .local _ .vmem, ⟨7, _⟩ => ⟨S1x512x1472, .f32⟩
  | .local _ .vmem, ⟨8, _⟩ => ⟨S1x512x1472, .f32⟩
  | .local _ .vmem, ⟨9, _⟩ => ⟨S1x512x1472, .f32⟩
  | .local _ .vmem, ⟨10, _⟩ => ⟨S1x512x1472, .f32⟩
  | .local _ .vmem, ⟨11, _⟩ => ⟨S1x512x1472, .f32⟩
  | .local _ .vmem, ⟨12, _⟩ => ⟨S1x512x1472, .f32⟩
  | .local _ .vmem, ⟨13, _⟩ => ⟨S1x512x1472, .f32⟩
  | _, _ => ⟨S2x1024x1472, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1472 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1472 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1472 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1472 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1472 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1472 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1472 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S2x1024x1472 : Shape := ⟨3, ![2, 1024, 1472]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1472, .f32⟩
  | .hbm, ⟨1, _⟩ => ⟨S2x1024x1472, .f32⟩
  | .hbm, ⟨2, _⟩ => ⟨S2x1024x1472, .f32⟩
  | .hbm, ⟨3, _⟩ => ⟨S2x1024x1472, .f32⟩
  | .hbm, ⟨4, _⟩ => ⟨S_, .f32⟩
  | .hbm, ⟨5, _⟩ => ⟨S2x1024x1472, .f32⟩
  | .hbm, ⟨6, _⟩ => ⟨S2x1024x1472, .f32⟩
  | .hbm, ⟨7, _⟩ => ⟨S_, .f32⟩
  | .hbm, ⟨8, _⟩ => ⟨S2x1024x1472, .f32⟩
  | .hbm, ⟨9, _⟩ => ⟨S2x1024x1472, .f32⟩
  | .hbm, ⟨10, _⟩ => ⟨S2x1024x1472, .f32⟩
  | .hbm, ⟨11, _⟩ => ⟨S_, .f32⟩
  | .hbm, ⟨12, _⟩ => ⟨S2x1024x1472, .f32⟩
  | .hbm, ⟨13, _⟩ => ⟨S2x1024x1472, .f32⟩
  | .hbm, ⟨14, _⟩ => ⟨S2x1024x1472, .f32⟩
  | .hbm, ⟨15, _⟩ => ⟨S_, .f32⟩
  | .hbm, ⟨16, _⟩ => ⟨S2x1024x1472, .f32⟩
  | .hbm, ⟨17, _⟩ => ⟨S2x1024x1472, .f32⟩
  | .hbm, ⟨18, _⟩ => ⟨S2x1024x1472, .f32⟩
  | .hbm, ⟨19, _⟩ => ⟨S_, .f32⟩
  | .hbm, ⟨20, _⟩ => ⟨S2x1024x1472, .f32⟩
  | .hbm, ⟨21, _⟩ => ⟨S2x1024x1472, .f32⟩
  | .hbm, ⟨22, _⟩ => ⟨S_, .f32⟩
  | .hbm, ⟨23, _⟩ => ⟨S2x1024x1472, .f32⟩
  | .hbm, ⟨24, _⟩ => ⟨S2x1024x1472, .f32⟩
  | .hbm, ⟨25, _⟩ => ⟨S2x1024x1472, .f32⟩
  | .hbm, ⟨26, _⟩ => ⟨S_, .f32⟩
  | .hbm, ⟨27, _⟩ => ⟨S2x1024x1472, .f32⟩
  | .hbm, ⟨28, _⟩ => ⟨S2x1024x1472, .f32⟩
  | .hbm, ⟨29, _⟩ => ⟨S2x1024x1472, .f32⟩
  | .hbm, ⟨30, _⟩ => ⟨S_, .f32⟩
  | .hbm, ⟨31, _⟩ => ⟨S2x1024x1472, .f32⟩
  | .hbm, ⟨32, _⟩ => ⟨S2x1024x1472, .f32⟩
  | .hbm, ⟨33, _⟩ => ⟨S2x1024x1472, .f32⟩
  | .hbm, ⟨34, _⟩ => ⟨S_, .f32⟩
  | .hbm, ⟨35, _⟩ => ⟨S2x1024x1472, .f32⟩
  | .hbm, ⟨36, _⟩ => ⟨S2x1024x1472, .f32⟩
  | _, _ => ⟨S2x1024x1472, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S2x256x256 : Shape := ⟨3, ![2, 256, 256]⟩
abbrev S1x256x256 : Shape := ⟨3, ![1, 256, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel9Ideal.lean ====
abbrev S2x256x256 : Shape := ⟨3, ![2, 256, 256]⟩
abbrev S1x256x256 : Shape := ⟨3, ![1, 256, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S2x256x256 : Shape := ⟨3, ![2, 256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S2x512x256 : Shape := ⟨3, ![2, 512, 256]⟩
abbrev S1x512x256 : Shape := ⟨3, ![1, 512, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S2x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel10Ideal.lean ====
abbrev S2x512x256 : Shape := ⟨3, ![2, 512, 256]⟩
abbrev S1x512x256 : Shape := ⟨3, ![1, 512, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S2x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S2x512x256 : Shape := ⟨3, ![2, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S_, .f32⟩
  | .hbm, ⟨5, _⟩ => ⟨S2x512x256, .f32⟩
  | .hbm, ⟨6, _⟩ => ⟨S2x512x256, .f32⟩
  | .hbm, ⟨7, _⟩ => ⟨S_, .f32⟩
  | .hbm, ⟨8, _⟩ => ⟨S2x512x256, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S_, .f32⟩
  | .hbm, ⟨23, _⟩ => ⟨S2x512x256, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel11Ideal.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference11Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S1x2x1024 : Shape := ⟨3, ![1, 2, 1024]⟩
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x2x1024, .f32⟩
  | .hbm, ⟨1, _⟩ => ⟨S1x2x1024, .f32⟩
  | .hbm, ⟨2, _⟩ => ⟨S1x2x1024, .f32⟩
  | .hbm, ⟨3, _⟩ => ⟨S1x2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .local _ .vmem, ⟨0, _⟩ => ⟨S1x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | _, _ => ⟨S1x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel12Ideal.lean ====
abbrev S1x2x1024 : Shape := ⟨3, ![1, 2, 1024]⟩
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x2x1024, .f32⟩
  | .hbm, ⟨1, _⟩ => ⟨S1x2x1024, .f32⟩
  | .hbm, ⟨2, _⟩ => ⟨S1x2x1024, .f32⟩
  | .hbm, ⟨3, _⟩ => ⟨S1x2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .local _ .vmem, ⟨0, _⟩ => ⟨S1x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | _, _ => ⟨S1x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference12Ideal.lean ====
abbrev S1x2x1024 : Shape := ⟨3, ![1, 2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x1024, .f32⟩
  | .hbm, ⟨1, _⟩ => ⟨S1x2x1024, .f32⟩
  | .hbm, ⟨2, _⟩ => ⟨S1x2x1024, .f32⟩
  | .hbm, ⟨3, _⟩ => ⟨S1x2x1024, .f32⟩
  | .hbm, ⟨4, _⟩ => ⟨S_, .f32⟩
  | .hbm, ⟨5, _⟩ => ⟨S1x2x1024, .f32⟩
  | .hbm, ⟨6, _⟩ => ⟨S1x2x1024, .f32⟩
  | .hbm, ⟨7, _⟩ => ⟨S_, .f32⟩
  | .hbm, ⟨8, _⟩ => ⟨S1x2x1024, .f32⟩
  | .hbm, ⟨9, _⟩ => ⟨S1x2x1024, .f32⟩
  | .hbm, ⟨10, _⟩ => ⟨S1x2x1024, .f32⟩
  | .hbm, ⟨11, _⟩ => ⟨S_, .f32⟩
  | .hbm, ⟨12, _⟩ => ⟨S1x2x1024, .f32⟩
  | .hbm, ⟨13, _⟩ => ⟨S1x2x1024, .f32⟩
  | .hbm, ⟨14, _⟩ => ⟨S1x2x1024, .f32⟩
  | .hbm, ⟨15, _⟩ => ⟨S_, .f32⟩
  | .hbm, ⟨16, _⟩ => ⟨S1x2x1024, .f32⟩
  | .hbm, ⟨17, _⟩ => ⟨S1x2x1024, .f32⟩
  | .hbm, ⟨18, _⟩ => ⟨S1x2x1024, .f32⟩
  | .hbm, ⟨19, _⟩ => ⟨S_, .f32⟩
  | .hbm, ⟨20, _⟩ => ⟨S1x2x1024, .f32⟩
  | .hbm, ⟨21, _⟩ => ⟨S1x2x1024, .f32⟩
  | .hbm, ⟨22, _⟩ => ⟨S_, .f32⟩
  | .hbm, ⟨23, _⟩ => ⟨S1x2x1024, .f32⟩
  | .hbm, ⟨24, _⟩ => ⟨S1x2x1024, .f32⟩
  | .hbm, ⟨25, _⟩ => ⟨S1x2x1024, .f32⟩
  | .hbm, ⟨26, _⟩ => ⟨S_, .f32⟩
  | .hbm, ⟨27, _⟩ => ⟨S1x2x1024, .f32⟩
  | .hbm, ⟨28, _⟩ => ⟨S1x2x1024, .f32⟩
  | .hbm, ⟨29, _⟩ => ⟨S1x2x1024, .f32⟩
  | .hbm, ⟨30, _⟩ => ⟨S_, .f32⟩
  | .hbm, ⟨31, _⟩ => ⟨S1x2x1024, .f32⟩
  | .hbm, ⟨32, _⟩ => ⟨S1x2x1024, .f32⟩
  | .hbm, ⟨33, _⟩ => ⟨S1x2x1024, .f32⟩
  | .hbm, ⟨34, _⟩ => ⟨S_, .f32⟩
  | .hbm, ⟨35, _⟩ => ⟨S1x2x1024, .f32⟩
  | .hbm, ⟨36, _⟩ => ⟨S1x2x1024, .f32⟩
  | _, _ => ⟨S1x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1x240x31 : Shape := ⟨3, ![1, 240, 31]⟩
abbrev S1x16x31 : Shape := ⟨3, ![1, 16, 31]⟩
abbrev S16x31 : Shape := ⟨2, ![16, 31]⟩

abbrev nBuf : Space → Nat
  | .hbm => 7
  | .vmem => 14
  | .smem => 0
  | _ => 0

abbrev bufTy : (tb : Table) → Fin (tcTables nBuf tb) → BufTy
  | .hbm, ⟨0, _⟩ => ⟨S1x240x31, .f32⟩
  | .hbm, ⟨1, _⟩ => ⟨S1x240x31, .f32⟩
  | .hbm, ⟨2, _⟩ => ⟨S1x240x31, .f32⟩
  | .hbm, ⟨3, _⟩ => ⟨S1x240x31, .f32⟩
  | .hbm, ⟨4, _⟩ => ⟨S1x240x31, .f32⟩
  | .hbm, ⟨5, _⟩ => ⟨S1x240x31, .f32⟩
  | .hbm, ⟨6, _⟩ => ⟨S1x240x31, .f32⟩
  | .local _ .vmem, ⟨0, _⟩ => ⟨S1x16x31, .f32⟩
  | .local _ .vmem, ⟨1, _⟩ => ⟨S1x16x31, .f32⟩
  | .local _ .vmem, ⟨2, _⟩ => ⟨S1x16x31, .f32⟩
  | .local _ .vmem, ⟨3, _⟩ => ⟨S1x16x31, .f32⟩
  | .local _ .vmem, ⟨4, _⟩ => ⟨S1x16x31, .f32⟩
  | .local _ .vmem, ⟨5, _⟩ => ⟨S1x16x31, .f32⟩
  | .local _ .vmem, ⟨6, _⟩ => ⟨S1x16x31, .f32⟩
  | .local _ .vmem, ⟨7, _⟩ => ⟨S1x16x31, .f32⟩
  | .local _ .vmem, ⟨8, _⟩ => ⟨S1x16x31, .f32⟩
  | .local _ .vmem, ⟨9, _⟩ => ⟨S1x16x31, .f32⟩
  | .local _ .vmem, ⟨10, _⟩ => ⟨S1x16x31, .f32⟩
  | .local _ .vmem, ⟨11, _⟩ => ⟨S1x16x31, .f32⟩
  | .local _ .vmem, ⟨12, _⟩ => ⟨S1x16x31, .f32⟩
  | .local _ .vmem, ⟨13, _⟩ => ⟨S1x16x31, .f32⟩
  | _, _ => ⟨S1x240x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 15], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x31 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x31 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x31 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x31 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x31 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x31 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x31 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel13Ideal.lean ====
abbrev S1x240x31 : Shape := ⟨3, ![1, 240, 31]⟩
abbrev S1x16x31 : Shape := ⟨3, ![1, 16, 31]⟩
abbrev S16x31 : Shape := ⟨2, ![16, 31]⟩

abbrev nBuf : Space → Nat
  | .hbm => 7
  | .vmem => 14
  | .smem => 0
  | _ => 0

abbrev bufTy : (tb : Table) → Fin (tcTables nBuf tb) → BufTy
  | .hbm, ⟨0, _⟩ => ⟨S1x240x31, .f32⟩
  | .hbm, ⟨1, _⟩ => ⟨S1x240x31, .f32⟩
  | .hbm, ⟨2, _⟩ => ⟨S1x240x31, .f32⟩
  | .hbm, ⟨3, _⟩ => ⟨S1x240x31, .f32⟩
  | .hbm, ⟨4, _⟩ => ⟨S1x240x31, .f32⟩
  | .hbm, ⟨5, _⟩ => ⟨S1x240x31, .f32⟩
  | .hbm, ⟨6, _⟩ => ⟨S1x240x31, .f32⟩
  | .local _ .vmem, ⟨0, _⟩ => ⟨S1x16x31, .f32⟩
  | .local _ .vmem, ⟨1, _⟩ => ⟨S1x16x31, .f32⟩
  | .local _ .vmem, ⟨2, _⟩ => ⟨S1x16x31, .f32⟩
  | .local _ .vmem, ⟨3, _⟩ => ⟨S1x16x31, .f32⟩
  | .local _ .vmem, ⟨4, _⟩ => ⟨S1x16x31, .f32⟩
  | .local _ .vmem, ⟨5, _⟩ => ⟨S1x16x31, .f32⟩
  | .local _ .vmem, ⟨6, _⟩ => ⟨S1x16x31, .f32⟩
  | .local _ .vmem, ⟨7, _⟩ => ⟨S1x16x31, .f32⟩
  | .local _ .vmem, ⟨8, _⟩ => ⟨S1x16x31, .f32⟩
  | .local _ .vmem, ⟨9, _⟩ => ⟨S1x16x31, .f32⟩
  | .local _ .vmem, ⟨10, _⟩ => ⟨S1x16x31, .f32⟩
  | .local _ .vmem, ⟨11, _⟩ => ⟨S1x16x31, .f32⟩
  | .local _ .vmem, ⟨12, _⟩ => ⟨S1x16x31, .f32⟩
  | .local _ .vmem, ⟨13, _⟩ => ⟨S1x16x31, .f32⟩
  | _, _ => ⟨S1x240x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 15], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x31 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x31 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x31 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x31 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x31 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x31 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x31 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S1x240x31 : Shape := ⟨3, ![1, 240, 31]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x240x31, .f32⟩
  | .hbm, ⟨1, _⟩ => ⟨S1x240x31, .f32⟩
  | .hbm, ⟨2, _⟩ => ⟨S1x240x31, .f32⟩
  | .hbm, ⟨3, _⟩ => ⟨S1x240x31, .f32⟩
  | .hbm, ⟨4, _⟩ => ⟨S_, .f32⟩
  | .hbm, ⟨5, _⟩ => ⟨S1x240x31, .f32⟩
  | .hbm, ⟨6, _⟩ => ⟨S1x240x31, .f32⟩
  | .hbm, ⟨7, _⟩ => ⟨S_, .f32⟩
  | .hbm, ⟨8, _⟩ => ⟨S1x240x31, .f32⟩
  | .hbm, ⟨9, _⟩ => ⟨S1x240x31, .f32⟩
  | .hbm, ⟨10, _⟩ => ⟨S1x240x31, .f32⟩
  | .hbm, ⟨11, _⟩ => ⟨S_, .f32⟩
  | .hbm, ⟨12, _⟩ => ⟨S1x240x31, .f32⟩
  | .hbm, ⟨13, _⟩ => ⟨S1x240x31, .f32⟩
  | .hbm, ⟨14, _⟩ => ⟨S1x240x31, .f32⟩
  | .hbm, ⟨15, _⟩ => ⟨S_, .f32⟩
  | .hbm, ⟨16, _⟩ => ⟨S1x240x31, .f32⟩
  | .hbm, ⟨17, _⟩ => ⟨S1x240x31, .f32⟩
  | .hbm, ⟨18, _⟩ => ⟨S1x240x31, .f32⟩
  | .hbm, ⟨19, _⟩ => ⟨S_, .f32⟩
  | .hbm, ⟨20, _⟩ => ⟨S1x240x31, .f32⟩
  | .hbm, ⟨21, _⟩ => ⟨S1x240x31, .f32⟩
  | .hbm, ⟨22, _⟩ => ⟨S_, .f32⟩
  | .hbm, ⟨23, _⟩ => ⟨S1x240x31, .f32⟩
  | .hbm, ⟨24, _⟩ => ⟨S1x240x31, .f32⟩
  | .hbm, ⟨25, _⟩ => ⟨S1x240x31, .f32⟩
  | .hbm, ⟨26, _⟩ => ⟨S_, .f32⟩
  | .hbm, ⟨27, _⟩ => ⟨S1x240x31, .f32⟩
  | .hbm, ⟨28, _⟩ => ⟨S1x240x31, .f32⟩
  | .hbm, ⟨29, _⟩ => ⟨S1x240x31, .f32⟩
  | .hbm, ⟨30, _⟩ => ⟨S_, .f32⟩
  | .hbm, ⟨31, _⟩ => ⟨S1x240x31, .f32⟩
  | .hbm, ⟨32, _⟩ => ⟨S1x240x31, .f32⟩
  | .hbm, ⟨33, _⟩ => ⟨S1x240x31, .f32⟩
  | .hbm, ⟨34, _⟩ => ⟨S_, .f32⟩
  | .hbm, ⟨35, _⟩ => ⟨S1x240x31, .f32⟩
  | .hbm, ⟨36, _⟩ => ⟨S1x240x31, .f32⟩
  | _, _ => ⟨S1x240x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S1x1x1024 : Shape := ⟨3, ![1, 1, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | _, _ => ⟨S1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference14Ideal.lean ====
abbrev S1x1x1024 : Shape := ⟨3, ![1, 1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S_, .f32⟩
  | .hbm, ⟨5, _⟩ => ⟨S1x1x1024, .f32⟩
  | .hbm, ⟨6, _⟩ => ⟨S1x1x1024, .f32⟩
  | .hbm, ⟨7, _⟩ => ⟨S_, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S_, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S_, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S_, .f32⟩
  | .hbm, ⟨20, _⟩ => ⟨S1x1x1024, .f32⟩
  | .hbm, ⟨21, _⟩ => ⟨S1x1x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S1x1x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S1x1x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S1x1x1024, .f32⟩
  | .hbm, ⟨34, _⟩ => ⟨S_, .f32⟩
  | .hbm, ⟨35, _⟩ => ⟨S1x1x1024, .f32⟩
  | .hbm, ⟨36, _⟩ => ⟨S1x1x1024, .f32⟩
  | _, _ => ⟨S1x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4096x1024 : Shape := ⟨2, ![4096, 1024]⟩
abbrev S1024 : Shape := ⟨1, ![1024]⟩
abbrev S2x2048x1024 : Shape := ⟨3, ![2, 2048, 1024]⟩
abbrev S1x1024 : Shape := ⟨2, ![1, 1024]⟩
abbrev S1x128 : Shape := ⟨2, ![1, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x2048x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S4096x1024 : Shape := ⟨2, ![4096, 1024]⟩
abbrev S1024 : Shape := ⟨1, ![1024]⟩
abbrev S2x2048x1024 : Shape := ⟨3, ![2, 2048, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x2048x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .bf16⟩
  | .hbm, ⟨73, _⟩ => ⟨S1x1024, .f32⟩
  | .hbm, ⟨74, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel16.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference16Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel17.lean ====
abbrev S4096x5888 : Shape := ⟨2, ![4096, 5888]⟩
abbrev S2x2048x5888 : Shape := ⟨3, ![2, 2048, 5888]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2x60x2048x64 : Shape := ⟨4, ![2, 60, 2048, 64]⟩
abbrev S1x2048x128 : Shape := ⟨3, ![1, 2048, 128]⟩
abbrev S1x2x2048x64 : Shape := ⟨4, ![1, 2, 2048, 64]⟩
abbrev S2048x64 : Shape := ⟨2, ![2048, 64]⟩
abbrev S1x1x2048x64 : Shape := ⟨4, ![1, 1, 2048, 64]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 26
  | .vmem => 6
  | .smem => 0
  | _ => 0

abbrev bufTy : (tb : Table) → Fin (tcTables nBuf tb) → BufTy
  | .hbm, ⟨0, _⟩ => ⟨S4096x5888, .f32⟩
  | .hbm, ⟨1, _⟩ => ⟨S2x2048x5888, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S2048, .i32⟩
  | .hbm, ⟨11, _⟩ => ⟨S2048, .f32⟩
  | .hbm, ⟨12, _⟩ => ⟨S2048x1, .f32⟩
  | .hbm, ⟨13, _⟩ => ⟨S1x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S1x2048x1x32, .f32⟩
  | .hbm, ⟨20, _⟩ => ⟨S1x2048x4x32, .f32⟩
  | .hbm, ⟨21, _⟩ => ⟨S2048x128, .f32⟩
  | .hbm, ⟨22, _⟩ => ⟨S2048x32, .f32⟩
  | .hbm, ⟨23, _⟩ => ⟨S2048x32, .f32⟩
  | .hbm, ⟨24, _⟩ => ⟨S2048x128, .f32⟩
  | .hbm, ⟨25, _⟩ => ⟨S2x60x2048x64, .bf16⟩
  | .local _ .vmem, ⟨0, _⟩ => ⟨S1x2048x128, .f32⟩
  | .local _ .vmem, ⟨1, _⟩ => ⟨S1x2048x128, .f32⟩
  | .local _ .vmem, ⟨2, _⟩ => ⟨S2048x128, .f32⟩
  | .local _ .vmem, ⟨3, _⟩ => ⟨S2048x128, .f32⟩
  | .local _ .vmem, ⟨4, _⟩ => ⟨S1x2x2048x64, .bf16⟩
  | .local _ .vmem, ⟨5, _⟩ => ⟨S1x2x2048x64, .bf16⟩
  | _, _ => ⟨S4096x5888, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 30], ![false, false]⟩

def k0_cond1 (i : grid0.Coords) : BitVec 1 :=
  let arg1 : BitVec 32 := BitVec.ofNat 32 (i 1).val
  let c18_i32_1 : BitVec 32 := 18#32
  let v8 : BitVec 1 := Scalar.cmpi .slt arg1 c18_i32_1
  let c6_i32_2 : BitVec 32 := 6#32
  let c0_i32_3 : BitVec 32 := 0#32
  let v9 : BitVec 1 := Scalar.cmpi .eq c6_i32_2 c0_i32_3
  let c1_i32 : BitVec 32 := 1#32
  let v10 : BitVec 32 := Scalar.select v9 c1_i32 c6_i32_2
  let v11 : BitVec 32 := Scalar.remsi arg1 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_7 : BitVec 32 := 0#32
  let v20 : BitVec 1 := Scalar.cmpi .sgt v18 c0_i32_7
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c2_i32 : BitVec 32 := 2#32
  let c0_i32_9 : BitVec 32 := 0#32
  let v25 : BitVec 1 := Scalar.cmpi .sgt c2_i32 c0_i32_9
  let v26 : BitVec 32 := Scalar.extui v25
  let c0_i32_10 : BitVec 32 := 0#32
  let v27 : BitVec 1 := Scalar.cmpi .slt c2_i32 c0_i32_10
  let v28 : BitVec 32 := Scalar.extui v27
  let v29 : BitVec 32 := Scalar.subi v26 v28
  let v30 : BitVec 1 := Scalar.cmpi .ne v24 v29
  let v31 : BitVec 32 := Scalar.remsi v18 c2_i32
  let c0_i32_11 : BitVec 32 := 0#32
  let v32 : BitVec 1 := Scalar.cmpi .ne v31 c0_i32_11
  let v33 : BitVec 1 := Scalar.andi v30 v32
  let v19 : BitVec 32 := Scalar.divsi v18 c2_i32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let v37 : BitVec 1 := Scalar.andi v8 v36
  let v_true : BitVec 1 := 1#1
  let v38 : BitVec 1 := Scalar.xori v8 v_true
  let v39 : BitVec 1 := Scalar.ori v37 v38
  let c12_i32 : BitVec 32 := 12#32
  let v46 : BitVec 1 := Scalar.cmpi .slt arg1 c12_i32
  let v47 : BitVec 1 := Scalar.andi v39 v46
  let v48 : BitVec 32 := Scalar.extui v47
  let c0_i32_17 : BitVec 32 := 0#32
  let v49 : BitVec 1 := Scalar.cmpi .ne v48 c0_i32_17
  v49

def k0_cond2 (i : grid0.Coords) : BitVec 1 :=
  let arg1 : BitVec 32 := BitVec.ofNat 32 (i 1).val
  let c18_i32_1 : BitVec 32 := 18#32
  let v8 : BitVec 1 := Scalar.cmpi .slt arg1 c18_i32_1
  let c6_i32_2 : BitVec 32 := 6#32
  let c0_i32_3 : BitVec 32 := 0#32
  let v9 : BitVec 1 := Scalar.cmpi .eq c6_i32_2 c0_i32_3
  let c1_i32 : BitVec 32 := 1#32
  let v10 : BitVec 32 := Scalar.select v9 c1_i32 c6_i32_2
  let v11 : BitVec 32 := Scalar.remsi arg1 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_7 : BitVec 32 := 0#32
  let v20 : BitVec 1 := Scalar.cmpi .sgt v18 c0_i32_7
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c2_i32 : BitVec 32 := 2#32
  let c0_i32_9 : BitVec 32 := 0#32
  let v25 : BitVec 1 := Scalar.cmpi .sgt c2_i32 c0_i32_9
  let v26 : BitVec 32 := Scalar.extui v25
  let c0_i32_10 : BitVec 32 := 0#32
  let v27 : BitVec 1 := Scalar.cmpi .slt c2_i32 c0_i32_10
  let v28 : BitVec 32 := Scalar.extui v27
  let v29 : BitVec 32 := Scalar.subi v26 v28
  let v30 : BitVec 1 := Scalar.cmpi .ne v24 v29
  let v31 : BitVec 32 := Scalar.remsi v18 c2_i32
  let c0_i32_11 : BitVec 32 := 0#32
  let v32 : BitVec 1 := Scalar.cmpi .ne v31 c0_i32_11
  let v33 : BitVec 1 := Scalar.andi v30 v32
  let v19 : BitVec 32 := Scalar.divsi v18 c2_i32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let v37 : BitVec 1 := Scalar.andi v8 v36
  let v_true : BitVec 1 := 1#1
  let v38 : BitVec 1 := Scalar.xori v8 v_true
  let v39 : BitVec 1 := Scalar.ori v37 v38
  let c12_i32_18 : BitVec 32 := 12#32
  let v50 : BitVec 1 := Scalar.cmpi .sge arg1 c12_i32_18
  let v51 : BitVec 1 := Scalar.andi v39 v50
  let v52 : BitVec 32 := Scalar.extui v51
  let c0_i32_19 : BitVec 32 := 0#32
  let v53 : BitVec 1 := Scalar.cmpi .ne v52 c0_i32_19
  v53

def k0_cond3 (i : grid0.Coords) : BitVec 1 :=
  let arg1 : BitVec 32 := BitVec.ofNat 32 (i 1).val
  let c18_i32_1 : BitVec 32 := 18#32
  let v8 : BitVec 1 := Scalar.cmpi .slt arg1 c18_i32_1
  let c6_i32_2 : BitVec 32 := 6#32
  let c0_i32_3 : BitVec 32 := 0#32
  let v9 : BitVec 1 := Scalar.cmpi .eq c6_i32_2 c0_i32_3
  let c1_i32 : BitVec 32 := 1#32
  let v10 : BitVec 32 := Scalar.select v9 c1_i32 c6_i32_2
  let v11 : BitVec 32 := Scalar.remsi arg1 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_7 : BitVec 32 := 0#32
  let v20 : BitVec 1 := Scalar.cmpi .sgt v18 c0_i32_7
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c2_i32 : BitVec 32 := 2#32
  let c0_i32_9 : BitVec 32 := 0#32
  let v25 : BitVec 1 := Scalar.cmpi .sgt c2_i32 c0_i32_9
  let v26 : BitVec 32 := Scalar.extui v25
  let c0_i32_10 : BitVec 32 := 0#32
  let v27 : BitVec 1 := Scalar.cmpi .slt c2_i32 c0_i32_10
  let v28 : BitVec 32 := Scalar.extui v27
  let v29 : BitVec 32 := Scalar.subi v26 v28
  let v30 : BitVec 1 := Scalar.cmpi .ne v24 v29
  let v31 : BitVec 32 := Scalar.remsi v18 c2_i32
  let c0_i32_11 : BitVec 32 := 0#32
  let v32 : BitVec 1 := Scalar.cmpi .ne v31 c0_i32_11
  let v33 : BitVec 1 := Scalar.andi v30 v32
  let v19 : BitVec 32 := Scalar.divsi v18 c2_i32
  let c1_i32_12 : BitVec 32 := 1#32
  let v34 : BitVec 32 := Scalar.subi v19 c1_i32_12
  let v35 : BitVec 32 := Scalar.select v33 v34 v19
  let c1_i32_14 : BitVec 32 := 1#32
  let v40 : BitVec 1 := Scalar.cmpi .eq v35 c1_i32_14
  let v41 : BitVec 1 := Scalar.andi v8 v40
  let v_false : BitVec 1 := 0#1
  let v42 : BitVec 1 := Scalar.ori v41 v_false
  let c12_i32_20 : BitVec 32 := 12#32
  let v54 : BitVec 1 := Scalar.cmpi .slt arg1 c12_i32_20
  let v55 : BitVec 1 := Scalar.andi v42 v54
  let v56 : BitVec 32 := Scalar.extui v55
  let c0_i32_21 : BitVec 32 := 0#32
  let v57 : BitVec 1 := Scalar.cmpi .ne v56 c0_i32_21
  v57

def k0_cond4 (i : grid0.Coords) : BitVec 1 :=
  let arg1 : BitVec 32 := BitVec.ofNat 32 (i 1).val
  let c18_i32_1 : BitVec 32 := 18#32
  let v8 : BitVec 1 := Scalar.cmpi .slt arg1 c18_i32_1
  let c6_i32_2 : BitVec 32 := 6#32
  let c0_i32_3 : BitVec 32 := 0#32
  let v9 : BitVec 1 := Scalar.cmpi .eq c6_i32_2 c0_i32_3
  let c1_i32 : BitVec 32 := 1#32
  let v10 : BitVec 32 := Scalar.select v9 c1_i32 c6_i32_2
  let v11 : BitVec 32 := Scalar.remsi arg1 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_7 : BitVec 32 := 0#32
  let v20 : BitVec 1 := Scalar.cmpi .sgt v18 c0_i32_7
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c2_i32 : BitVec 32 := 2#32
  let c0_i32_9 : BitVec 32 := 0#32
  let v25 : BitVec 1 := Scalar.cmpi .sgt c2_i32 c0_i32_9
  let v26 : BitVec 32 := Scalar.extui v25
  let c0_i32_10 : BitVec 32 := 0#32
  let v27 : BitVec 1 := Scalar.cmpi .slt c2_i32 c0_i32_10
  let v28 : BitVec 32 := Scalar.extui v27
  let v29 : BitVec 32 := Scalar.subi v26 v28
  let v30 : BitVec 1 := Scalar.cmpi .ne v24 v29
  let v31 : BitVec 32 := Scalar.remsi v18 c2_i32
  let c0_i32_11 : BitVec 32 := 0#32
  let v32 : BitVec 1 := Scalar.cmpi .ne v31 c0_i32_11
  let v33 : BitVec 1 := Scalar.andi v30 v32
  let v19 : BitVec 32 := Scalar.divsi v18 c2_i32
  let c1_i32_12 : BitVec 32 := 1#32
  let v34 : BitVec 32 := Scalar.subi v19 c1_i32_12
  let v35 : BitVec 32 := Scalar.select v33 v34 v19
  let c1_i32_14 : BitVec 32 := 1#32
  let v40 : BitVec 1 := Scalar.cmpi .eq v35 c1_i32_14
  let v41 : BitVec 1 := Scalar.andi v8 v40
  let v_false : BitVec 1 := 0#1
  let v42 : BitVec 1 := Scalar.ori v41 v_false
  let c12_i32_22 : BitVec 32 := 12#32
  let v58 : BitVec 1 := Scalar.cmpi .sge arg1 c12_i32_22
  let v59 : BitVec 1 := Scalar.andi v42 v58
  let v60 : BitVec 32 := Scalar.extui v59
  let c0_i32_23 : BitVec 32 := 0#32
  let v61 : BitVec 1 := Scalar.cmpi .ne v60 c0_i32_23
  v61

def k0_cond5 (i : grid0.Coords) : BitVec 1 :=
  let arg1 : BitVec 32 := BitVec.ofNat 32 (i 1).val
  let c18_i32_1 : BitVec 32 := 18#32
  let v8 : BitVec 1 := Scalar.cmpi .slt arg1 c18_i32_1
  let c6_i32_2 : BitVec 32 := 6#32
  let c0_i32_3 : BitVec 32 := 0#32
  let v9 : BitVec 1 := Scalar.cmpi .eq c6_i32_2 c0_i32_3
  let c1_i32 : BitVec 32 := 1#32
  let v10 : BitVec 32 := Scalar.select v9 c1_i32 c6_i32_2
  let v11 : BitVec 32 := Scalar.remsi arg1 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_7 : BitVec 32 := 0#32
  let v20 : BitVec 1 := Scalar.cmpi .sgt v18 c0_i32_7
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c2_i32 : BitVec 32 := 2#32
  let c0_i32_9 : BitVec 32 := 0#32
  let v25 : BitVec 1 := Scalar.cmpi .sgt c2_i32 c0_i32_9
  let v26 : BitVec 32 := Scalar.extui v25
  let c0_i32_10 : BitVec 32 := 0#32
  let v27 : BitVec 1 := Scalar.cmpi .slt c2_i32 c0_i32_10
  let v28 : BitVec 32 := Scalar.extui v27
  let v29 : BitVec 32 := Scalar.subi v26 v28
  let v30 : BitVec 1 := Scalar.cmpi .ne v24 v29
  let v31 : BitVec 32 := Scalar.remsi v18 c2_i32
  let c0_i32_11 : BitVec 32 := 0#32
  let v32 : BitVec 1 := Scalar.cmpi .ne v31 c0_i32_11
  let v33 : BitVec 1 := Scalar.andi v30 v32
  let v19 : BitVec 32 := Scalar.divsi v18 c2_i32
  let c1_i32_12 : BitVec 32 := 1#32
  let v34 : BitVec 32 := Scalar.subi v19 c1_i32_12
  let v35 : BitVec 32 := Scalar.select v33 v34 v19
  let c2_i32_15 : BitVec 32 := 2#32
  let v43 : BitVec 1 := Scalar.cmpi .eq v35 c2_i32_15
  let v44 : BitVec 1 := Scalar.andi v8 v43
  let false_16 : BitVec 1 := 0#1
  let v45 : BitVec 1 := Scalar.ori v44 false_16
  let c12_i32_24 : BitVec 32 := 12#32
  let v62 : BitVec 1 := Scalar.cmpi .slt arg1 c12_i32_24
  let v63 : BitVec 1 := Scalar.andi v45 v62
  let v64 : BitVec 32 := Scalar.extui v63
  let c0_i32_25 : BitVec 32 := 0#32
  let v65 : BitVec 1 := Scalar.cmpi .ne v64 c0_i32_25
  v65

def k0_cond6 (i : grid0.Coords) : BitVec 1 :=
  let arg1 : BitVec 32 := BitVec.ofNat 32 (i 1).val
  let c18_i32_1 : BitVec 32 := 18#32
  let v8 : BitVec 1 := Scalar.cmpi .slt arg1 c18_i32_1
  let c6_i32_2 : BitVec 32 := 6#32
  let c0_i32_3 : BitVec 32 := 0#32
  let v9 : BitVec 1 := Scalar.cmpi .eq c6_i32_2 c0_i32_3
  let c1_i32 : BitVec 32 := 1#32
  let v10 : BitVec 32 := Scalar.select v9 c1_i32 c6_i32_2
  let v11 : BitVec 32 := Scalar.remsi arg1 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_7 : BitVec 32 := 0#32
  let v20 : BitVec 1 := Scalar.cmpi .sgt v18 c0_i32_7
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c2_i32 : BitVec 32 := 2#32
  let c0_i32_9 : BitVec 32 := 0#32
  let v25 : BitVec 1 := Scalar.cmpi .sgt c2_i32 c0_i32_9
  let v26 : BitVec 32 := Scalar.extui v25
  let c0_i32_10 : BitVec 32 := 0#32
  let v27 : BitVec 1 := Scalar.cmpi .slt c2_i32 c0_i32_10
  let v28 : BitVec 32 := Scalar.extui v27
  let v29 : BitVec 32 := Scalar.subi v26 v28
  let v30 : BitVec 1 := Scalar.cmpi .ne v24 v29
  let v31 : BitVec 32 := Scalar.remsi v18 c2_i32
  let c0_i32_11 : BitVec 32 := 0#32
  let v32 : BitVec 1 := Scalar.cmpi .ne v31 c0_i32_11
  let v33 : BitVec 1 := Scalar.andi v30 v32
  let v19 : BitVec 32 := Scalar.divsi v18 c2_i32
  let c1_i32_12 : BitVec 32 := 1#32
  let v34 : BitVec 32 := Scalar.subi v19 c1_i32_12
  let v35 : BitVec 32 := Scalar.select v33 v34 v19
  let c2_i32_15 : BitVec 32 := 2#32
  let v43 : BitVec 1 := Scalar.cmpi .eq v35 c2_i32_15
  let v44 : BitVec 1 := Scalar.andi v8 v43
  let false_16 : BitVec 1 := 0#1
  let v45 : BitVec 1 := Scalar.ori v44 false_16
  let c12_i32_26 : BitVec 32 := 12#32
  let v66 : BitVec 1 := Scalar.cmpi .sge arg1 c12_i32_26
  let v67 : BitVec 1 := Scalar.andi v45 v66
  let v68 : BitVec 32 := Scalar.extui v67
  let c0_i32_27 : BitVec 32 := 0#32
  let v69 : BitVec 1 := Scalar.cmpi .ne v68 c0_i32_27
  v69

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference17Ideal.lean ====
abbrev S4096x5888 : Shape := ⟨2, ![4096, 5888]⟩
abbrev S2048 : Shape := ⟨1, ![2048]⟩
abbrev S4096x2304 : Shape := ⟨2, ![4096, 2304]⟩
abbrev S2x2048x36x64 : Shape := ⟨4, ![2, 2048, 36, 64]⟩
abbrev S2x36x2048x64 : Shape := ⟨4, ![2, 36, 2048, 64]⟩
abbrev S2x12x2048x64 : Shape := ⟨4, ![2, 12, 2048, 64]⟩
abbrev S4096x1536 : Shape := ⟨2, ![4096, 1536]⟩
abbrev S2x2048x24x64 : Shape := ⟨4, ![2, 2048, 24, 64]⟩
abbrev S2x24x2048x64 : Shape := ⟨4, ![2, 24, 2048, 64]⟩
abbrev S2x8x2048x64 : Shape := ⟨4, ![2, 8, 2048, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2x12x2048x32 : Shape := ⟨4, ![2, 12, 2048, 32]⟩
abbrev S1x1x2048x32 : Shape := ⟨4, ![1, 1, 2048, 32]⟩
abbrev S2x4x2048x64 : Shape := ⟨4, ![2, 4, 2048, 64]⟩
abbrev S2x4x2048x1x64 : Shape := ⟨5, ![2, 4, 2048, 1, 64]⟩
abbrev S2x4x1x2048x64 : Shape := ⟨5, ![2, 4, 1, 2048, 64]⟩
abbrev S2x4x512x4x64 : Shape := ⟨5, ![2, 4, 512, 4, 64]⟩
abbrev S2x4x4x512x64 : Shape := ⟨5, ![2, 4, 4, 512, 64]⟩
abbrev S2x4x128x16x64 : Shape := ⟨5, ![2, 4, 128, 16, 64]⟩
abbrev S2x4x16x128x64 : Shape := ⟨5, ![2, 4, 16, 128, 64]⟩
abbrev S2x60x2048x64 : Shape := ⟨4, ![2, 60, 2048, 64]⟩

abbrev nBuf : Space → Nat
  | .hbm => 124
  | .vmem => 0
  | .smem => 0
  | _ => 0

abbrev bufTy : (tb : Table) → Fin (tcTables nBuf tb) → BufTy
  | .hbm, ⟨0, _⟩ => ⟨S4096x5888, .f32⟩
  | .hbm, ⟨1, _⟩ => ⟨S2048, .i32⟩
  | .hbm, ⟨2, _⟩ => ⟨S4096x2304, .f32⟩
  | .hbm, ⟨3, _⟩ => ⟨S2x2048x36x64, .f32⟩
  | .hbm, ⟨4, _⟩ => ⟨S2x36x2048x64, .f32⟩
  | .hbm, ⟨5, _⟩ => ⟨S2x12x2048x64, .f32⟩
  | .hbm, ⟨6, _⟩ => ⟨S2x12x2048x64, .f32⟩
  | .hbm, ⟨7, _⟩ => ⟨S2x12x2048x64, .f32⟩
  | .hbm, ⟨8, _⟩ => ⟨S4096x1536, .f32⟩
  | .hbm, ⟨9, _⟩ => ⟨S2x2048x24x64, .f32⟩
  | .hbm, ⟨10, _⟩ => ⟨S2x24x2048x64, .f32⟩
  | .hbm, ⟨11, _⟩ => ⟨S2x8x2048x64, .f32⟩
  | .hbm, ⟨12, _⟩ => ⟨S2x8x2048x64, .f32⟩
  | .hbm, ⟨13, _⟩ => ⟨S2x8x2048x64, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048, .f32⟩
  | .hbm, ⟨23, _⟩ => ⟨S2048x1, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2x12x2048x32, .f32⟩
  | .hbm, ⟨31, _⟩ => ⟨S2x12x2048x32, .f32⟩
  | .hbm, ⟨32, _⟩ => ⟨S1x1x2048x32, .f32⟩
  | .hbm, ⟨33, _⟩ => ⟨S2x12x2048x32, .f32⟩
  | .hbm, ⟨34, _⟩ => ⟨S2x12x2048x32, .f32⟩
  | .hbm, ⟨35, _⟩ => ⟨S1x1x2048x32, .f32⟩
  | .hbm, ⟨36, _⟩ => ⟨S2x12x2048x32, .f32⟩
  | .hbm, ⟨37, _⟩ => ⟨S2x12x2048x32, .f32⟩
  | .hbm, ⟨38, _⟩ => ⟨S2x12x2048x32, .f32⟩
  | .hbm, ⟨39, _⟩ => ⟨S1x1x2048x32, .f32⟩
  | .hbm, ⟨40, _⟩ => ⟨S2x12x2048x32, .f32⟩
  | .hbm, ⟨41, _⟩ => ⟨S2x12x2048x32, .f32⟩
  | .hbm, ⟨42, _⟩ => ⟨S1x1x2048x32, .f32⟩
  | .hbm, ⟨43, _⟩ => ⟨S2x12x2048x32, .f32⟩
  | .hbm, ⟨44, _⟩ => ⟨S2x12x2048x32, .f32⟩
  | .hbm, ⟨45, _⟩ => ⟨S2x12x2048x32, .f32⟩
  | .hbm, ⟨46, _⟩ => ⟨S2x12x2048x64, .f32⟩
  | .hbm, ⟨47, _⟩ => ⟨S_, .f32⟩
  | .hbm, ⟨48, _⟩ => ⟨S2x12x2048x64, .f32⟩
  | .hbm, ⟨49, _⟩ => ⟨S2x12x2048x64, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S2048, .f32⟩
  | .hbm, ⟨59, _⟩ => ⟨S2048x1, .f32⟩
  | .hbm, ⟨60, _⟩ => ⟨S1x32, .f32⟩
  | .hbm, ⟨61, _⟩ => ⟨S2048x32, .f32⟩
  | .hbm, ⟨62, _⟩ => ⟨S2048x32, .f32⟩
  | .hbm, ⟨63, _⟩ => ⟨S2048x32, .f32⟩
  | .hbm, ⟨64, _⟩ => ⟨S2048x32, .f32⟩
  | .hbm, ⟨65, _⟩ => ⟨S2048x32, .f32⟩
  | .hbm, ⟨66, _⟩ => ⟨S2x12x2048x32, .f32⟩
  | .hbm, ⟨67, _⟩ => ⟨S2x12x2048x32, .f32⟩
  | .hbm, ⟨68, _⟩ => ⟨S1x1x2048x32, .f32⟩
  | .hbm, ⟨69, _⟩ => ⟨S2x12x2048x32, .f32⟩
  | .hbm, ⟨70, _⟩ => ⟨S2x12x2048x32, .f32⟩
  | .hbm, ⟨71, _⟩ => ⟨S1x1x2048x32, .f32⟩
  | .hbm, ⟨72, _⟩ => ⟨S2x12x2048x32, .f32⟩
  | .hbm, ⟨73, _⟩ => ⟨S2x12x2048x32, .f32⟩
  | .hbm, ⟨74, _⟩ => ⟨S2x12x2048x32, .f32⟩
  | .hbm, ⟨75, _⟩ => ⟨S1x1x2048x32, .f32⟩
  | .hbm, ⟨76, _⟩ => ⟨S2x12x2048x32, .f32⟩
  | .hbm, ⟨77, _⟩ => ⟨S2x12x2048x32, .f32⟩
  | .hbm, ⟨78, _⟩ => ⟨S1x1x2048x32, .f32⟩
  | .hbm, ⟨79, _⟩ => ⟨S2x12x2048x32, .f32⟩
  | .hbm, ⟨80, _⟩ => ⟨S2x12x2048x32, .f32⟩
  | .hbm, ⟨81, _⟩ => ⟨S2x12x2048x32, .f32⟩
  | .hbm, ⟨82, _⟩ => ⟨S2x12x2048x64, .f32⟩
  | .hbm, ⟨83, _⟩ => ⟨S2x4x2048x64, .f32⟩
  | .hbm, ⟨84, _⟩ => ⟨S2x4x2048x1x64, .f32⟩
  | .hbm, ⟨85, _⟩ => ⟨S2x4x1x2048x64, .f32⟩
  | .hbm, ⟨86, _⟩ => ⟨S2x4x2048x64, .f32⟩
  | .hbm, ⟨87, _⟩ => ⟨S2x4x2048x64, .f32⟩
  | .hbm, ⟨88, _⟩ => ⟨S2x4x512x4x64, .f32⟩
  | .hbm, ⟨89, _⟩ => ⟨S2x4x4x512x64, .f32⟩
  | .hbm, ⟨90, _⟩ => ⟨S2x4x2048x64, .f32⟩
  | .hbm, ⟨91, _⟩ => ⟨S2x4x2048x64, .f32⟩
  | .hbm, ⟨92, _⟩ => ⟨S2x4x128x16x64, .f32⟩
  | .hbm, ⟨93, _⟩ => ⟨S2x4x16x128x64, .f32⟩
  | .hbm, ⟨94, _⟩ => ⟨S2x4x2048x64, .f32⟩
  | .hbm, ⟨95, _⟩ => ⟨S2x4x2048x64, .f32⟩
  | .hbm, ⟨96, _⟩ => ⟨S2x4x2048x1x64, .f32⟩
  | .hbm, ⟨97, _⟩ => ⟨S2x4x1x2048x64, .f32⟩
  | .hbm, ⟨98, _⟩ => ⟨S2x4x2048x64, .f32⟩
  | .hbm, ⟨99, _⟩ => ⟨S2x4x2048x64, .f32⟩
  | .hbm, ⟨100, _⟩ => ⟨S2x4x512x4x64, .f32⟩
  | .hbm, ⟨101, _⟩ => ⟨S2x4x4x512x64, .f32⟩
  | .hbm, ⟨102, _⟩ => ⟨S2x4x2048x64, .f32⟩
  | .hbm, ⟨103, _⟩ => ⟨S2x4x2048x64, .f32⟩
  | .hbm, ⟨104, _⟩ => ⟨S2x4x128x16x64, .f32⟩
  | .hbm, ⟨105, _⟩ => ⟨S2x4x16x128x64, .f32⟩
  | .hbm, ⟨106, _⟩ => ⟨S2x4x2048x64, .f32⟩
  | .hbm, ⟨107, _⟩ => ⟨S2x4x2048x64, .f32⟩
  | .hbm, ⟨108, _⟩ => ⟨S2x4x2048x1x64, .f32⟩
  | .hbm, ⟨109, _⟩ => ⟨S2x4x1x2048x64, .f32⟩
  | .hbm, ⟨110, _⟩ => ⟨S2x4x2048x64, .f32⟩
  | .hbm, ⟨111, _⟩ => ⟨S2x4x2048x64, .f32⟩
  | .hbm, ⟨112, _⟩ => ⟨S2x4x512x4x64, .f32⟩
  | .hbm, ⟨113, _⟩ => ⟨S2x4x4x512x64, .f32⟩
  | .hbm, ⟨114, _⟩ => ⟨S2x4x2048x64, .f32⟩
  | .hbm, ⟨115, _⟩ => ⟨S2x4x2048x64, .f32⟩
  | .hbm, ⟨116, _⟩ => ⟨S2x4x128x16x64, .f32⟩
  | .hbm, ⟨117, _⟩ => ⟨S2x4x16x128x64, .f32⟩
  | .hbm, ⟨118, _⟩ => ⟨S2x4x2048x64, .f32⟩
  | .hbm, ⟨119, _⟩ => ⟨S_, .f32⟩
  | .hbm, ⟨120, _⟩ => ⟨S2x8x2048x64, .f32⟩
  | .hbm, ⟨121, _⟩ => ⟨S2x8x2048x64, .f32⟩
  | .hbm, ⟨122, _⟩ => ⟨S2x60x2048x64, .f32⟩
  | .hbm, ⟨123, _⟩ => ⟨S2x60x2048x64, .bf16⟩
  | _, _ => ⟨S4096x5888, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_cst : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_cst_1 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_cst_2 : Ref sig .tc := ⟨.hbm, 52, rfl⟩
abbrev main_v48 : Ref sig .tc := ⟨.hbm, 53, rfl⟩
abbrev main_v49 : Ref sig .tc := ⟨.hbm, 54, rfl⟩
abbrev main_cst_3 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_cst_4 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩

abbrev nD : Nat := 1
abbrev τ : Topo := Topo.v7x

variable {F : FTy → Type} [FloatOps F]
-- ==== Proof.Ends.lean ====
module
public import proofs.«01_k».proof.Proof.Gen.KernelIdeal.Frame

/-! The run of the kernel's program, with what its result arrays hold at the end: the contents at the last boundary of
    the program's items. The launch is set up as the frame's is; what is read off the last state is more. -/

@[expose] public section

set_option maxRecDepth 16384

noncomputable section

namespace Cert.KernelIdeal.Ends

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair run ends with the result arrays at the last boundary's contents and the arguments as launched. -/
theorem ends : θ_run defs (onTc (τ := τ) (main (F := F))) ⟨m, fun _ => 0, ρ⟩ (fun r => ∀ c : Dev nD,
      r.2.mem ((c.tc : Thread nD τ).loc main_v18) = W15 m ρ c (Proc.devRef .tc main_v18)
      ∧ r.2.mem ((c.tc : Thread nD τ).loc main_v19) = W15 m ρ c (Proc.devRef .tc main_v19)
      ∧ r.2.mem ((c.tc : Thread nD τ).loc main_v20) = W15 m ρ c (Proc.devRef .tc main_v20)
      ∧ r.2.mem ((c.tc : Thread nD τ).loc main_v12) = W15 m ρ c (Proc.devRef .tc main_v12)
      ∧ r.2.mem ((c.tc : Thread nD τ).loc main_v9) = W15 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ c =>
      ⟨h c _ (mem_uc main_v18 (by decide)),
       h c _ (mem_uc main_v19 (by decide)),
       h c _ (mem_uc main_v20 (by decide)),
       h c _ (mem_uc main_v12 (by decide)),
       h c _ (mem_uc main_v9 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c)⟩)

end Cert.KernelIdeal.Ends

end
-- ==== Proof.Spec.lean ====
/- The half step over the real numbers: what every array of the kernel and of the reference holds when the
   arguments are finite.  The first part names the arrays the kernel writes, call by call; the second names the
   derivative as reverse-mode differentiation of the plain formula writes it; the third proves the two equal. -/
module

public import Mathlib.Analysis.SpecialFunctions.Exp
public import Mathlib.Analysis.SpecialFunctions.Pow.Real
public import Mathlib.Algebra.BigOperators.Fin

@[expose] public section

noncomputable section

namespace Cert.Half

open Finset

/-- A matrix of real numbers. -/
abbrev Mat (m n : ℕ) := Fin m → Fin n → ℝ

/-- The constant added to the mean square: the number that the float word of `1e-6` stands for. -/
def eps : ℝ := 8796093 / 2 ^ 43

theorem eps_pos : 0 < eps := by unfold eps; norm_num

/-- The logistic function. -/
def sig (z : ℝ) : ℝ := (1 + Real.exp (-z))⁻¹

theorem one_add_exp_pos (z : ℝ) : 0 < 1 + Real.exp (-z) := by positivity

/-- The mean square of row `r`, plus `eps`. -/
def msq {m : ℕ} (X : Mat m 1024) (r : Fin m) : ℝ := (∑ j, X r j * X r j) * (1 / 1024) + eps

theorem msq_pos {m : ℕ} (X : Mat m 1024) (r : Fin m) : 0 < msq X r := by
  unfold msq
  have : 0 ≤ ∑ j, X r j * X r j := sum_nonneg fun j _ => mul_self_nonneg _
  have := eps_pos
  positivity

/-- The reciprocal root of the mean square of row `r`. -/
def rstd {m : ℕ} (X : Mat m 1024) (r : Fin m) : ℝ := (Real.sqrt (msq X r))⁻¹

theorem rstd_sq {m : ℕ} (X : Mat m 1024) (r : Fin m) : rstd X r * rstd X r = (msq X r)⁻¹ := by
  unfold rstd
  rw [← mul_inv, Real.mul_self_sqrt (msq_pos X r).le]

/-- The product of two matrices, the left one plain, the right one plain. -/
def nn {m k n : ℕ} (A : Mat m k) (B : Mat k n) : Mat m n := fun i j => ∑ l, A i l * B l j

/-- The product of a matrix with a transposed one. -/
def nt {m k n : ℕ} (A : Mat m k) (B : Mat n k) : Mat m n := fun i j => ∑ l, A i l * B j l

/-- The product of a transposed matrix with a plain one. -/
def tn {m k n : ℕ} (A : Mat k m) (B : Mat k n) : Mat m n := fun i j => ∑ l, A l i * B l j

/-- The left half of the columns of a matrix with 5632 columns. -/
def left {m : ℕ} (U : Mat m 5632) : Mat m 2816 := fun i f => U i ⟨f.val, by omega⟩

/-- The right half of the columns. -/
def right {m : ℕ} (U : Mat m 5632) : Mat m 2816 := fun i f => U i ⟨2816 + f.val, by omega⟩

/-- A column of the left half as a column of the whole. -/
def wide (f : Fin 2816) : Fin 5632 := ⟨f.val, by omega⟩

/-- Two matrices side by side. -/
def beside {m : ℕ} (A B : Mat m 2816) : Mat m 5632 := fun k f =>
  if h : f.val < 2816 then A k ⟨f.val, h⟩ else B k ⟨f.val - 2816, by omega⟩

theorem beside_left {m : ℕ} (A B : Mat m 2816) (k : Fin m) (f : Fin 2816) :
    beside A B k ⟨f.val, by omega⟩ = A k f := dif_pos f.isLt

theorem beside_right {m : ℕ} (A B : Mat m 2816) (k : Fin m) (f : Fin 2816) :
    beside A B k ⟨2816 + f.val, by omega⟩ = B k f := by
  have hn : ¬ 2816 + f.val < 2816 := by omega
  unfold beside
  rw [dif_neg hn]
  exact congrArg (B k) (Fin.ext (Nat.add_sub_cancel_left 2816 f.val))

/-! ## The arrays the kernel writes -/

/-- The normalised rows. -/
def xhat {m : ℕ} (X : Mat m 1024) : Mat m 1024 := fun r j => X r j * rstd X r

/-- The normalised rows times the gain. -/
def hid {m : ℕ} (X : Mat m 1024) (g : Fin 1024 → ℝ) : Mat m 1024 := fun r j => X r j * rstd X r * g j

/-- `silu gate · up`. -/
def act {m n : ℕ} (G U : Mat m n) : Mat m n := fun r f => G r f * sig (G r f) * U r f

/-- The derivative with respect to the activation, halved. -/
def dact {m n k : ℕ} (Y : Mat m k) (D : Mat n k) : Mat m n := fun r f => nt Y D r f * (1 / 2)

/-- The derivative with respect to the gate. -/
def dgate {m n : ℕ} (G U DA : Mat m n) : Mat m n :=
  fun r f => DA r f * U r f * (sig (G r f) * (1 + G r f * (1 - sig (G r f))))

/-- The derivative with respect to the other factor. -/
def dup {m n : ℕ} (G DA : Mat m n) : Mat m n := fun r f => DA r f * (G r f * sig (G r f))

/-- The derivative with respect to the rows that were normalised, with the residual branch added. -/
def dnorm {m : ℕ} (X dH Y : Mat m 1024) (g : Fin 1024 → ℝ) : Mat m 1024 := fun r j =>
  Y r j + rstd X r * (dH r j * g j - xhat X r j * ((∑ k, dH r k * g k * xhat X r k) * (1 / 1024)))

/-- The derivative with respect to the gain. -/
def dgain {m : ℕ} (X dH : Mat m 1024) : Fin 1024 → ℝ := fun j => ∑ r, dH r j * xhat X r j

/-! ## The derivative as reverse-mode differentiation writes it -/

/-- The derivative with respect to the gate: the product rule on `z · sig z`. -/
def dgate' {m n : ℕ} (G U DA : Mat m n) : Mat m n := fun r f =>
  DA r f * U r f * sig (G r f) + G r f * (DA r f * U r f) * (sig (G r f) * (1 - sig (G r f)))

/-- The derivative of the normalisation: through the row's scale, and through the mean square. -/
def dnorm' {m : ℕ} (X dH Y : Mat m 1024) (g : Fin 1024 → ℝ) : Mat m 1024 := fun r j =>
  Y r j + dH r j * g j * rstd X r
    + X r j * ((∑ k, X r k * (dH r k * g k)) * (-(1 / 2) * (rstd X r * (msq X r)⁻¹)) * (1 / 1024))
    + ((∑ k, X r k * (dH r k * g k)) * (-(1 / 2) * (rstd X r * (msq X r)⁻¹)) * (1 / 1024)) * X r j

theorem dgate_eq {m n : ℕ} (G U DA : Mat m n) : dgate G U DA = dgate' G U DA := by
  funext r f; unfold dgate dgate'; ring

theorem dnorm_eq {m : ℕ} (X dH Y : Mat m 1024) (g : Fin 1024 → ℝ) : dnorm X dH Y g = dnorm' X dH Y g := by
  funext r j
  unfold dnorm dnorm' xhat
  have h : ∑ k, dH r k * g k * (X r k * rstd X r) = (∑ k, X r k * (dH r k * g k)) * rstd X r := by
    rw [sum_mul]; exact sum_congr rfl fun k _ => by ring
  rw [h, ← rstd_sq]; ring

/-- Halving the cotangent first, or the product afterwards. -/
theorem dact_eq {m n k : ℕ} (Y : Mat m k) (D : Mat n k) :
    dact Y D = nt (fun r j => 1 / 2 * Y r j) D := by
  funext r f; unfold dact nt
  rw [sum_mul]; exact sum_congr rfl fun l _ => by ring

/-- A sum over 5632 columns is the sum over its two halves. -/
theorem sum_halves (F : Fin 5632 → ℝ) :
    ∑ f, F f = ∑ f : Fin 2816, F ⟨f.val, by omega⟩ + ∑ f : Fin 2816, F ⟨2816 + f.val, by omega⟩ := by
  exact Fin.sum_univ_add (a := 2816) (b := 2816) F

/-! ## The whole half step -/

/-- The arguments: the rows, the gain, the two weights, and the cotangent of the result. -/
structure Args where
  X : Mat 4096 1024
  g : Fin 1024 → ℝ
  U : Mat 1024 5632
  D : Mat 2816 1024
  Y : Mat 4096 1024

namespace Args

variable (a : Args)

def H : Mat 4096 1024 := hid a.X a.g
def G : Mat 4096 2816 := nn a.H (left a.U)
def P : Mat 4096 2816 := nn a.H (right a.U)
def A : Mat 4096 2816 := act a.G a.P
/-- The result of the half step. -/
def out : Mat 4096 1024 := fun r j => nn a.A a.D r j * (1 / 2) + a.X r j
/-- The gradient of the second weight. -/
def dWdown : Mat 2816 1024 := fun f j => tn a.A a.Y f j * (1 / 2)
def DA : Mat 4096 2816 := dact a.Y a.D
def DG : Mat 4096 2816 := dgate a.G a.P a.DA
def DP : Mat 4096 2816 := dup a.G a.DA
/-- The gradient of the first weight, its two column halves. -/
def dWgate : Mat 1024 2816 := tn a.H a.DG
def dWup : Mat 1024 2816 := tn a.H a.DP
def dH1 : Mat 4096 1024 := nt a.DG (left a.U)
def dH : Mat 4096 1024 := fun r j => nt a.DP (right a.U) r j + a.dH1 r j
/-- The gradient of the rows. -/
def dX : Mat 4096 1024 := dnorm a.X a.dH a.Y a.g
/-- The gradient of the gain. -/
def dg : Fin 1024 → ℝ := dgain a.X a.dH

/-- The gradient of the first weight, whole. -/
def dWin : Mat 1024 5632 := beside a.dWgate a.dWup

end Args

end Cert.Half

end
-- ==== Proof.Reals.lean ====
/- Real numbers inside the extended reals: how a sum, a quotient, a reciprocal root and the programs' constants read
   when every operand is a real number. -/
module

public import Idealize.ShloMosaic.PureOps.Ideal
public import Idealize.ShloMosaic.Lib.IdealHost
public import Idealize.ShloMosaic.Lib.Pointwise.Index
public import proofs.«01_k».proof.Proof.Spec

@[expose] public section

noncomputable section

namespace Cert.Half

open Idealize.ShloMosaic

/-- A finite sum of real numbers, taken in the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The same, term by term. -/
theorem sum_coe {ι : Type} [Fintype ι] (F : ι → EReal) (f : ι → ℝ) (h : ∀ k, F k = ((f k : ℝ) : EReal)) :
    ∑ k, F k = ((∑ k, f k : ℝ) : EReal) := by
  rw [← coe_sum]; exact Finset.sum_congr rfl fun k _ => h k

theorem half_f32 : Ideal.ofBits .f32 0x3F000000#32 = ((1 / 2 : ℝ) : EReal) := by
  simp [Ideal.ofBits, Ideal.ieee, -EReal.coe_mul]; norm_num

theorem neg_half_f32 : Ideal.ofBits .f32 0xBF000000#32 = ((-(1 / 2) : ℝ) : EReal) := by
  simp [Ideal.ofBits, Ideal.ieee, -EReal.coe_mul, -EReal.coe_neg]; norm_num

theorem n1024_f32 : Ideal.ofBits .f32 0x44800000#32 = ((1024 : ℝ) : EReal) := by
  simp [Ideal.ofBits, Ideal.ieee, -EReal.coe_mul]; norm_num

theorem eps_f32 : Ideal.ofBits .f32 0x358637BD#32 = ((eps : ℝ) : EReal) := by
  simp [Ideal.ofBits, Ideal.ieee, -EReal.coe_mul, eps]; norm_num

/-- Dividing by the row length. -/
theorem div_n1024 (x : EReal) : Ideal.div x ((1024 : ℝ) : EReal) = x * ((1 / 1024 : ℝ) : EReal) :=
  Ideal.div_coe (by norm_num) x

/-- The reciprocal root of a positive number. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

theorem rsqrt_msq {m : ℕ} (X : Mat m 1024) (r : Fin m) : Ideal.rsqrt ((msq X r : ℝ) : EReal) = ((rstd X r : ℝ) : EReal) :=
  rsqrt_pos (msq_pos X r)

/-- Every element of a matrix of extended reals is the real number named. -/
def Is {m n : ℕ} (v : (⟨2, ![m, n]⟩ : Shape).Idx → EReal) (A : Mat m n) : Prop :=
  ∀ i j, v (ix2 i j) = ((A i j : ℝ) : EReal)

/-- An index of a matrix is the pair of its row and its column. -/
theorem at_pair {m n : ℕ} {k : (⟨2, ![m, n]⟩ : Shape).Idx} {i : Fin m} {j : Fin n} (hi : (k 0).val = i.val)
    (hj : (k 1).val = j.val) : k = ix2 i j := by
  rw [eq_ix2 k]
  exact congrArg₂ ix2 (Fin.ext hi) (Fin.ext hj)

theorem logistic_real (z : ℝ) : Ideal.logistic (z : EReal) = ((sig z : ℝ) : EReal) := Ideal.logistic_coe z

end Cert.Half

end
-- ==== Proof.Region.Norm.lean ====
module
public import proofs.«01_k».proof.Proof.Gen.KernelIdeal.Frame.Region0
public import proofs.«01_k».proof.Proof.Reals
public import Idealize.ShloMosaic.Lib.Pipeline.ValueKit
public import Idealize.ShloMosaic.Lib.Pointwise

/-! What the first call leaves: the rows scaled to unit mean square, times the gain. -/

@[expose] public section

noncomputable section

namespace Cert.KernelIdeal.Norm

open Idealize.ShloMosaic Idealize.ShloMosaic.TcCoe Idealize.ShloMosaic.Tactic
open Idealize.SL.Sem
open Idealize.ShloMosaic.Pipeline (Dat Cfg Window)
open Cert.Half

/-- One block: each row over the root of its mean square, times the gain. -/
theorem pay (x : Vec Ideal S1024x1024 .f32) (g : Vec Ideal S1x1024 .f32) (X : Mat 1024 1024) (b : Fin 1024 → ℝ)
    (hx : Is x X) (hg : Is g (fun _ => b)) : Is (Gen.k0_pay1 x g) (hid X b) := by
  intro i j
  unfold_payloads
  pointwise
  simp only [hx _ _, hg _ _, n1024_f32, eps_f32, div_n1024, ← EReal.coe_mul, coe_sum, ← EReal.coe_add]
  rw [← msq, rsqrt_msq, ← EReal.coe_mul, ← EReal.coe_mul]
  rfl

variable (V : (c : Dev nD) → (b : Ref sig .tc) → Buf (Elt Ideal) ((c : Thread nD τ).loc b))

theorem idx : ∀ t : Fin grid0.N, (win0_0.index t 0 = t.val ∧ win0_0.index t 1 = 0) ∧
    (win0_1.index t 0 = 0 ∧ win0_1.index t 1 = 0) ∧ (win0_2.index t 0 = t.val ∧ win0_2.index t 1 = 0) := by
  decide +kernel

theorem lt4 (t : Fin cfg0.N) : t.val < 4 := t.isLt.trans_eq (by decide +kernel)

/-- Block `t` of the rows: rows `1024 t` to `1024 t + 1023`. -/
theorem blk0 (c : Dev nD) (X : Mat 4096 1024) (hX : Is (V c main_v0) X) (t : Fin cfg0.N) :
    Is (Gen.iblk0 V c 0 t) (fun (i : Fin 1024) j => X ⟨t.val * 1024 + i.val, by have := lt4 t; omega⟩ j) := by
  intro i j
  have h := (idx t).1
  blk_simp [Gen.iblk0]
  refine (congrArg (V c main_v0) (at_pair ?_ ?_)).trans (hX _ _) <;> blk_simp <;> simp only [h.1, h.2] <;> omega

/-- The block of the gain is the gain. -/
theorem blk1 (c : Dev nD) (b : Fin 1024 → ℝ) (hb : Is (V c main_v2) (fun _ : Fin 1 => b)) (t : Fin cfg0.N) :
    Is (Gen.iblk0 V c 1 t) (fun _ : Fin 1 => b) := by
  intro i j
  have h := (idx t).2.1
  blk_simp [Gen.iblk0]
  refine (congrArg (V c main_v2) (at_pair (i := i) ?_ ?_)).trans (hb _ _) <;> blk_simp <;> simp only [h.1, h.2] <;> omega

/-- The array after the call. -/
theorem arr (c : Dev nD) (X : Mat 4096 1024) (b : Fin 1024 → ℝ) (hX : Is (V c main_v0) X)
    (hb : Is (V c main_v2) (fun _ : Fin 1 => b)) : Is ((Gen.dat0 V c).arrAt 2 cfg0.N) (hid X b) := by
  intro r f
  refine (Gen.dat0 V c).arrAt_forall_of_covers 2 (fun i v => v = ((hid X b (i 0) (i 1) : ℝ) : EReal))
    (by decide +kernel) (fun t hf y => ?_) (ix2 r f)
  blk_simp
  rw [Gen.after0_2]
  frame_out
  obtain ⟨p, q, rfl⟩ : ∃ (p : Fin 1024) (q : Fin 1024), y = ix2 p q := ⟨y 0, y 1, eq_ix2 y⟩
  refine (pay _ _ _ _ (blk0 V c X hX t) (blk1 V c b hb t) p q).trans ?_
  have e : ((View.whole main_v5).slice (win0_2.rect t)).emb (ix2 p q)
      = ix2 (⟨t.val * 1024 + p.val, by have := lt4 t; omega⟩ : Fin 4096) q := by
    have h := (idx t).2.2
    refine at_pair ?_ ?_ <;> blk_simp <;> simp only [h.1, h.2] <;> omega
  rw [e]
  rfl

end Cert.KernelIdeal.Norm
end
-- ==== Proof.Region.Up.lean ====
module
public import proofs.«01_k».proof.Proof.Gen.KernelIdeal.Frame.Region1
public import proofs.«01_k».proof.Proof.Reals
public import Idealize.ShloMosaic.Lib.Pipeline.ValueKit
public import Idealize.ShloMosaic.Lib.Pointwise

/-! What the second call leaves: the gate, the other factor, and `silu gate · up`. -/

@[expose] public section

noncomputable section

namespace Cert.KernelIdeal.Up

open Idealize.ShloMosaic Idealize.ShloMosaic.TcCoe Idealize.ShloMosaic.Tactic
open Idealize.SL.Sem
open Idealize.ShloMosaic.Pipeline (Dat Cfg Window)
open Cert.Half

/-- One block of the activation. -/
theorem payAct (x : Vec Ideal S4096x1024 .bf16) (w1 w2 : Vec Ideal S1024x256 .bf16) (H : Mat 4096 1024)
    (A B : Mat 1024 256) (hx : Is x H) (h1 : Is w1 A) (h2 : Is w2 B) :
    Is (Gen.k1_pay4 x w1 w2) (act (nn H A) (nn H B)) := by
  intro i j
  unfold_payloads
  pointwise
  simp only [hx _ _, h1 _ _, h2 _ _, ← EReal.coe_mul, coe_sum, logistic_real]
  rfl

/-- One block of the gate. -/
theorem payGate (x : Vec Ideal S4096x1024 .bf16) (w : Vec Ideal S1024x256 .bf16) (H : Mat 4096 1024)
    (A : Mat 1024 256) (hx : Is x H) (h1 : Is w A) : Is (Gen.k1_pay5 x w) (nn H A) := by
  intro i j
  unfold_payloads
  pointwise
  simp only [hx _ _, h1 _ _, ← EReal.coe_mul, coe_sum]
  rfl

/-- One block of the other factor. -/
theorem payUp (x : Vec Ideal S4096x1024 .bf16) (w : Vec Ideal S1024x256 .bf16) (H : Mat 4096 1024)
    (A : Mat 1024 256) (hx : Is x H) (h1 : Is w A) : Is (Gen.k1_pay6 x w) (nn H A) := by
  intro i j
  unfold_payloads
  pointwise
  simp only [hx _ _, h1 _ _, ← EReal.coe_mul, coe_sum]
  rfl

variable (V : (c : Dev nD) → (b : Ref sig .tc) → Buf (Elt Ideal) ((c : Thread nD τ).loc b))

theorem idx : ∀ t : Fin grid1.N, (win1_0.index t 0 = 0 ∧ win1_0.index t 1 = 0) ∧
    (win1_1.index t 0 = 0 ∧ win1_1.index t 1 = t.val) ∧ (win1_2.index t 0 = 0 ∧ win1_2.index t 1 = t.val + 11) ∧
    (win1_3.index t 0 = 0 ∧ win1_3.index t 1 = t.val) ∧ (win1_4.index t 0 = 0 ∧ win1_4.index t 1 = t.val) ∧
    (win1_5.index t 0 = 0 ∧ win1_5.index t 1 = t.val) := by
  decide +kernel

theorem lt11 (t : Fin cfg1.N) : t.val < 11 := t.isLt.trans_eq (by decide +kernel)

/-- The column of the array that column `q` of block `t` is. -/
def col (t : Fin cfg1.N) (q : Fin 256) : Fin 2816 := ⟨t.val * 256 + q.val, by have := lt11 t; omega⟩

/-- The block of the rows is all of them. -/
theorem blk0 (c : Dev nD) (H : Mat 4096 1024) (hH : Is (V c main_v5) H) (t : Fin cfg1.N) :
    Is (Gen.iblk1 V c 0 t) H := by
  intro i j
  have h := (idx t).1
  blk_simp [Gen.iblk1]
  refine (congrArg (V c main_v5) (at_pair ?_ ?_)).trans (hH _ _) <;> blk_simp <;> simp only [h.1, h.2] <;> omega

/-- Block `t` of the weight's left half. -/
theorem blk1 (c : Dev nD) (U : Mat 1024 5632) (hU : Is (V c main_v3) U) (t : Fin cfg1.N) :
    Is (Gen.iblk1 V c 1 t) (fun i j => left U i (col t j)) := by
  intro i j
  have h := (idx t).2.1
  blk_simp [Gen.iblk1]
  refine (congrArg (V c main_v3) (at_pair ?_ ?_)).trans (hU _ _) <;> blk_simp <;> simp only [h.1, h.2, col] <;> omega

/-- Block `t` of the weight's right half. -/
theorem blk2 (c : Dev nD) (U : Mat 1024 5632) (hU : Is (V c main_v3) U) (t : Fin cfg1.N) :
    Is (Gen.iblk1 V c 2 t) (fun i j => right U i (col t j)) := by
  intro i j
  have h := (idx t).2.2.1
  blk_simp [Gen.iblk1]
  refine (congrArg (V c main_v3) (at_pair ?_ ?_)).trans (hU _ _) <;> blk_simp <;> simp only [h.1, h.2, col] <;> omega

/-- The activation after the call. -/
theorem arrAct (c : Dev nD) (H : Mat 4096 1024) (U : Mat 1024 5632) (hH : Is (V c main_v5) H) (hU : Is (V c main_v3) U) :
    Is ((Gen.dat1 V c).arrAt 3 cfg1.N) (act (nn H (left U)) (nn H (right U))) := by
  intro r f
  refine (Gen.dat1 V c).arrAt_forall_of_covers 3
    (fun i v => v = ((act (nn H (left U)) (nn H (right U)) (i 0) (i 1) : ℝ) : EReal)) (by decide +kernel)
    (fun t hf y => ?_) (ix2 r f)
  blk_simp
  rw [Gen.after1_3]
  frame_out
  obtain ⟨p, q, rfl⟩ : ∃ (p : Fin 4096) (q : Fin 256), y = ix2 p q := ⟨y 0, y 1, eq_ix2 y⟩
  refine (payAct _ _ _ _ _ _ (blk0 V c H hH t) (blk1 V c U hU t) (blk2 V c U hU t) p q).trans ?_
  have e : ((View.whole main_v6_0).slice (win1_3.rect t)).emb (ix2 p q) = ix2 p (col t q) := by
    have h := (idx t).2.2.2.1
    refine at_pair ?_ ?_ <;> blk_simp <;> simp only [h.1, h.2, col] <;> omega
  rw [e]
  rfl

/-- The gate after the call. -/
theorem arrGate (c : Dev nD) (H : Mat 4096 1024) (U : Mat 1024 5632) (hH : Is (V c main_v5) H) (hU : Is (V c main_v3) U) :
    Is ((Gen.dat1 V c).arrAt 4 cfg1.N) (nn H (left U)) := by
  intro r f
  refine (Gen.dat1 V c).arrAt_forall_of_covers 4 (fun i v => v = ((nn H (left U) (i 0) (i 1) : ℝ) : EReal))
    (by decide +kernel) (fun t hf y => ?_) (ix2 r f)
  blk_simp
  rw [Gen.after1_4]
  frame_out
  obtain ⟨p, q, rfl⟩ : ∃ (p : Fin 4096) (q : Fin 256), y = ix2 p q := ⟨y 0, y 1, eq_ix2 y⟩
  refine (payGate _ _ _ _ (blk0 V c H hH t) (blk1 V c U hU t) p q).trans ?_
  have e : ((View.whole main_v6_1).slice (win1_4.rect t)).emb (ix2 p q) = ix2 p (col t q) := by
    have h := (idx t).2.2.2.2.1
    refine at_pair ?_ ?_ <;> blk_simp <;> simp only [h.1, h.2, col] <;> omega
  rw [e]
  rfl

/-- The other factor after the call. -/
theorem arrUp (c : Dev nD) (H : Mat 4096 1024) (U : Mat 1024 5632) (hH : Is (V c main_v5) H) (hU : Is (V c main_v3) U) :
    Is ((Gen.dat1 V c).arrAt 5 cfg1.N) (nn H (right U)) := by
  intro r f
  refine (Gen.dat1 V c).arrAt_forall_of_covers 5 (fun i v => v = ((nn H (right U) (i 0) (i 1) : ℝ) : EReal))
    (by decide +kernel) (fun t hf y => ?_) (ix2 r f)
  blk_simp
  rw [Gen.after1_5]
  frame_out
  obtain ⟨p, q, rfl⟩ : ∃ (p : Fin 4096) (q : Fin 256), y = ix2 p q := ⟨y 0, y 1, eq_ix2 y⟩
  refine (payUp _ _ _ _ (blk0 V c H hH t) (blk2 V c U hU t) p q).trans ?_
  have e : ((View.whole main_v6_2).slice (win1_5.rect t)).emb (ix2 p q) = ix2 p (col t q) := by
    have h := (idx t).2.2.2.2.2
    refine at_pair ?_ ?_ <;> blk_simp <;> simp only [h.1, h.2, col] <;> omega
  rw [e]
  rfl

end Cert.KernelIdeal.Up
end
-- ==== Proof.Region.Down.lean ====
module
public import proofs.«01_k».proof.Proof.Gen.KernelIdeal.Frame.Region2
public import proofs.«01_k».proof.Proof.Reals
public import Idealize.ShloMosaic.Lib.Pipeline.ValueKit
public import Idealize.ShloMosaic.Lib.Pointwise

/-! What the third call leaves: half the product with the second weight, plus the rows the half step began with. -/

@[expose] public section

noncomputable section

namespace Cert.KernelIdeal.Down

open Idealize.ShloMosaic Idealize.ShloMosaic.TcCoe Idealize.ShloMosaic.Tactic
open Idealize.SL.Sem
open Idealize.ShloMosaic.Pipeline (Dat Cfg Window)
open Cert.Half

/-- One block. -/
theorem pay (a : Vec Ideal S512x2816 .bf16) (w : Vec Ideal S2816x1024 .bf16) (x : Vec Ideal S512x1024 .f32)
    (A : Mat 512 2816) (D : Mat 2816 1024) (X : Mat 512 1024) (ha : Is a A) (hw : Is w D) (hx : Is x X) :
    Is (Gen.k2_pay1 a w x) (fun r j => nn A D r j * (1 / 2) + X r j) := by
  intro i j
  unfold_payloads
  pointwise
  simp only [ha _ _, hw _ _, hx _ _, half_f32, ← EReal.coe_mul, coe_sum, ← EReal.coe_add]
  rfl

variable (V : (c : Dev nD) → (b : Ref sig .tc) → Buf (Elt Ideal) ((c : Thread nD τ).loc b))

theorem idx : ∀ t : Fin grid2.N, (win2_0.index t 0 = t.val ∧ win2_0.index t 1 = 0) ∧
    (win2_1.index t 0 = 0 ∧ win2_1.index t 1 = 0) ∧ (win2_2.index t 0 = t.val ∧ win2_2.index t 1 = 0) ∧
    (win2_3.index t 0 = t.val ∧ win2_3.index t 1 = 0) := by
  decide +kernel

theorem lt8 (t : Fin cfg2.N) : t.val < 8 := t.isLt.trans_eq (by decide +kernel)

/-- The row of the array that row `p` of block `t` is. -/
def row (t : Fin cfg2.N) (p : Fin 512) : Fin 4096 := ⟨t.val * 512 + p.val, by have := lt8 t; omega⟩

theorem blk0 (c : Dev nD) (A : Mat 4096 2816) (hA : Is (V c main_v6_0) A) (t : Fin cfg2.N) :
    Is (Gen.iblk2 V c 0 t) (fun i j => A (row t i) j) := by
  intro i j
  have h := (idx t).1
  blk_simp [Gen.iblk2]
  refine (congrArg (V c main_v6_0) (at_pair ?_ ?_)).trans (hA _ _) <;> blk_simp <;> simp only [h.1, h.2, row] <;> omega

theorem blk1 (c : Dev nD) (D : Mat 2816 1024) (hD : Is (V c main_v4) D) (t : Fin cfg2.N) :
    Is (Gen.iblk2 V c 1 t) D := by
  intro i j
  have h := (idx t).2.1
  blk_simp [Gen.iblk2]
  refine (congrArg (V c main_v4) (at_pair ?_ ?_)).trans (hD _ _) <;> blk_simp <;> simp only [h.1, h.2] <;> omega

theorem blk2 (c : Dev nD) (X : Mat 4096 1024) (hX : Is (V c main_v0) X) (t : Fin cfg2.N) :
    Is (Gen.iblk2 V c 2 t) (fun i j => X (row t i) j) := by
  intro i j
  have h := (idx t).2.2.1
  blk_simp [Gen.iblk2]
  refine (congrArg (V c main_v0) (at_pair ?_ ?_)).trans (hX _ _) <;> blk_simp <;> simp only [h.1, h.2, row] <;> omega

/-- The array after the call. -/
theorem arr (c : Dev nD) (A : Mat 4096 2816) (D : Mat 2816 1024) (X : Mat 4096 1024) (hA : Is (V c main_v6_0) A)
    (hD : Is (V c main_v4) D) (hX : Is (V c main_v0) X) :
    Is ((Gen.dat2 V c).arrAt 3 cfg2.N) (fun r j => nn A D r j * (1 / 2) + X r j) := by
  intro r f
  refine (Gen.dat2 V c).arrAt_forall_of_covers 3
    (fun i v => v = ((nn A D (i 0) (i 1) * (1 / 2) + X (i 0) (i 1) : ℝ) : EReal)) (by decide +kernel)
    (fun t hf y => ?_) (ix2 r f)
  blk_simp
  rw [Gen.after2_3]
  frame_out
  obtain ⟨p, q, rfl⟩ : ∃ (p : Fin 512) (q : Fin 1024), y = ix2 p q := ⟨y 0, y 1, eq_ix2 y⟩
  refine (pay _ _ _ _ _ _ (blk0 V c A hA t) (blk1 V c D hD t) (blk2 V c X hX t) p q).trans ?_
  have e : ((View.whole main_v7).slice (win2_3.rect t)).emb (ix2 p q) = ix2 (row t p) q := by
    have h := (idx t).2.2.2
    refine at_pair ?_ ?_ <;> blk_simp <;> simp only [h.1, h.2, row] <;> omega
  rw [e]
  rfl

end Cert.KernelIdeal.Down
end
-- ==== Proof.Region.DDown.lean ====
module
public import proofs.«01_k».proof.Proof.Gen.KernelIdeal.Frame.Region3
public import proofs.«01_k».proof.Proof.Reals
public import Idealize.ShloMosaic.Lib.Pipeline.ValueKit
public import Idealize.ShloMosaic.Lib.Pointwise

/-! The gradient of the second weight: half the product of the transposed activation with the cotangent. -/

@[expose] public section

noncomputable section

namespace Cert.KernelIdeal.DDown

open Idealize.ShloMosaic Idealize.ShloMosaic.TcCoe Idealize.ShloMosaic.Tactic
open Idealize.SL.Sem
open Idealize.ShloMosaic.Pipeline (Dat Cfg Window)
open Cert.Half

/-- One block. -/
theorem pay (a : Vec Ideal S4096x1408 .bf16) (y : Vec Ideal S4096x1024 .bf16) (A : Mat 4096 1408) (Y : Mat 4096 1024)
    (ha : Is a A) (hy : Is y Y) : Is (Gen.k3_pay1 a y) (fun f j => tn A Y f j * (1 / 2)) := by
  intro i j
  unfold_payloads
  pointwise
  simp only [ha _ _, hy _ _, half_f32, ← EReal.coe_mul, coe_sum]
  rfl

variable (V : (c : Dev nD) → (b : Ref sig .tc) → Buf (Elt Ideal) ((c : Thread nD τ).loc b))

theorem idx : ∀ t : Fin grid3.N, (win3_0.index t 0 = 0 ∧ win3_0.index t 1 = t.val) ∧
    (win3_1.index t 0 = 0 ∧ win3_1.index t 1 = 0) ∧ (win3_2.index t 0 = t.val ∧ win3_2.index t 1 = 0) := by
  decide +kernel

theorem lt2 (t : Fin cfg3.N) : t.val < 2 := t.isLt.trans_eq (by decide +kernel)

/-- The column of the activation that column `p` of block `t` is. -/
def col (t : Fin cfg3.N) (p : Fin 1408) : Fin 2816 := ⟨t.val * 1408 + p.val, by have := lt2 t; omega⟩

theorem blk0 (c : Dev nD) (A : Mat 4096 2816) (hA : Is (V c main_v6_0) A) (t : Fin cfg3.N) :
    Is (Gen.iblk3 V c 0 t) (fun i j => A i (col t j)) := by
  intro i j
  have h := (idx t).1
  blk_simp [Gen.iblk3]
  refine (congrArg (V c main_v6_0) (at_pair ?_ ?_)).trans (hA _ _) <;> blk_simp <;> simp only [h.1, h.2, col] <;> omega

theorem blk1 (c : Dev nD) (Y : Mat 4096 1024) (hY : Is (V c main_v8) Y) (t : Fin cfg3.N) :
    Is (Gen.iblk3 V c 1 t) Y := by
  intro i j
  have h := (idx t).2.1
  blk_simp [Gen.iblk3]
  refine (congrArg (V c main_v8) (at_pair ?_ ?_)).trans (hY _ _) <;> blk_simp <;> simp only [h.1, h.2] <;> omega

/-- The array after the call. -/
theorem arr (c : Dev nD) (A : Mat 4096 2816) (Y : Mat 4096 1024) (hA : Is (V c main_v6_0) A) (hY : Is (V c main_v8) Y) :
    Is ((Gen.dat3 V c).arrAt 2 cfg3.N) (fun f j => tn A Y f j * (1 / 2)) := by
  intro r f
  refine (Gen.dat3 V c).arrAt_forall_of_covers 2 (fun i v => v = ((tn A Y (i 0) (i 1) * (1 / 2) : ℝ) : EReal))
    (by decide +kernel) (fun t hf y => ?_) (ix2 r f)
  blk_simp
  rw [Gen.after3_2]
  frame_out
  obtain ⟨p, q, rfl⟩ : ∃ (p : Fin 1408) (q : Fin 1024), y = ix2 p q := ⟨y 0, y 1, eq_ix2 y⟩
  refine (pay _ _ _ _ (blk0 V c A hA t) (blk1 V c Y hY t) p q).trans ?_
  have e : ((View.whole main_v9).slice (win3_2.rect t)).emb (ix2 p q) = ix2 (col t p) q := by
    have h := (idx t).2.2
    refine at_pair ?_ ?_ <;> blk_simp <;> simp only [h.1, h.2, col] <;> omega
  rw [e]
  rfl

end Cert.KernelIdeal.DDown
end
-- ==== Proof.Region.DAct.lean ====
module
public import proofs.«01_k».proof.Proof.Gen.KernelIdeal.Frame.Region4
public import proofs.«01_k».proof.Proof.Reals
public import Idealize.ShloMosaic.Lib.Pipeline.ValueKit
public import Idealize.ShloMosaic.Lib.Pointwise

/-! The gradients of the gate and of the other factor. -/

@[expose] public section

noncomputable section

namespace Cert.KernelIdeal.DAct

open Idealize.ShloMosaic Idealize.ShloMosaic.TcCoe Idealize.ShloMosaic.Tactic
open Idealize.SL.Sem
open Idealize.ShloMosaic.Pipeline (Dat Cfg Window)
open Cert.Half

/-- One block of the gate's gradient. -/
theorem payGate (y : Vec Ideal S4096x1024 .bf16) (w : Vec Ideal S256x1024 .bf16) (g u : Vec Ideal S4096x256 .bf16)
    (Y : Mat 4096 1024) (D : Mat 256 1024) (G U : Mat 4096 256) (hy : Is y Y) (hw : Is w D) (hg : Is g G) (hu : Is u U) :
    Is (Gen.k4_pay4 y w g u) (dgate G U (dact Y D)) := by
  intro i j
  unfold_payloads
  pointwise
  simp only [hy _ _, hw _ _, hg _ _, hu _ _, half_f32, Ideal.ofBits_one_f32, logistic_real, ← EReal.coe_mul, coe_sum,
    ← EReal.coe_one, ← EReal.coe_sub, ← EReal.coe_add]
  rfl

/-- One block of the other factor's gradient. -/
theorem payUp (y : Vec Ideal S4096x1024 .bf16) (w : Vec Ideal S256x1024 .bf16) (g : Vec Ideal S4096x256 .bf16)
    (Y : Mat 4096 1024) (D : Mat 256 1024) (G : Mat 4096 256) (hy : Is y Y) (hw : Is w D) (hg : Is g G) :
    Is (Gen.k4_pay5 y w g) (dup G (dact Y D)) := by
  intro i j
  unfold_payloads
  pointwise
  simp only [hy _ _, hw _ _, hg _ _, half_f32, logistic_real, ← EReal.coe_mul, coe_sum]
  rfl

variable (V : (c : Dev nD) → (b : Ref sig .tc) → Buf (Elt Ideal) ((c : Thread nD τ).loc b))

theorem idx : ∀ t : Fin grid4.N, (win4_0.index t 0 = 0 ∧ win4_0.index t 1 = 0) ∧
    (win4_1.index t 0 = t.val ∧ win4_1.index t 1 = 0) ∧ (win4_2.index t 0 = 0 ∧ win4_2.index t 1 = t.val) ∧
    (win4_3.index t 0 = 0 ∧ win4_3.index t 1 = t.val) ∧ (win4_4.index t 0 = 0 ∧ win4_4.index t 1 = t.val) ∧
    (win4_5.index t 0 = 0 ∧ win4_5.index t 1 = t.val) := by
  decide +kernel

theorem lt11 (t : Fin cfg4.N) : t.val < 11 := t.isLt.trans_eq (by decide +kernel)

/-- The column of the array that column `q` of block `t` is. -/
def col (t : Fin cfg4.N) (q : Fin 256) : Fin 2816 := ⟨t.val * 256 + q.val, by have := lt11 t; omega⟩

theorem blk0 (c : Dev nD) (Y : Mat 4096 1024) (hY : Is (V c main_v8) Y) (t : Fin cfg4.N) :
    Is (Gen.iblk4 V c 0 t) Y := by
  intro i j
  have h := (idx t).1
  blk_simp [Gen.iblk4]
  refine (congrArg (V c main_v8) (at_pair ?_ ?_)).trans (hY _ _) <;> blk_simp <;> simp only [h.1, h.2] <;> omega

theorem blk1 (c : Dev nD) (D : Mat 2816 1024) (hD : Is (V c main_v4) D) (t : Fin cfg4.N) :
    Is (Gen.iblk4 V c 1 t) (fun i j => D (col t i) j) := by
  intro i j
  have h := (idx t).2.1
  blk_simp [Gen.iblk4]
  refine (congrArg (V c main_v4) (at_pair ?_ ?_)).trans (hD _ _) <;> blk_simp <;> simp only [h.1, h.2, col] <;> omega

theorem blk2 (c : Dev nD) (G : Mat 4096 2816) (hG : Is (V c main_v6_1) G) (t : Fin cfg4.N) :
    Is (Gen.iblk4 V c 2 t) (fun i j => G i (col t j)) := by
  intro i j
  have h := (idx t).2.2.1
  blk_simp [Gen.iblk4]
  refine (congrArg (V c main_v6_1) (at_pair ?_ ?_)).trans (hG _ _) <;> blk_simp <;> simp only [h.1, h.2, col] <;> omega

theorem blk3 (c : Dev nD) (P : Mat 4096 2816) (hP : Is (V c main_v6_2) P) (t : Fin cfg4.N) :
    Is (Gen.iblk4 V c 3 t) (fun i j => P i (col t j)) := by
  intro i j
  have h := (idx t).2.2.2.1
  blk_simp [Gen.iblk4]
  refine (congrArg (V c main_v6_2) (at_pair ?_ ?_)).trans (hP _ _) <;> blk_simp <;> simp only [h.1, h.2, col] <;> omega

/-- The gate's gradient after the call. -/
theorem arrGate (c : Dev nD) (Y : Mat 4096 1024) (D : Mat 2816 1024) (G P : Mat 4096 2816) (hY : Is (V c main_v8) Y)
    (hD : Is (V c main_v4) D) (hG : Is (V c main_v6_1) G) (hP : Is (V c main_v6_2) P) :
    Is ((Gen.dat4 V c).arrAt 4 cfg4.N) (dgate G P (dact Y D)) := by
  intro r f
  refine (Gen.dat4 V c).arrAt_forall_of_covers 4 (fun i v => v = ((dgate G P (dact Y D) (i 0) (i 1) : ℝ) : EReal))
    (by decide +kernel) (fun t hf y => ?_) (ix2 r f)
  blk_simp
  rw [Gen.after4_4]
  frame_out
  obtain ⟨p, q, rfl⟩ : ∃ (p : Fin 4096) (q : Fin 256), y = ix2 p q := ⟨y 0, y 1, eq_ix2 y⟩
  refine (payGate _ _ _ _ _ _ _ _ (blk0 V c Y hY t) (blk1 V c D hD t) (blk2 V c G hG t) (blk3 V c P hP t) p q).trans ?_
  have e : ((View.whole main_v10_0).slice (win4_4.rect t)).emb (ix2 p q) = ix2 p (col t q) := by
    have h := (idx t).2.2.2.2.1
    refine at_pair ?_ ?_ <;> blk_simp <;> simp only [h.1, h.2, col] <;> omega
  rw [e]
  rfl

/-- The other factor's gradient after the call. -/
theorem arrUp (c : Dev nD) (Y : Mat 4096 1024) (D : Mat 2816 1024) (G : Mat 4096 2816) (hY : Is (V c main_v8) Y)
    (hD : Is (V c main_v4) D) (hG : Is (V c main_v6_1) G) :
    Is ((Gen.dat4 V c).arrAt 5 cfg4.N) (dup G (dact Y D)) := by
  intro r f
  refine (Gen.dat4 V c).arrAt_forall_of_covers 5 (fun i v => v = ((dup G (dact Y D) (i 0) (i 1) : ℝ) : EReal))
    (by decide +kernel) (fun t hf y => ?_) (ix2 r f)
  blk_simp
  rw [Gen.after4_5]
  frame_out
  obtain ⟨p, q, rfl⟩ : ∃ (p : Fin 4096) (q : Fin 256), y = ix2 p q := ⟨y 0, y 1, eq_ix2 y⟩
  refine (payUp _ _ _ _ _ _ (blk0 V c Y hY t) (blk1 V c D hD t) (blk2 V c G hG t) p q).trans ?_
  have e : ((View.whole main_v10_1).slice (win4_5.rect t)).emb (ix2 p q) = ix2 p (col t q) := by
    have h := (idx t).2.2.2.2.2
    refine at_pair ?_ ?_ <;> blk_simp <;> simp only [h.1, h.2, col] <;> omega
  rw [e]
  rfl

end Cert.KernelIdeal.DAct
end
-- ==== Proof.Region.DWGate.lean ====
module
public import proofs.«01_k».proof.Proof.Gen.KernelIdeal.Frame.Region5
public import proofs.«01_k».proof.Proof.Reals
public import Idealize.ShloMosaic.Lib.Pipeline.ValueKit
public import Idealize.ShloMosaic.Lib.Pointwise

/-! The gradient of the first weight, its left half of columns: the call writes these and no other. -/

@[expose] public section

noncomputable section

namespace Cert.KernelIdeal.DWGate

open Idealize.ShloMosaic Idealize.ShloMosaic.TcCoe Idealize.ShloMosaic.Tactic
open Idealize.SL.Sem
open Idealize.ShloMosaic.Pipeline (Dat Cfg Window)
open Cert.Half

/-- One block. -/
theorem pay (x : Vec Ideal S4096x1024 .bf16) (d : Vec Ideal S4096x1408 .bf16) (H : Mat 4096 1024) (D : Mat 4096 1408)
    (hx : Is x H) (hd : Is d D) : Is (Gen.k5_pay1 x d) (tn H D) := by
  intro i j
  unfold_payloads
  pointwise
  simp only [hx _ _, hd _ _, ← EReal.coe_mul, coe_sum]
  rfl

variable (V : (c : Dev nD) → (b : Ref sig .tc) → Buf (Elt Ideal) ((c : Thread nD τ).loc b))

theorem idx : ∀ t : Fin grid5.N, (win5_0.index t 0 = 0 ∧ win5_0.index t 1 = 0) ∧
    (win5_1.index t 0 = 0 ∧ win5_1.index t 1 = t.val) ∧ (win5_2.index t 0 = 0 ∧ win5_2.index t 1 = t.val) := by
  decide +kernel

theorem lt2 (t : Fin cfg5.N) : t.val < 2 := t.isLt.trans_eq (by decide +kernel)

/-- The column of the half that column `p` of block `t` is. -/
def col (t : Fin cfg5.N) (p : Fin 1408) : Fin 2816 := ⟨t.val * 1408 + p.val, by have := lt2 t; omega⟩

theorem blk0 (c : Dev nD) (H : Mat 4096 1024) (hH : Is (V c main_v5) H) (t : Fin cfg5.N) :
    Is (Gen.iblk5 V c 0 t) H := by
  intro i j
  have h := (idx t).1
  blk_simp [Gen.iblk5]
  refine (congrArg (V c main_v5) (at_pair ?_ ?_)).trans (hH _ _) <;> blk_simp <;> simp only [h.1, h.2] <;> omega

theorem blk1 (c : Dev nD) (D : Mat 4096 2816) (hD : Is (V c main_v10_0) D) (t : Fin cfg5.N) :
    Is (Gen.iblk5 V c 1 t) (fun i j => D i (col t j)) := by
  intro i j
  have h := (idx t).2.1
  blk_simp [Gen.iblk5]
  refine (congrArg (V c main_v10_0) (at_pair ?_ ?_)).trans (hD _ _) <;> blk_simp <;> simp only [h.1, h.2, col] <;> omega

/-- The left half of the array's columns after the call. -/
theorem arr (c : Dev nD) (H : Mat 4096 1024) (D : Mat 4096 2816) (hH : Is (V c main_v5) H) (hD : Is (V c main_v10_0) D)
    (k : Fin 1024) (f : Fin 2816) :
    (Gen.dat5 V c).arrAt 2 cfg5.N (ix2 k (wide f)) = ((tn H D k f : ℝ) : EReal) := by
  refine (Gen.dat5 V c).arrAt_forall_of_coversWhere 2
    (fun i v => ∀ (k : Fin 1024) (f : Fin 2816), (i 0).val = k.val → (i 1).val = f.val → v = ((tn H D k f : ℝ) : EReal))
    (fun β => ∀ h : 1 < 2, β ⟨1, h⟩ < 2) (by decide +kernel) (fun t hf y => ?_) (fun j hj => ?_)
    (ix2 k (wide f)) (Memref.isWhole_whole _) k f rfl rfl
  · blk_simp
    rw [Gen.after5_2]
    frame_out
    obtain ⟨p, q, rfl⟩ : ∃ (p : Fin 1024) (q : Fin 1408), y = ix2 p q := ⟨y 0, y 1, eq_ix2 y⟩
    have h := (idx t).2.2
    intro k f hk hf
    have hk' : win5_2.index t 0 * 1024 + p.val = k.val := hk
    have hf' : win5_2.index t 1 * 1408 + q.val = f.val := hf
    rw [h.1] at hk'
    rw [h.2] at hf'
    obtain rfl : p = k := Fin.ext (by omega)
    obtain rfl : col t q = f := Fin.ext hf'
    exact pay _ _ _ _ (blk0 V c H hH t) (blk1 V c D hD t) p q
  · intro k f hk hf
    refine absurd (fun h => ?_) hj
    rw [Pipeline.Window.cell_apply]
    have hj1 : (j ⟨1, h⟩).val = f.val := hf
    rw [hj1]
    exact Nat.div_lt_of_lt_mul f.isLt

end Cert.KernelIdeal.DWGate

end
-- ==== Proof.Region.DWUp.lean ====
module
public import proofs.«01_k».proof.Proof.Gen.KernelIdeal.Frame.Region6
public import proofs.«01_k».proof.Proof.Reals
public import Idealize.ShloMosaic.Lib.Pipeline.ValueKit
public import Idealize.ShloMosaic.Lib.Pointwise

/-! The gradient of the first weight, its right half of columns: the call writes these into the array that holds the left half. -/

@[expose] public section

noncomputable section

namespace Cert.KernelIdeal.DWUp

open Idealize.ShloMosaic Idealize.ShloMosaic.TcCoe Idealize.ShloMosaic.Tactic
open Idealize.SL.Sem
open Idealize.ShloMosaic.Pipeline (Dat Cfg Window)
open Cert.Half

/-- One block. -/
theorem pay (x : Vec Ideal S4096x1024 .bf16) (d : Vec Ideal S4096x1408 .bf16) (H : Mat 4096 1024) (D : Mat 4096 1408)
    (hx : Is x H) (hd : Is d D) : Is (Gen.k6_pay1 x d) (tn H D) := by
  intro i j
  unfold_payloads
  pointwise
  simp only [hx _ _, hd _ _, ← EReal.coe_mul, coe_sum]
  rfl

variable (V : (c : Dev nD) → (b : Ref sig .tc) → Buf (Elt Ideal) ((c : Thread nD τ).loc b))

theorem idx : ∀ t : Fin grid6.N, (win6_0.index t 0 = 0 ∧ win6_0.index t 1 = 0) ∧
    (win6_1.index t 0 = 0 ∧ win6_1.index t 1 = t.val) ∧ (win6_2.index t 0 = 0 ∧ win6_2.index t 1 = t.val + 2) := by
  decide +kernel

theorem lt2 (t : Fin cfg6.N) : t.val < 2 := t.isLt.trans_eq (by decide +kernel)

/-- The column of the half that column `p` of block `t` is. -/
def col (t : Fin cfg6.N) (p : Fin 1408) : Fin 2816 := ⟨t.val * 1408 + p.val, by have := lt2 t; omega⟩

theorem blk0 (c : Dev nD) (H : Mat 4096 1024) (hH : Is (V c main_v5) H) (t : Fin cfg6.N) :
    Is (Gen.iblk6 V c 0 t) H := by
  intro i j
  have h := (idx t).1
  blk_simp [Gen.iblk6]
  refine (congrArg (V c main_v5) (at_pair ?_ ?_)).trans (hH _ _) <;> blk_simp <;> simp only [h.1, h.2] <;> omega

theorem blk1 (c : Dev nD) (D : Mat 4096 2816) (hD : Is (V c main_v10_1) D) (t : Fin cfg6.N) :
    Is (Gen.iblk6 V c 1 t) (fun i j => D i (col t j)) := by
  intro i j
  have h := (idx t).2.1
  blk_simp [Gen.iblk6]
  refine (congrArg (V c main_v10_1) (at_pair ?_ ?_)).trans (hD _ _) <;> blk_simp <;> simp only [h.1, h.2, col] <;> omega

theorem shift {t q f : ℕ} (h : (t + 2) * 1408 + q = 2816 + f) : t * 1408 + q = f := by omega

theorem not_left {t q f : ℕ} (hf : f < 2816) : ¬(t + 2) * 1408 + q = f := by omega

/-- The array after the call: what it held in the left half of its columns, and the product in the right half. -/
theorem arr (c : Dev nD) (H : Mat 4096 1024) (D : Mat 4096 2816) (A : Mat 1024 2816) (hH : Is (V c main_v5) H)
    (hD : Is (V c main_v10_1) D) (hA : ∀ k f, V c main_v12 (ix2 k (wide f)) = ((A k f : ℝ) : EReal)) :
    Is ((Gen.dat6 V c).arrAt 2 cfg6.N) (beside A (tn H D)) := by
  have key := fun (k : Fin 1024) (f : Fin 5632) => (Gen.dat6 V c).arrAt_forall_of_coversWhere 2
    (fun i v => (∀ (k : Fin 1024) (f : Fin 2816), (i 0).val = k.val → (i 1).val = f.val → v = ((A k f : ℝ) : EReal))
      ∧ ∀ (k : Fin 1024) (f : Fin 2816), (i 0).val = k.val → (i 1).val = 2816 + f.val → v = ((tn H D k f : ℝ) : EReal))
    (fun β => ∀ h : 1 < 2, 2 ≤ β ⟨1, h⟩) (by decide +kernel) (fun t hf y => ?_) (fun j hj => ?_)
    (ix2 k f) (Memref.isWhole_whole _)
  · intro k f
    by_cases h : f.val < 2816
    · refine ((key k f).1 k ⟨f.val, h⟩ rfl rfl).trans ?_
      rw [beside, dif_pos h]
    · refine ((key k f).2 k ⟨f.val - 2816, by omega⟩ rfl (by show f.val = 2816 + (f.val - 2816); omega)).trans ?_
      rw [beside, dif_neg h]
  · blk_simp
    rw [Gen.after6_2]
    unfold Gen.outsAt6
    frame_out
    obtain ⟨p, q, rfl⟩ : ∃ (p : Fin 1024) (q : Fin 1408), y = ix2 p q := ⟨y 0, y 1, eq_ix2 y⟩
    have h := (idx t).2.2
    refine ⟨fun k f hk hf => ?_, fun k f hk hf => ?_⟩
    · have hf' : win6_2.index t 1 * 1408 + q.val = f.val := hf
      rw [h.2] at hf'
      exact absurd hf' (not_left f.isLt)
    · have hk' : win6_2.index t 0 * 1024 + p.val = k.val := hk
      have hf' : win6_2.index t 1 * 1408 + q.val = 2816 + f.val := hf
      rw [h.1] at hk'
      rw [h.2] at hf'
      rw [Nat.zero_mul, Nat.zero_add] at hk'
      obtain rfl : p = k := Fin.ext hk'
      obtain rfl : col t q = f := Fin.ext (shift hf')
      exact pay _ _ _ _ (blk0 V c H hH t) (blk1 V c D hD t) p q
  · rw [Gen.A_eq6]
    refine ⟨fun k f hk hf => ?_, fun k f hk hf => ?_⟩
    · have e : (show (⟨2, ![1024, 5632]⟩ : Shape).Idx from j) = ix2 k (wide f) := at_pair hk hf
      refine Eq.trans ?_ (hA k f)
      rw [← e]
      rfl
    · refine absurd (fun h => ?_) hj
      rw [Pipeline.Window.cell_apply]
      have hj1 : (j ⟨1, h⟩).val = 2816 + f.val := hf
      rw [hj1]
      exact (Nat.le_div_iff_mul_le (by norm_num : 0 < 1408)).mpr (Nat.le_add_right _ _)

end Cert.KernelIdeal.DWUp

end
-- ==== Proof.Region.DHid.lean ====
module
public import proofs.«01_k».proof.Proof.Gen.KernelIdeal.Frame.Region7
public import proofs.«01_k».proof.Proof.Reals
public import Idealize.ShloMosaic.Lib.Pipeline.ValueKit
public import Idealize.ShloMosaic.Lib.Pointwise

/-! The gradient of the normalised rows, its part through the gate. -/

@[expose] public section

noncomputable section

namespace Cert.KernelIdeal.DHid

open Idealize.ShloMosaic Idealize.ShloMosaic.TcCoe Idealize.ShloMosaic.Tactic
open Idealize.SL.Sem
open Idealize.ShloMosaic.Pipeline (Dat Cfg Window)
open Cert.Half

/-- One block. -/
theorem pay (a : Vec Ideal S512x2816 .bf16) (w : Vec Ideal S1024x2816 .bf16) (A : Mat 512 2816) (W : Mat 1024 2816)
    (ha : Is a A) (hw : Is w W) : Is (Gen.k7_pay1 a w) (nt A W) := by
  intro i j
  unfold_payloads
  pointwise
  simp only [ha _ _, hw _ _, ← EReal.coe_mul, coe_sum]
  rfl

variable (V : (c : Dev nD) → (b : Ref sig .tc) → Buf (Elt Ideal) ((c : Thread nD τ).loc b))

theorem idx : ∀ t : Fin grid7.N, (win7_0.index t 0 = t.val ∧ win7_0.index t 1 = 0) ∧
    (win7_1.index t 0 = 0 ∧ win7_1.index t 1 = 0) ∧ (win7_2.index t 0 = t.val ∧ win7_2.index t 1 = 0) := by
  decide +kernel

theorem lt8 (t : Fin cfg7.N) : t.val < 8 := t.isLt.trans_eq (by decide +kernel)

/-- The row of the array that row `p` of block `t` is. -/
def row (t : Fin cfg7.N) (p : Fin 512) : Fin 4096 := ⟨t.val * 512 + p.val, by have := lt8 t; omega⟩

theorem blk0 (c : Dev nD) (A : Mat 4096 2816) (hA : Is (V c main_v10_0) A) (t : Fin cfg7.N) :
    Is (Gen.iblk7 V c 0 t) (fun i j => A (row t i) j) := by
  intro i j
  have h := (idx t).1
  blk_simp [Gen.iblk7]
  refine (congrArg (V c main_v10_0) (at_pair ?_ ?_)).trans (hA _ _) <;> blk_simp <;> simp only [h.1, h.2, row] <;> omega

/-- The block of the weight is its left half. -/
theorem blk1 (c : Dev nD) (U : Mat 1024 5632) (hU : Is (V c main_v3) U) (t : Fin cfg7.N) :
    Is (Gen.iblk7 V c 1 t) (left U) := by
  intro i j
  have h := (idx t).2.1
  blk_simp [Gen.iblk7]
  refine (congrArg (V c main_v3) (at_pair ?_ ?_)).trans (hU _ _) <;> blk_simp <;> simp only [h.1, h.2] <;> omega

/-- The array after the call. -/
theorem arr (c : Dev nD) (A : Mat 4096 2816) (U : Mat 1024 5632) (hA : Is (V c main_v10_0) A) (hU : Is (V c main_v3) U) :
    Is ((Gen.dat7 V c).arrAt 2 cfg7.N) (nt A (left U)) := by
  intro r f
  refine (Gen.dat7 V c).arrAt_forall_of_covers 2 (fun i v => v = ((nt A (left U) (i 0) (i 1) : ℝ) : EReal))
    (by decide +kernel) (fun t hf y => ?_) (ix2 r f)
  blk_simp
  rw [Gen.after7_2]
  frame_out
  obtain ⟨p, q, rfl⟩ : ∃ (p : Fin 512) (q : Fin 1024), y = ix2 p q := ⟨y 0, y 1, eq_ix2 y⟩
  refine (pay _ _ _ _ (blk0 V c A hA t) (blk1 V c U hU t) p q).trans ?_
  have e : ((View.whole main_v13).slice (win7_2.rect t)).emb (ix2 p q) = ix2 (row t p) q := by
    have h := (idx t).2.2
    refine at_pair ?_ ?_ <;> blk_simp <;> simp only [h.1, h.2, row] <;> omega
  rw [e]
  rfl

end Cert.KernelIdeal.DHid
end
-- ==== Proof.Region.DHid2.lean ====
module
public import proofs.«01_k».proof.Proof.Gen.KernelIdeal.Frame.Region8
public import proofs.«01_k».proof.Proof.Reals
public import Idealize.ShloMosaic.Lib.Pipeline.ValueKit
public import Idealize.ShloMosaic.Lib.Pointwise

/-! The gradient of the normalised rows: the part through the other factor, added to the part through the gate. -/

@[expose] public section

noncomputable section

namespace Cert.KernelIdeal.DHid2

open Idealize.ShloMosaic Idealize.ShloMosaic.TcCoe Idealize.ShloMosaic.Tactic
open Idealize.SL.Sem
open Idealize.ShloMosaic.Pipeline (Dat Cfg Window)
open Cert.Half

/-- One block. -/
theorem pay (a : Vec Ideal S512x2816 .bf16) (w : Vec Ideal S1024x2816 .bf16) (r : Vec Ideal S512x1024 .f32)
    (A : Mat 512 2816) (W : Mat 1024 2816) (R : Mat 512 1024) (ha : Is a A) (hw : Is w W) (hr : Is r R) :
    Is (Gen.k8_pay1 a w r) (fun i j => nt A W i j + R i j) := by
  intro i j
  unfold_payloads
  pointwise
  simp only [ha _ _, hw _ _, hr _ _, ← EReal.coe_mul, coe_sum, ← EReal.coe_add]
  rfl

variable (V : (c : Dev nD) → (b : Ref sig .tc) → Buf (Elt Ideal) ((c : Thread nD τ).loc b))

theorem idx : ∀ t : Fin grid8.N, (win8_0.index t 0 = t.val ∧ win8_0.index t 1 = 0) ∧
    (win8_1.index t 0 = 0 ∧ win8_1.index t 1 = 1) ∧ (win8_2.index t 0 = t.val ∧ win8_2.index t 1 = 0) ∧
    (win8_3.index t 0 = t.val ∧ win8_3.index t 1 = 0) := by
  decide +kernel

theorem lt8 (t : Fin cfg8.N) : t.val < 8 := t.isLt.trans_eq (by decide +kernel)

/-- The row of the array that row `p` of block `t` is. -/
def row (t : Fin cfg8.N) (p : Fin 512) : Fin 4096 := ⟨t.val * 512 + p.val, by have := lt8 t; omega⟩

theorem blk0 (c : Dev nD) (A : Mat 4096 2816) (hA : Is (V c main_v10_1) A) (t : Fin cfg8.N) :
    Is (Gen.iblk8 V c 0 t) (fun i j => A (row t i) j) := by
  intro i j
  have h := (idx t).1
  blk_simp [Gen.iblk8]
  refine (congrArg (V c main_v10_1) (at_pair ?_ ?_)).trans (hA _ _) <;> blk_simp <;> simp only [h.1, h.2, row] <;> omega

/-- The block of the weight is its right half. -/
theorem blk1 (c : Dev nD) (U : Mat 1024 5632) (hU : Is (V c main_v3) U) (t : Fin cfg8.N) :
    Is (Gen.iblk8 V c 1 t) (right U) := by
  intro i j
  have h := (idx t).2.1
  blk_simp [Gen.iblk8]
  refine (congrArg (V c main_v3) (at_pair ?_ ?_)).trans (hU _ _) <;> blk_simp <;> simp only [h.1, h.2] <;> omega

theorem blk2 (c : Dev nD) (R : Mat 4096 1024) (hR : Is (V c main_v13) R) (t : Fin cfg8.N) :
    Is (Gen.iblk8 V c 2 t) (fun i j => R (row t i) j) := by
  intro i j
  have h := (idx t).2.2.1
  blk_simp [Gen.iblk8]
  refine (congrArg (V c main_v13) (at_pair ?_ ?_)).trans (hR _ _) <;> blk_simp <;> simp only [h.1, h.2, row] <;> omega

/-- The array after the call. -/
theorem arr (c : Dev nD) (A : Mat 4096 2816) (U : Mat 1024 5632) (R : Mat 4096 1024) (hA : Is (V c main_v10_1) A)
    (hU : Is (V c main_v3) U) (hR : Is (V c main_v13) R) :
    Is ((Gen.dat8 V c).arrAt 3 cfg8.N) (fun r j => nt A (right U) r j + R r j) := by
  intro r f
  refine (Gen.dat8 V c).arrAt_forall_of_covers 3
    (fun i v => v = ((nt A (right U) (i 0) (i 1) + R (i 0) (i 1) : ℝ) : EReal)) (by decide +kernel)
    (fun t hf y => ?_) (ix2 r f)
  blk_simp
  rw [Gen.after8_3]
  frame_out
  obtain ⟨p, q, rfl⟩ : ∃ (p : Fin 512) (q : Fin 1024), y = ix2 p q := ⟨y 0, y 1, eq_ix2 y⟩
  refine (pay _ _ _ _ _ _ (blk0 V c A hA t) (blk1 V c U hU t) (blk2 V c R hR t) p q).trans ?_
  have e : ((View.whole main_v14).slice (win8_3.rect t)).emb (ix2 p q) = ix2 (row t p) q := by
    have h := (idx t).2.2.2
    refine at_pair ?_ ?_ <;> blk_simp <;> simp only [h.1, h.2, row] <;> omega
  rw [e]
  rfl

end Cert.KernelIdeal.DHid2
end
-- ==== Proof.Region.DNorm.lean ====
module
public import proofs.«01_k».proof.Proof.Gen.KernelIdeal.Frame.Region9
public import proofs.«01_k».proof.Proof.Reals
public import Idealize.ShloMosaic.Lib.Pipeline.ValueKit
public import Idealize.ShloMosaic.Lib.Pointwise

/-! The gradients of the rows that were normalised and of the gain. -/

@[expose] public section

noncomputable section

namespace Cert.KernelIdeal.DNorm

open Idealize.ShloMosaic Idealize.ShloMosaic.TcCoe Idealize.ShloMosaic.Tactic
open Idealize.SL.Sem
open Idealize.ShloMosaic.Pipeline (Dat Cfg Window)
open Cert.Half

/-- One block of the rows' gradient. -/
theorem payRows (x d y : Vec Ideal S1024x1024 .f32) (g : Vec Ideal S1x1024 .f32) (X dH Y : Mat 1024 1024)
    (b : Fin 1024 → ℝ) (hx : Is x X) (hd : Is d dH) (hg : Is g (fun _ : Fin 1 => b)) (hy : Is y Y) :
    Is (Gen.k9_pay6 x d g y) (dnorm X dH Y b) := by
  intro i j
  unfold_payloads
  pointwise
  simp only [hx _ _, hg _ _, hd _ _, hy _ _, n1024_f32, eps_f32, div_n1024, ← EReal.coe_mul, coe_sum, ← EReal.coe_add]
  have hm : ∀ r, (∑ k, X r k * X r k) * (1 / 1024) + eps = msq X r := fun _ => rfl
  simp only [hm, rsqrt_msq, ← EReal.coe_mul, coe_sum, ← EReal.coe_sub, ← EReal.coe_add]
  rfl

/-- One step of the gain's gradient: the block's column sums are added to what is there. -/
theorem payGain (x d : Vec Ideal S1024x1024 .f32) (o : Vec Ideal S1x1024 .f32) (X dH : Mat 1024 1024)
    (b : Fin 1024 → ℝ) (hx : Is x X) (hd : Is d dH) (ho : Is o (fun _ : Fin 1 => b)) :
    Is (Gen.k9_pay1 (Gen.k9_pay4 x) (Gen.k9_pay5 d) o) (fun _ : Fin 1 => fun j => b j + dgain X dH j) := by
  intro i j
  obtain rfl : i = 0 := Subsingleton.elim _ _
  unfold_payloads
  pointwise
  simp only [hx _ _, hd _ _, ho _ _, n1024_f32, eps_f32, div_n1024, ← EReal.coe_mul, coe_sum, ← EReal.coe_add]
  have hm : ∀ r, (∑ k, X r k * X r k) * (1 / 1024) + eps = msq X r := fun _ => rfl
  simp only [hm, rsqrt_msq, ← EReal.coe_mul, coe_sum, ← EReal.coe_add]
  rfl

/-- The gain's gradient begins at zero. -/
theorem payZero : Is (Gen.k9_pay8 (F := Ideal)) (fun _ : Fin 1 => fun _ : Fin 1024 => 0) := by
  intro i j
  unfold_payloads
  pointwise
  exact EReal.coe_zero.symm

variable (V : (c : Dev nD) → (b : Ref sig .tc) → Buf (Elt Ideal) ((c : Thread nD τ).loc b))

theorem idx : ∀ t : Fin grid9.N, (win9_0.index t 0 = t.val ∧ win9_0.index t 1 = 0) ∧
    (win9_1.index t 0 = t.val ∧ win9_1.index t 1 = 0) ∧ (win9_2.index t 0 = 0 ∧ win9_2.index t 1 = 0) ∧
    (win9_3.index t 0 = t.val ∧ win9_3.index t 1 = 0) ∧ (win9_4.index t 0 = t.val ∧ win9_4.index t 1 = 0) ∧
    (win9_6.index t 0 = 0 ∧ win9_6.index t 1 = 0) := by
  decide +kernel

theorem lt4 (t : Fin cfg9.N) : t.val < 4 := t.isLt.trans_eq (by decide +kernel)

/-- The row of the array that row `p` of block `t` is. -/
def row (t : Fin cfg9.N) (p : Fin 1024) : Fin 4096 := ⟨t.val * 1024 + p.val, by have := lt4 t; omega⟩

theorem blk0 (c : Dev nD) (dH : Mat 4096 1024) (hd : Is (V c main_v14) dH) (t : Fin cfg9.N) :
    Is (Gen.iblk9 V c 0 t) (fun i j => dH (row t i) j) := by
  intro i j
  have h := (idx t).1
  blk_simp [Gen.iblk9]
  refine (congrArg (V c main_v14) (at_pair ?_ ?_)).trans (hd _ _) <;> blk_simp <;> simp only [h.1, h.2, row] <;> omega

theorem blk1 (c : Dev nD) (X : Mat 4096 1024) (hX : Is (V c main_v0) X) (t : Fin cfg9.N) :
    Is (Gen.iblk9 V c 1 t) (fun i j => X (row t i) j) := by
  intro i j
  have h := (idx t).2.1
  blk_simp [Gen.iblk9]
  refine (congrArg (V c main_v0) (at_pair ?_ ?_)).trans (hX _ _) <;> blk_simp <;> simp only [h.1, h.2, row] <;> omega

theorem blk2 (c : Dev nD) (b : Fin 1024 → ℝ) (hb : Is (V c main_v16) (fun _ : Fin 1 => b)) (t : Fin cfg9.N) :
    Is (Gen.iblk9 V c 2 t) (fun _ : Fin 1 => b) := by
  intro i j
  have h := (idx t).2.2.1
  blk_simp [Gen.iblk9]
  refine (congrArg (V c main_v16) (at_pair (i := i) ?_ ?_)).trans (hb _ _) <;> blk_simp <;> simp only [h.1, h.2] <;> omega

theorem blk3 (c : Dev nD) (Y : Mat 4096 1024) (hY : Is (V c main_v1) Y) (t : Fin cfg9.N) :
    Is (Gen.iblk9 V c 3 t) (fun i j => Y (row t i) j) := by
  intro i j
  have h := (idx t).2.2.2.1
  blk_simp [Gen.iblk9]
  refine (congrArg (V c main_v1) (at_pair ?_ ?_)).trans (hY _ _) <;> blk_simp <;> simp only [h.1, h.2, row] <;> omega

/-- The rows' gradient after the call. -/
theorem arrRows (c : Dev nD) (X dH Y : Mat 4096 1024) (b : Fin 1024 → ℝ) (hX : Is (V c main_v0) X)
    (hd : Is (V c main_v14) dH) (hb : Is (V c main_v16) (fun _ : Fin 1 => b)) (hY : Is (V c main_v1) Y) :
    Is ((Gen.dat9 V c).arrAt 4 cfg9.N) (dnorm X dH Y b) := by
  intro r f
  refine (Gen.dat9 V c).arrAt_forall_of_covers 4 (fun i v => v = ((dnorm X dH Y b (i 0) (i 1) : ℝ) : EReal))
    (by decide +kernel) (fun t hf y => ?_) (ix2 r f)
  blk_simp
  rw [Gen.after9_4]
  obtain ⟨p, q, rfl⟩ : ∃ (p : Fin 1024) (q : Fin 1024), y = ix2 p q := ⟨y 0, y 1, eq_ix2 y⟩
  have e : ((View.whole main_v17_0).slice (win9_4.rect t)).emb (ix2 p q) = ix2 (row t p) q := by
    have h := (idx t).2.2.2.2.1
    refine at_pair ?_ ?_ <;> blk_simp <;> simp only [h.1, h.2, row] <;> omega
  have hp := payRows _ _ _ _ _ _ _ _ (blk1 V c X hX t) (blk0 V c dH hd t) (blk2 V c b hb t) (blk3 V c Y hY t) p q
  by_cases h0 : t.val % 4 = 0
  · rw [Gen.outsAt9_A V c t h0]
    frame_out
    rw [hp, e]
    rfl
  · rw [Gen.outsAt9_B V c t h0]
    frame_out
    rw [hp, e]
    rfl

/-- The sum of column `j` of the products over the rows of block `s`; zero past the last block. -/
def part (X dH : Mat 4096 1024) (s : ℕ) (j : Fin 1024) : ℝ :=
  if h : s < 4 then ∑ i : Fin 1024, dH ⟨s * 1024 + i.val, by omega⟩ j * xhat X ⟨s * 1024 + i.val, by omega⟩ j else 0

theorem part_row (X dH : Mat 4096 1024) (t : Fin cfg9.N) (j : Fin 1024) :
    part X dH t.val j = dgain (fun i k => X (row t i) k) (fun i k => dH (row t i) k) j := by
  unfold part
  rw [dif_pos (lt4 t)]
  rfl

/-- The gain's gradient after `n + 1` blocks. -/
theorem partial_sum (c : Dev nD) (X dH : Mat 4096 1024) (hX : Is (V c main_v0) X) (hd : Is (V c main_v14) dH) :
    ∀ (n : ℕ) (hn : n < cfg9.N), Is (Gen.outsAt9 V c n hn).2.2
      (fun _ : Fin 1 => fun j => ∑ s ∈ Finset.range (n + 1), part X dH s j) := by
  intro n
  induction n with
  | zero =>
    intro hn i j
    rw [Gen.outsAt9_A V c ⟨0, hn⟩ rfl]
    frame_out
    refine (payGain _ _ _ _ _ _ (blk1 V c X hX ⟨0, hn⟩) (blk0 V c dH hd ⟨0, hn⟩) payZero i j).trans ?_
    refine congrArg Real.toEReal ?_
    show 0 + dgain _ _ j = _
    rw [← part_row, Finset.sum_range_one, zero_add]
  | succ n ih =>
    intro hn i j
    have hn4 : n + 1 < 4 := lt4 ⟨n + 1, hn⟩
    rw [Gen.outsAt9_B V c ⟨n + 1, hn⟩ (by simp only; omega)]
    frame_out
    refine (payGain _ _ _ _ _ _ (blk1 V c X hX ⟨n + 1, hn⟩) (blk0 V c dH hd ⟨n + 1, hn⟩) (ih (by omega)) i j).trans ?_
    refine congrArg Real.toEReal ?_
    show _ + dgain _ _ j = _
    rw [← part_row, Finset.sum_range_succ _ (n + 1)]

/-- The four blocks' sums are the sum over all rows. -/
theorem sum_parts (X dH : Mat 4096 1024) (j : Fin 1024) : ∑ s ∈ Finset.range 4, part X dH s j = dgain X dH j := by
  unfold dgain
  rw [Finset.sum_range]
  refine Eq.trans ?_ ((Fintype.sum_prod_type _).symm.trans
    ((finProdFinEquiv (m := 4) (n := 1024)).sum_comp (fun r : Fin 4096 => dH r j * xhat X r j)))
  refine Finset.sum_congr rfl fun s _ => ?_
  unfold part
  rw [dif_pos s.isLt]
  refine Finset.sum_congr rfl fun i _ => ?_
  have e : (⟨s.val * 1024 + i.val, by omega⟩ : Fin 4096) = finProdFinEquiv (m := 4) (n := 1024) (s, i) := by
    apply Fin.ext
    show s.val * 1024 + i.val = i.val + 1024 * s.val
    omega
  rw [e]

/-- The gain's gradient after the call. -/
theorem arrGain (c : Dev nD) (X dH : Mat 4096 1024) (hX : Is (V c main_v0) X) (hd : Is (V c main_v14) dH) :
    Is ((Gen.dat9 V c).arrAt 6 cfg9.N) (fun _ : Fin 1 => dgain X dH) := by
  intro r f
  refine (Gen.dat9 V c).arrAt_forall_of_covers 6 (fun i v => v = ((dgain X dH (i 1) : ℝ) : EReal))
    (by decide +kernel) (fun t hf y => ?_) (ix2 r f)
  blk_simp
  rw [Gen.after9_6]
  obtain ⟨p, q, rfl⟩ : ∃ (p : Fin 1) (q : Fin 1024), y = ix2 p q := ⟨y 0, y 1, eq_ix2 y⟩
  have e : ((View.whole main_v17_2).slice (win9_6.rect t)).emb (ix2 p q) = ix2 p q := by
    have h := (idx t).2.2.2.2.2
    refine at_pair ?_ ?_ <;> blk_simp <;> simp only [h.1, h.2] <;> omega
  have h3 : t.val = 3 := (by decide +kernel : ∀ t : Fin grid9.N, win9_6.flush t = true → t.val = 3) t hf
  rw [e]
  refine (partial_sum V c X dH hX hd t.val t.isLt p q).trans ?_
  refine congrArg Real.toEReal ?_
  show ∑ s ∈ Finset.range (t.val + 1), part X dH s q = dgain X dH q
  rw [h3, sum_parts]

end Cert.KernelIdeal.DNorm

end
-- ==== Proof.Rows.lean ====
module
public import proofs.«01_k».proof.Proof.Reals
public import Idealize.ShloMosaic.Lib.Pointwise
public import Idealize.ShloMosaic.Lib.Pointwise.Contract
public import Idealize.ShloMosaic.PureOps.Ideal.Laws

/-! Arrays of two sequences read as one matrix with a row per token, and the arithmetic of real numbers among the
    extended reals. -/

@[expose] public section

noncomputable section

namespace Cert.Half

open Idealize.ShloMosaic

/-- Row `s` of sequence `b` among all rows. -/
def flat (b : Fin 2) (s : Fin 2048) : Fin 4096 := ⟨b.val * 2048 + s.val, by omega⟩

theorem flat_divMod (i : Fin 4096) : flat ⟨i.val / 2048, by omega⟩ ⟨i.val % 2048, by omega⟩ = i := by
  apply Fin.ext
  show i.val / 2048 * 2048 + i.val % 2048 = i.val
  omega

/-- Summing over sequences and positions is summing over all rows. -/
theorem sum_flat (f : Fin 4096 → ℝ) : ∑ b : Fin 2, ∑ s : Fin 2048, f (flat b s) = ∑ r, f r := by
  rw [← Fintype.sum_prod_type' (f := fun b s => f (flat b s))]
  refine Fintype.sum_bijective (fun p : Fin 2 × Fin 2048 => flat p.1 p.2) ⟨?_, ?_⟩ _ _ fun _ => rfl
  · rintro ⟨b, s⟩ ⟨b', s'⟩ h
    have h : b.val * 2048 + s.val = b'.val * 2048 + s'.val := congrArg Fin.val h
    exact Prod.ext (Fin.ext (show b.val = b'.val by omega)) (Fin.ext (show s.val = s'.val by omega))
  · exact fun i => ⟨(⟨i.val / 2048, by omega⟩, ⟨i.val % 2048, by omega⟩), flat_divMod i⟩

/-- An array of two sequences holds, token by token, the rows of a real matrix. -/
def At {n : ℕ} (v : (⟨3, ![2, 2048, n]⟩ : Shape).Idx → EReal) (A : Mat 4096 n) : Prop :=
  ∀ b s j, v (ix3 b s j) = ((A (flat b s) j : ℝ) : EReal)

/-- Two arrays that hold the same rows are equal. -/
theorem At.unique {n : ℕ} {v w : (⟨3, ![2, 2048, n]⟩ : Shape).Idx → EReal} {A : Mat 4096 n} (hv : At v A) (hw : At w A) :
    v = w := by
  funext k
  rw [eq_ix3 k]
  exact (hv _ _ _).trans (hw _ _ _).symm

theorem Is.unique {m n : ℕ} {v w : (⟨2, ![m, n]⟩ : Shape).Idx → EReal} {A : Mat m n} (hv : Is v A) (hw : Is w A) :
    v = w := by
  funext k
  rw [eq_ix2 k]
  exact (hv _ _).trans (hw _ _).symm

/-- The arguments are real numbers, those of `a`. -/
structure Reads (x : FVec Ideal ⟨3, ![2, 2048, 1024]⟩ .f32) (g : FVec Ideal ⟨1, ![1024]⟩ .f32)
    (u : FVec Ideal ⟨2, ![1024, 5632]⟩ .f32) (d : FVec Ideal ⟨2, ![2816, 1024]⟩ .f32)
    (y : FVec Ideal ⟨3, ![2, 2048, 1024]⟩ .f32) (a : Args) : Prop where
  x : At x a.X
  g : ∀ j, g (ix1 j) = ((a.g j : ℝ) : EReal)
  u : Is u a.U
  d : Is d a.D
  y : At y a.Y

/-- An index of a three-axis array is the triple of its coordinates. -/
theorem at_triple {l m n : ℕ} {k : (⟨3, ![l, m, n]⟩ : Shape).Idx} {i : Fin l} {j : Fin m} {q : Fin n}
    (hi : (k 0).val = i.val) (hj : (k 1).val = j.val) (hq : (k 2).val = q.val) : k = ix3 i j q := by
  rw [eq_ix3 k]
  obtain h₁ : k 0 = i := Fin.ext hi
  obtain h₂ : k 1 = j := Fin.ext hj
  obtain h₃ : k 2 = q := Fin.ext hq
  rw [h₁, h₂, h₃]

/-! ## Arithmetic -/

theorem mul_real {x y : EReal} {p q : ℝ} (hx : x = (p : EReal)) (hy : y = (q : EReal)) : x * y = ((p * q : ℝ) : EReal) := by
  rw [hx, hy, EReal.coe_mul]

theorem add_real {x y : EReal} {p q : ℝ} (hx : x = (p : EReal)) (hy : y = (q : EReal)) : x + y = ((p + q : ℝ) : EReal) := by
  rw [hx, hy, EReal.coe_add]

theorem sub_real {x y : EReal} {p q : ℝ} (hx : x = (p : EReal)) (hy : y = (q : EReal)) : x - y = ((p - q : ℝ) : EReal) := by
  rw [hx, hy, EReal.coe_sub]

theorem div_real {x y : EReal} {p q : ℝ} (hq : q ≠ 0) (hx : x = (p : EReal)) (hy : y = (q : EReal)) :
    Ideal.div x y = ((p * (1 / q) : ℝ) : EReal) := by
  rw [hx, hy, Ideal.div_coe hq, EReal.coe_mul]

theorem sig_real {x : EReal} {z : ℝ} (hx : x = (z : EReal)) : Ideal.div 1 (1 + Ideal.exp (-x)) = ((sig z : ℝ) : EReal) := by
  rw [hx]; exact Ideal.logistic_coe z

/-- Rewriting the real number an element is. -/
theorem real_eq {x : EReal} {p q : ℝ} (hx : x = (p : EReal)) (e : p = q) : x = (q : EReal) := e ▸ hx

theorem one_real {x : EReal} (hx : x = 1) : x = ((1 : ℝ) : EReal) := hx

/-! ## Sums over two axes -/

/-- The host's sum over the first two of three axes. -/
theorem reduce01 {l m n : ℕ} (h : (⟨3, ![l, m, n]⟩ : Shape).ReducesTo [0, 1] ⟨1, ![n]⟩)
    (v : (⟨3, ![l, m, n]⟩ : Shape).Idx → EReal) (init : EReal) (j : Fin n) :
    Ideal.hostReduceAdd h v init (ix1 j) = init + ∑ b : Fin l, ∑ s : Fin m, v (ix3 b s j) := by
  unfold Ideal.hostReduceAdd
  refine congrArg (init + ·) ?_
  refine (Finset.sum_filter_eq_sum_of_fiber _ (fun k : Fin l × Fin m => ix3 k.1 k.2 j)
    (fun _ _ e => Prod.ext (congrFun e 0) (congrFun e 1)) (fun i => ⟨fun e => ⟨(i 0, i 1), ?_⟩, ?_⟩) v).trans ?_
  · exact (at_triple (i := i 0) (j := i 1) rfl rfl (congrArg Fin.val (congrFun e 0))).symm
  · rintro ⟨k, rfl⟩
    funext a
    match a with
    | ⟨0, _⟩ => rfl
  · simp only [Fintype.sum_prod_type]

/-- A double sum of real numbers over sequences and positions. -/
theorem sum_rows (F : Fin 2 → Fin 2048 → EReal) (f : Fin 4096 → ℝ) (h : ∀ b s, F b s = ((f (flat b s) : ℝ) : EReal)) :
    ∑ b, ∑ s, F b s = ((∑ r, f r : ℝ) : EReal) := by
  rw [← sum_flat f]
  exact sum_coe _ _ fun b => sum_coe _ _ fun s => h b s

end Cert.Half

end
-- ==== Proof.Host.lean ====
module
public import proofs.«01_k».proof.Proof.Gen.KernelIdeal.Frame
public import proofs.«01_k».proof.Proof.Rows
public import Idealize.ShloMosaic.Lib.Pipeline.ValueKit
public import Idealize.ShloMosaic.Lib.Pointwise

/-! The kernel's host code: the arrays the first call is entered with, in terms of the arguments. -/

@[expose] public section

noncomputable section

namespace Cert.KernelIdeal.Host

open Idealize.ShloMosaic Idealize.ShloMosaic.TcCoe Idealize.ShloMosaic.Tactic
open Idealize.SL.Sem
open Cert.Half

variable (m : (ℓ : Loc nD τ sig) → Buf (Elt Ideal) ℓ) (ρ : Dev nD → PrngReg) (c : Dev nD) (a : Args)

/-- Core `c`'s arguments are those of `a`. -/
abbrev Starts : Prop :=
  Reads (m ((c : Thread nD τ).loc main_arg0)) (m ((c : Thread nD τ).loc main_arg1)) (m ((c : Thread nD τ).loc main_arg2))
    (m ((c : Thread nD τ).loc main_arg3)) (m ((c : Thread nD τ).loc main_arg4)) a

variable {m c a} (h : Starts m c a)
include h

theorem x1 : Is (Gen.V1 m ρ c main_v0) a.X := by
  intro i j
  unfold_abbrev_sides
  after_results
  pointwise
  exact (h.x _ _ _).trans (by rw [flat_divMod])

theorem y1 : Is (Gen.V1 m ρ c main_v1) a.Y := by
  intro i j
  unfold_abbrev_sides
  after_results
  pointwise
  exact (h.y _ _ _).trans (by rw [flat_divMod])

theorem g1 : Is (Gen.V1 m ρ c main_v2) (fun _ : Fin 1 => a.g) := by
  intro i j
  unfold_abbrev_sides
  after_results
  pointwise
  exact h.g j

theorem u1 : Is (Gen.V1 m ρ c main_v3) a.U := by
  intro i j
  unfold_abbrev_sides
  after_results
  pointwise
  exact h.u i j

theorem d1 : Is (Gen.V1 m ρ c main_v4) a.D := by
  intro i j
  unfold_abbrev_sides
  after_results
  pointwise
  exact h.d i j

end Cert.KernelIdeal.Host

end
-- ==== Proof.Chain.lean ====
module
public import proofs.«01_k».proof.Proof.Region.Norm
public import proofs.«01_k».proof.Proof.Region.Up
public import proofs.«01_k».proof.Proof.Region.Down
public import proofs.«01_k».proof.Proof.Region.DDown
public import proofs.«01_k».proof.Proof.Region.DAct
public import proofs.«01_k».proof.Proof.Region.DWGate
public import proofs.«01_k».proof.Proof.Region.DWUp
public import proofs.«01_k».proof.Proof.Region.DHid
public import proofs.«01_k».proof.Proof.Region.DHid2
public import proofs.«01_k».proof.Proof.Region.DNorm
public import proofs.«01_k».proof.Proof.Host

/-! The kernel's arrays along its ten calls: each call's result is the real matrix that the specification names, given
    that the arguments are real. A boundary is numbered by the items of the program before it; an array that no
    item in between writes is carried from one boundary to another. -/

@[expose] public section

noncomputable section

namespace Cert.KernelIdeal.Chain

open Idealize.ShloMosaic Idealize.ShloMosaic.TcCoe Idealize.ShloMosaic.Tactic
open Idealize.SL.Sem
open Cert.Half Cert.KernelIdeal.Host

theorem keep {p q : ℕ} {v w : (⟨2, ![p, q]⟩ : Shape).Idx → EReal} {A : Mat p q} (e : v = w) (hw : Is w A) : Is v A := e ▸ hw

variable {m : (ℓ : Loc nD τ sig) → Buf (Elt Ideal) ℓ} (ρ : Dev nD → PrngReg) {c : Dev nD} {a : Args} (h : Starts m c a)
include h

/-! ## The forward half -/

theorem h2 : Is (Gen.V2 m ρ c main_v5) a.H :=
  keep (Gen.W2_arr m ρ c 2) (Norm.arr (Gen.V1 m ρ) c _ _ (x1 ρ h) (g1 ρ h))

theorem u2 : Is (Gen.V2 m ρ c main_v3) a.U :=
    keep (Gen.W2_of m ρ c main_v3 (by decide)) <|
    u1 ρ h

theorem act3 : Is (Gen.V3 m ρ c main_v6_0) a.A :=
  keep (Gen.W3_arr m ρ c 3) (Up.arrAct (Gen.V2 m ρ) c _ _ (h2 ρ h) (u2 ρ h))

theorem gate3 : Is (Gen.V3 m ρ c main_v6_1) a.G :=
  keep (Gen.W3_arr m ρ c 4) (Up.arrGate (Gen.V2 m ρ) c _ _ (h2 ρ h) (u2 ρ h))

theorem up3 : Is (Gen.V3 m ρ c main_v6_2) a.P :=
  keep (Gen.W3_arr m ρ c 5) (Up.arrUp (Gen.V2 m ρ) c _ _ (h2 ρ h) (u2 ρ h))

theorem d3 : Is (Gen.V3 m ρ c main_v4) a.D :=
    keep (Gen.W3_of m ρ c main_v4 (by decide)) <|
    keep (Gen.W2_of m ρ c main_v4 (by decide)) <|
    d1 ρ h

theorem x3 : Is (Gen.V3 m ρ c main_v0) a.X :=
    keep (Gen.W3_of m ρ c main_v0 (by decide)) <|
    keep (Gen.W2_of m ρ c main_v0 (by decide)) <|
    x1 ρ h

theorem out4 : Is (Gen.V4 m ρ c main_v7) a.out :=
  keep (Gen.W4_arr m ρ c 3) (Down.arr (Gen.V3 m ρ) c _ _ _ (act3 ρ h) (d3 ρ h) (x3 ρ h))

/-! ## The backward half -/

theorem y4 : Is (Gen.V4 m ρ c main_v1) a.Y :=
    keep (Gen.W4_of m ρ c main_v1 (by decide)) <|
    keep (Gen.W3_of m ρ c main_v1 (by decide)) <|
    keep (Gen.W2_of m ρ c main_v1 (by decide)) <|
    y1 ρ h

theorem y5 : Is (Gen.V5 m ρ c main_v8) a.Y := by
  intro i j
  unfold_abbrev_sides
  after_results
  pointwise
  exact y4 ρ h i j

theorem act5 : Is (Gen.V5 m ρ c main_v6_0) a.A :=
    keep (Gen.W5_of m ρ c main_v6_0 (by decide)) <|
    keep (Gen.W4_of m ρ c main_v6_0 (by decide)) <|
    act3 ρ h

theorem down6 : Is (Gen.V6 m ρ c main_v9) a.dWdown :=
  keep (Gen.W6_arr m ρ c 2) (DDown.arr (Gen.V5 m ρ) c _ _ (act5 ρ h) (y5 ρ h))

theorem y6 : Is (Gen.V6 m ρ c main_v8) a.Y :=
    keep (Gen.W6_of m ρ c main_v8 (by decide)) <|
    y5 ρ h

theorem d6 : Is (Gen.V6 m ρ c main_v4) a.D :=
    keep (Gen.W6_of m ρ c main_v4 (by decide)) <|
    keep (Gen.W5_of m ρ c main_v4 (by decide)) <|
    keep (Gen.W4_of m ρ c main_v4 (by decide)) <|
    d3 ρ h

theorem gate6 : Is (Gen.V6 m ρ c main_v6_1) a.G :=
    keep (Gen.W6_of m ρ c main_v6_1 (by decide)) <|
    keep (Gen.W5_of m ρ c main_v6_1 (by decide)) <|
    keep (Gen.W4_of m ρ c main_v6_1 (by decide)) <|
    gate3 ρ h

theorem up6 : Is (Gen.V6 m ρ c main_v6_2) a.P :=
    keep (Gen.W6_of m ρ c main_v6_2 (by decide)) <|
    keep (Gen.W5_of m ρ c main_v6_2 (by decide)) <|
    keep (Gen.W4_of m ρ c main_v6_2 (by decide)) <|
    up3 ρ h

theorem dgate7 : Is (Gen.V7 m ρ c main_v10_0) a.DG :=
  keep (Gen.W7_arr m ρ c 4) (DAct.arrGate (Gen.V6 m ρ) c _ _ _ _ (y6 ρ h) (d6 ρ h) (gate6 ρ h) (up6 ρ h))

theorem dup7 : Is (Gen.V7 m ρ c main_v10_1) a.DP :=
  keep (Gen.W7_arr m ρ c 5) (DAct.arrUp (Gen.V6 m ρ) c _ _ _ (y6 ρ h) (d6 ρ h) (gate6 ρ h))

theorem h7 : Is (Gen.V7 m ρ c main_v5) a.H :=
    keep (Gen.W7_of m ρ c main_v5 (by decide)) <|
    keep (Gen.W6_of m ρ c main_v5 (by decide)) <|
    keep (Gen.W5_of m ρ c main_v5 (by decide)) <|
    keep (Gen.W4_of m ρ c main_v5 (by decide)) <|
    keep (Gen.W3_of m ρ c main_v5 (by decide)) <|
    h2 ρ h

theorem left8 (k : Fin 1024) (f : Fin 2816) : Gen.V8 m ρ c main_v11 (ix2 k (wide f)) = ((a.dWgate k f : ℝ) : EReal) :=
  (congrFun (Gen.W8_arr m ρ c 2) _).trans (DWGate.arr (Gen.V7 m ρ) c _ _ (h7 ρ h) (dgate7 ρ h) k f)

theorem left9 (k : Fin 1024) (f : Fin 2816) : Gen.V9 m ρ c main_v12 (ix2 k (wide f)) = ((a.dWgate k f : ℝ) : EReal) := by
  unfold_abbrev_sides
  after_results
  exact left8 ρ h k f

theorem h9 : Is (Gen.V9 m ρ c main_v5) a.H :=
    keep (Gen.W9_of m ρ c main_v5 (by decide)) <|
    keep (Gen.W8_of m ρ c main_v5 (by decide)) <|
    h7 ρ h

theorem dup9 : Is (Gen.V9 m ρ c main_v10_1) a.DP :=
    keep (Gen.W9_of m ρ c main_v10_1 (by decide)) <|
    keep (Gen.W8_of m ρ c main_v10_1 (by decide)) <|
    dup7 ρ h

theorem win10 : Is (Gen.V10 m ρ c main_v12) a.dWin :=
  keep (Gen.W10_arr m ρ c 2) (DWUp.arr (Gen.V9 m ρ) c _ _ _ (h9 ρ h) (dup9 ρ h) (left9 ρ h))

theorem u10 : Is (Gen.V10 m ρ c main_v3) a.U :=
    keep (Gen.W10_of m ρ c main_v3 (by decide)) <|
    keep (Gen.W9_of m ρ c main_v3 (by decide)) <|
    keep (Gen.W8_of m ρ c main_v3 (by decide)) <|
    keep (Gen.W7_of m ρ c main_v3 (by decide)) <|
    keep (Gen.W6_of m ρ c main_v3 (by decide)) <|
    keep (Gen.W5_of m ρ c main_v3 (by decide)) <|
    keep (Gen.W4_of m ρ c main_v3 (by decide)) <|
    keep (Gen.W3_of m ρ c main_v3 (by decide)) <|
    u2 ρ h

theorem dgate10 : Is (Gen.V10 m ρ c main_v10_0) a.DG :=
    keep (Gen.W10_of m ρ c main_v10_0 (by decide)) <|
    keep (Gen.W9_of m ρ c main_v10_0 (by decide)) <|
    keep (Gen.W8_of m ρ c main_v10_0 (by decide)) <|
    dgate7 ρ h

theorem dh11 : Is (Gen.V11 m ρ c main_v13) a.dH1 :=
  keep (Gen.W11_arr m ρ c 2) (DHid.arr (Gen.V10 m ρ) c _ _ (dgate10 ρ h) (u10 ρ h))

theorem u11 : Is (Gen.V11 m ρ c main_v3) a.U :=
    keep (Gen.W11_of m ρ c main_v3 (by decide)) <|
    u10 ρ h

theorem dup11 : Is (Gen.V11 m ρ c main_v10_1) a.DP :=
    keep (Gen.W11_of m ρ c main_v10_1 (by decide)) <|
    keep (Gen.W10_of m ρ c main_v10_1 (by decide)) <|
    dup9 ρ h

theorem dh12 : Is (Gen.V12 m ρ c main_v14) a.dH :=
  keep (Gen.W12_arr m ρ c 3) (DHid2.arr (Gen.V11 m ρ) c _ _ _ (dup11 ρ h) (u11 ρ h) (dh11 ρ h))

theorem dh13 : Is (Gen.V13 m ρ c main_v14) a.dH :=
    keep (Gen.W13_of m ρ c main_v14 (by decide)) <|
    dh12 ρ h

theorem x13 : Is (Gen.V13 m ρ c main_v0) a.X :=
    keep (Gen.W13_of m ρ c main_v0 (by decide)) <|
    keep (Gen.W12_of m ρ c main_v0 (by decide)) <|
    keep (Gen.W11_of m ρ c main_v0 (by decide)) <|
    keep (Gen.W10_of m ρ c main_v0 (by decide)) <|
    keep (Gen.W9_of m ρ c main_v0 (by decide)) <|
    keep (Gen.W8_of m ρ c main_v0 (by decide)) <|
    keep (Gen.W7_of m ρ c main_v0 (by decide)) <|
    keep (Gen.W6_of m ρ c main_v0 (by decide)) <|
    keep (Gen.W5_of m ρ c main_v0 (by decide)) <|
    keep (Gen.W4_of m ρ c main_v0 (by decide)) <|
    x3 ρ h

theorem y13 : Is (Gen.V13 m ρ c main_v1) a.Y :=
    keep (Gen.W13_of m ρ c main_v1 (by decide)) <|
    keep (Gen.W12_of m ρ c main_v1 (by decide)) <|
    keep (Gen.W11_of m ρ c main_v1 (by decide)) <|
    keep (Gen.W10_of m ρ c main_v1 (by decide)) <|
    keep (Gen.W9_of m ρ c main_v1 (by decide)) <|
    keep (Gen.W8_of m ρ c main_v1 (by decide)) <|
    keep (Gen.W7_of m ρ c main_v1 (by decide)) <|
    keep (Gen.W6_of m ρ c main_v1 (by decide)) <|
    keep (Gen.W5_of m ρ c main_v1 (by decide)) <|
    y4 ρ h

theorem g12 : Is (Gen.V12 m ρ c main_v2) (fun _ : Fin 1 => a.g) :=
    keep (Gen.W12_of m ρ c main_v2 (by decide)) <|
    keep (Gen.W11_of m ρ c main_v2 (by decide)) <|
    keep (Gen.W10_of m ρ c main_v2 (by decide)) <|
    keep (Gen.W9_of m ρ c main_v2 (by decide)) <|
    keep (Gen.W8_of m ρ c main_v2 (by decide)) <|
    keep (Gen.W7_of m ρ c main_v2 (by decide)) <|
    keep (Gen.W6_of m ρ c main_v2 (by decide)) <|
    keep (Gen.W5_of m ρ c main_v2 (by decide)) <|
    keep (Gen.W4_of m ρ c main_v2 (by decide)) <|
    keep (Gen.W3_of m ρ c main_v2 (by decide)) <|
    keep (Gen.W2_of m ρ c main_v2 (by decide)) <|
    g1 ρ h

theorem g13 : Is (Gen.V13 m ρ c main_v16) (fun _ : Fin 1 => a.g) := by
  intro i j
  unfold_abbrev_sides
  after_results
  pointwise
  exact g12 ρ h i j

theorem rows14 : Is (Gen.V14 m ρ c main_v17_0) a.dX :=
  keep (Gen.W14_arr m ρ c 4) (DNorm.arrRows (Gen.V13 m ρ) c _ _ _ _ (x13 ρ h) (dh13 ρ h) (g13 ρ h) (y13 ρ h))

theorem gain14 : Is (Gen.V14 m ρ c main_v17_2) (fun _ : Fin 1 => a.dg) :=
  keep (Gen.W14_arr m ρ c 6) (DNorm.arrGain (Gen.V13 m ρ) c _ _ (x13 ρ h) (dh13 ρ h))

theorem out14 : Is (Gen.V14 m ρ c main_v7) a.out :=
    keep (Gen.W14_of m ρ c main_v7 (by decide)) <|
    keep (Gen.W13_of m ρ c main_v7 (by decide)) <|
    keep (Gen.W12_of m ρ c main_v7 (by decide)) <|
    keep (Gen.W11_of m ρ c main_v7 (by decide)) <|
    keep (Gen.W10_of m ρ c main_v7 (by decide)) <|
    keep (Gen.W9_of m ρ c main_v7 (by decide)) <|
    keep (Gen.W8_of m ρ c main_v7 (by decide)) <|
    keep (Gen.W7_of m ρ c main_v7 (by decide)) <|
    keep (Gen.W6_of m ρ c main_v7 (by decide)) <|
    keep (Gen.W5_of m ρ c main_v7 (by decide)) <|
    out4 ρ h

/-! ## The results -/

theorem win15 : Is (Gen.W15 m ρ c (Proc.devRef .tc main_v12)) a.dWin :=
    keep (Gen.W15_of m ρ c main_v12 (by decide)) <|
    keep (Gen.W14_of m ρ c main_v12 (by decide)) <|
    keep (Gen.W13_of m ρ c main_v12 (by decide)) <|
    keep (Gen.W12_of m ρ c main_v12 (by decide)) <|
    keep (Gen.W11_of m ρ c main_v12 (by decide)) <|
    win10 ρ h

theorem down15 : Is (Gen.W15 m ρ c (Proc.devRef .tc main_v9)) a.dWdown :=
    keep (Gen.W15_of m ρ c main_v9 (by decide)) <|
    keep (Gen.W14_of m ρ c main_v9 (by decide)) <|
    keep (Gen.W13_of m ρ c main_v9 (by decide)) <|
    keep (Gen.W12_of m ρ c main_v9 (by decide)) <|
    keep (Gen.W11_of m ρ c main_v9 (by decide)) <|
    keep (Gen.W10_of m ρ c main_v9 (by decide)) <|
    keep (Gen.W9_of m ρ c main_v9 (by decide)) <|
    keep (Gen.W8_of m ρ c main_v9 (by decide)) <|
    keep (Gen.W7_of m ρ c main_v9 (by decide)) <|
    down6 ρ h

theorem out15 (b : Fin 2) (s : Fin 2048) (j : Fin 1024) :
    Gen.W15 m ρ c (Proc.devRef .tc main_v18) (ix3 b s j) = ((a.out (flat b s) j : ℝ) : EReal) := by
  unfold_abbrev_sides
  after_results
  pointwise
  exact out14 ρ h (flat b s) j

theorem rows15 (b : Fin 2) (s : Fin 2048) (j : Fin 1024) :
    Gen.W15 m ρ c (Proc.devRef .tc main_v19) (ix3 b s j) = ((a.dX (flat b s) j : ℝ) : EReal) := by
  unfold_abbrev_sides
  after_results
  pointwise
  exact rows14 ρ h (flat b s) j

theorem gain15 (j : Fin 1024) :
    Gen.W15 m ρ c (Proc.devRef .tc main_v20) (ix1 j) = ((a.dg j : ℝ) : EReal) := by
  unfold_abbrev_sides
  after_results
  pointwise
  exact gain14 ρ h 0 j

end Cert.KernelIdeal.Chain

end
-- ==== Proof.Finite.lean ====
module
public import proofs.«01_k».proof.Proof.Rows
public import proofs.«01_k».proof.Defs

/-! The precondition of the claim: where it holds, every element of every argument is a real number. -/

@[expose] public section

noncomputable section

namespace Cert.Half

open Idealize.ShloMosaic

theorem and_one : ∀ p q : BitVec 1, IntOp.andi p q = 1#1 → p = 1#1 ∧ q = 1#1 := by decide

/-- A conjunction folded over a list is one only where every member is. -/
theorem all_of_foldl {ι : Type} (f : ι → BitVec 1) : ∀ (l : List ι) (b : BitVec 1),
    l.foldl (fun r n => IntOp.andi r (f n)) b = 1#1 → b = 1#1 ∧ ∀ n ∈ l, f n = 1#1
  | [], _, h => ⟨h, fun _ hn => absurd hn List.not_mem_nil⟩
  | a :: l, b, h => by
    obtain ⟨h₁, h₂⟩ := all_of_foldl f l _ h
    have h₃ : b = 1#1 ∧ f a = 1#1 := and_one b (f a) h₁
    exact ⟨h₃.1, fun n hn => (List.mem_cons.mp hn).elim (fun e => e ▸ h₃.2) (h₂ n)⟩

theorem top_f32 : Ideal.ofBits .f32 0x7F800000#32 = ⊤ := by
  simp [Ideal.ofBits, Ideal.ieee]

/-- An extended real whose absolute value is below infinity is a real number. -/
theorem real_of_abs {x : EReal} (h : max x (-x) < ⊤) : x = ((x.toReal : ℝ) : EReal) := by
  refine (EReal.coe_toReal ?_ ?_).symm
  · rintro rfl; simp at h
  · rintro rfl; simp at h

/-- An array all of whose elements pass the test has real elements. -/
theorem real_of_test {s : Shape} {axes : List (Fin s.rank)} (x : FVec Ideal s .f32)
    (hb : (⟨0, ![]⟩ : Shape).BroadcastsInDim s ![]) (h : s.ReducesTo axes ⟨0, ![]⟩) (hu : 0 < (⟨0, ![]⟩ : Shape).numel)
    (i : (⟨0, ![]⟩ : Shape).Idx)
    (ht : Host.reduce IntOp.andi (cmpf .olt (Host.absf x) (broadcastInDim s ![] hb (constant ⟨0, ![]⟩ .f32 0x7F800000#32)))
      (constantI ⟨0, ![]⟩ 1 1#1) h hu i = 1#1) (k : s.Idx) : x k = (((x k).toReal : ℝ) : EReal) := by
  obtain ⟨-, h₂⟩ := all_of_foldl _ _ _ ht
  have h₃ := h₂ (s.rowMajor k) (List.mem_filter.mpr ⟨List.mem_finRange _, decide_eq_true (funext fun a => a.elim0)⟩)
  rw [Equiv.symm_apply_apply] at h₃
  refine real_of_abs ?_
  have h₄ : Ideal.cmp .olt (max (x k) (-x k)) (Ideal.ofBits .f32 0x7F800000#32) = 1#1 := h₃
  rw [top_f32] at h₄
  by_contra hn
  simp [Ideal.cmp, hn] at h₄

/-- The real numbers that the arguments are. -/
def argsOf (x : FVec Ideal ⟨3, ![2, 2048, 1024]⟩ .f32) (g : FVec Ideal ⟨1, ![1024]⟩ .f32)
    (u : FVec Ideal ⟨2, ![1024, 5632]⟩ .f32) (d : FVec Ideal ⟨2, ![2816, 1024]⟩ .f32)
    (y : FVec Ideal ⟨3, ![2, 2048, 1024]⟩ .f32) : Args where
  X := fun r j => (x (ix3 ⟨r.val / 2048, by omega⟩ ⟨r.val % 2048, by omega⟩ j)).toReal
  g := fun j => (g (ix1 j)).toReal
  U := fun i j => (u (ix2 i j)).toReal
  D := fun i j => (d (ix2 i j)).toReal
  Y := fun r j => (y (ix3 ⟨r.val / 2048, by omega⟩ ⟨r.val % 2048, by omega⟩ j)).toReal

/-- A row's sequence and its position in it. -/
theorem row_of_flat (b : Fin 2) (s : Fin 2048) (j : Fin 1024) :
    ix3 (⟨(flat b s).val / 2048, by omega⟩ : Fin 2) (⟨(flat b s).val % 2048, by omega⟩ : Fin 2048) j = ix3 b s j := by
  have hb : (⟨(flat b s).val / 2048, by omega⟩ : Fin 2) = b := Fin.ext (by
    show (b.val * 2048 + s.val) / 2048 = b.val
    omega)
  have hs : (⟨(flat b s).val % 2048, by omega⟩ : Fin 2048) = s := Fin.ext (by
    show (b.val * 2048 + s.val) % 2048 = s.val
    omega)
  rw [hb, hs]

variable [Cert.Pre_finite.Facts]

theorem reads_of_test {x : FVec Ideal ⟨3, ![2, 2048, 1024]⟩ .f32} {g : FVec Ideal ⟨1, ![1024]⟩ .f32}
    {u : FVec Ideal ⟨2, ![1024, 5632]⟩ .f32} {d : FVec Ideal ⟨2, ![2816, 1024]⟩ .f32}
    {y : FVec Ideal ⟨3, ![2, 2048, 1024]⟩ .f32} (h : Cert.Pre_finite.fn (F := Ideal) x g u d y = fun _ => 1#1) :
    Reads x g u d y (argsOf x g u d y) := by
  have h₀ := congrFun h ix0
  obtain ⟨h₁, hy⟩ := and_one _ _ h₀
  obtain ⟨h₂, hd⟩ := and_one _ _ h₁
  obtain ⟨h₃, hu⟩ := and_one _ _ h₂
  obtain ⟨h₄, hg⟩ := and_one _ _ h₃
  obtain ⟨-, hx⟩ := and_one _ _ h₄
  exact
    { x := fun b s j => (real_of_test x _ _ _ _ hx (ix3 b s j)).trans
        (congrArg (fun k => (((x k).toReal : ℝ) : EReal)) (row_of_flat b s j).symm)
      g := fun j => real_of_test g _ _ _ _ hg (ix1 j)
      u := fun i j => real_of_test u _ _ _ _ hu (ix2 i j)
      d := fun i j => real_of_test d _ _ _ _ hd (ix2 i j)
      y := fun b s j => (real_of_test y _ _ _ _ hy (ix3 b s j)).trans
        (congrArg (fun k => (((y k).toReal : ℝ) : EReal)) (row_of_flat b s j).symm) }

end Cert.Half

end
-- ==== Proof.Reference.lean ====
module
public import proofs.«01_k».proof.Proof.Gen.ReferenceIdeal.Read
public import proofs.«01_k».proof.Proof.Rows

/-! The reference over the real numbers: each of its arrays, in the order it computes them, holds the matrix that
    the specification names. -/

@[expose] public section

noncomputable section

namespace Cert.ReferenceIdeal.Real

open Idealize.ShloMosaic Cert.Half Cert.ReferenceIdeal.Read

variable {x : FVec Ideal S2x2048x1024 .f32} {g : FVec Ideal S1024 .f32} {u : FVec Ideal S1024x5632 .f32}
  {d : FVec Ideal S2816x1024 .f32} {y : FVec Ideal S2x2048x1024 .f32} {a : Args} (h : Reads x g u d y a)
include h

/-! ## The normalisation -/

theorem msq_at (b : Fin 2) (s : Fin 2048) : val_main_v6 (F := Ideal) x (ix3 b s 0) = ((msq a.X (flat b s) : ℝ) : EReal) := by
  have h₁ : val_main_v1 (F := Ideal) x (ix2 b s) = ((∑ k, a.X (flat b s) k * a.X (flat b s) k : ℝ) : EReal) := by
    rw [val_main_v1_apply]
    refine (congrArg₂ (· + ·) (show val_main_cst (F := Ideal) _ = 0 from Ideal.ofBits_zero_f32)
      (sum_coe _ (fun k => a.X (flat b s) k * a.X (flat b s) k) fun k => ?_)).trans (zero_add _)
    have hk : idx_main_v1 (ix2 b s) k = ix3 b s k := at_triple rfl rfl rfl
    rw [hk]
    exact mul_real (h.x b s k) (h.x b s k)
  have h₂ : val_main_v2 (F := Ideal) x (ix3 b s 0) = ((∑ k, a.X (flat b s) k * a.X (flat b s) k : ℝ) : EReal) := by
    rw [val_main_v2_apply]
    exact (congrArg _ (at_pair (i := b) (j := s) rfl rfl)).trans h₁
  have h₃ : val_main_v3 (F := Ideal) (ix3 b s 0) = ((1024 : ℝ) : EReal) := by
    rw [val_main_v3_apply]; exact n1024_f32
  have h₅ : val_main_v5 (F := Ideal) (ix3 b s 0) = ((eps : ℝ) : EReal) := by
    rw [val_main_v5_apply]; exact eps_f32
  exact add_real (div_real (by norm_num) h₂ h₃) h₅

theorem rstd_at (b : Fin 2) (s : Fin 2048) : val_main_v7 (F := Ideal) x (ix3 b s 0) = ((rstd a.X (flat b s) : ℝ) : EReal) := by
  rw [val_main_v7_apply, msq_at h b s]
  exact rsqrt_msq a.X (flat b s)

/-- The derivative of the reciprocal root. -/
theorem slope_at (b : Fin 2) (s : Fin 2048) :
    val_main_v10 (F := Ideal) x (ix3 b s 0) = ((-(1 / 2) * (rstd a.X (flat b s) * (msq a.X (flat b s))⁻¹) : ℝ) : EReal) := by
  have h₉ : val_main_v9 (F := Ideal) (ix3 b s 0) = ((-(1 / 2) : ℝ) : EReal) := by
    rw [val_main_v9_apply]; exact neg_half_f32
  exact real_eq (mul_real h₉ (div_real (msq_pos a.X (flat b s)).ne' (rstd_at h b s) (msq_at h b s))) (by rw [one_div (msq a.X (flat b s))])

theorem xhat_at : At (val_main_v12 (F := Ideal) x) (xhat a.X) := fun b s j => by
  have h₁ : val_main_v11 (F := Ideal) x (ix3 b s j) = ((rstd a.X (flat b s) : ℝ) : EReal) := by
    rw [val_main_v11_apply]
    exact (congrArg _ (at_triple (i := b) (j := s) (q := (0 : Fin 1)) rfl rfl rfl)).trans (rstd_at h b s)
  exact mul_real (h.x b s j) h₁

theorem gain_at (b : Fin 2) (s : Fin 2048) (j : Fin 1024) : val_main_v14 (F := Ideal) g (ix3 b s j) = ((a.g j : ℝ) : EReal) := by
  rw [val_main_v14_apply, val_main_v13_apply]
  refine (congrArg g ?_).trans (h.g j)
  funext c
  match c with
  | ⟨0, _⟩ => rfl

theorem gain_at' (b : Fin 2) (s : Fin 2048) (j : Fin 1024) : val_main_v41 (F := Ideal) g (ix3 b s j) = ((a.g j : ℝ) : EReal) := by
  rw [val_main_v41_apply, val_main_v13_apply]
  refine (congrArg g ?_).trans (h.g j)
  funext c
  match c with
  | ⟨0, _⟩ => rfl

theorem hid_at : At (val_main_v15 (F := Ideal) x g) a.H := fun b s j => mul_real (xhat_at h b s j) (gain_at h b s j)

/-! ## The forward half -/

theorem wide_at : At (val_main_v16 (F := Ideal) x g u) (nn a.H a.U) := fun b s f => by
  rw [val_main_v16_apply]
  refine sum_coe _ (fun k => a.H (flat b s) k * a.U k f) fun k => ?_
  have hl : lidx_main_v16 (ix3 b s f) k = ix3 b s k := at_triple rfl rfl rfl
  have hr : ridx_main_v16 (ix3 b s f) k = ix2 k f := at_pair rfl rfl
  rw [hl, hr]
  exact mul_real (hid_at h b s k) (h.u k f)

theorem gate_at : At (val_main_v17 (F := Ideal) x g u) a.G := fun b s f => by
  rw [val_main_v17_apply]
  exact (congrArg _ (at_triple (i := b) (j := s) (q := (⟨f.val, by omega⟩ : Fin 5632)) (by simp) (by simp) (by simp))).trans
    (wide_at h b s ⟨f.val, by omega⟩)

theorem up_at : At (val_main_v18 (F := Ideal) x g u) a.P := fun b s f => by
  rw [val_main_v18_apply]
  exact (congrArg _ (at_triple (i := b) (j := s) (q := (⟨2816 + f.val, by omega⟩ : Fin 5632)) (by simp) (by simp) (by simp))).trans
    (wide_at h b s ⟨2816 + f.val, by omega⟩)

theorem sig_at : At (val_main_v19_2 (F := Ideal) x g u) (fun r f => Half.sig (a.G r f)) := fun b s f => by
  have h₁ : val_main_call0_v4 (F := Ideal) (ix3 b s f) = 1 := by
    rw [val_main_call0_v4_apply]; exact Ideal.ofBits_one_f32
  have h₂ : val_main_call0_v2 (F := Ideal) (ix3 b s f) = 1 := by
    rw [val_main_call0_v2_apply]; exact Ideal.ofBits_one_f32
  refine Eq.trans ?_ (sig_real (gate_at h b s f))
  rw [val_main_v19_2_apply, val_main_call0_v3_apply, h₁, h₂]
  rfl

theorem slope_sig_at : At (val_main_v19_1 (F := Ideal) x g u) (fun r f => Half.sig (a.G r f) * (1 - Half.sig (a.G r f))) := fun b s f => by
  have h₁ : val_main_call0_v6 (F := Ideal) (ix3 b s f) = ((1 : ℝ) : EReal) := by
    rw [val_main_call0_v6_apply]; exact Ideal.ofBits_one_f32
  exact mul_real (sig_at h b s f) (sub_real h₁ (sig_at h b s f))

theorem silu_at : At (val_main_v19_0 (F := Ideal) x g u) (fun r f => a.G r f * Half.sig (a.G r f)) :=
  fun b s f => mul_real (gate_at h b s f) (sig_at h b s f)

theorem act_at : At (val_main_v20 (F := Ideal) x g u) a.A := fun b s f => mul_real (silu_at h b s f) (up_at h b s f)

theorem out_at : At (val_main_v24 (F := Ideal) x g u d) a.out := fun b s j => by
  have h₁ : val_main_v21 (F := Ideal) x g u d (ix3 b s j) = ((nn a.A a.D (flat b s) j : ℝ) : EReal) := by
    rw [val_main_v21_apply]
    refine sum_coe _ (fun k => a.A (flat b s) k * a.D k j) fun k => ?_
    have hl : lidx_main_v21 (ix3 b s j) k = ix3 b s k := at_triple rfl rfl rfl
    have hr : ridx_main_v21 (ix3 b s j) k = ix2 k j := at_pair rfl rfl
    rw [hl, hr]
    exact mul_real (act_at h b s k) (h.d k j)
  have h₂ : val_main_v22 (F := Ideal) (ix3 b s j) = ((1 / 2 : ℝ) : EReal) := by
    rw [val_main_v22_apply]; exact half_f32
  exact real_eq (add_real (h.x b s j) (mul_real h₂ h₁)) (by unfold Args.out; ring)

/-! ## The backward half -/

theorem half_at : At (val_main_v27 (F := Ideal) y) (fun r j => 1 / 2 * a.Y r j) := fun b s j => by
  have h₁ : val_main_v26 (F := Ideal) (ix3 b s j) = ((1 / 2 : ℝ) : EReal) := by
    rw [val_main_v26_apply]; exact half_f32
  have h₂ : val_main_v25 (F := Ideal) y (ix3 b s j) = ((a.Y (flat b s) j : ℝ) : EReal) := by
    unfold val_main_v25
    pointwise
    exact h.y b s j
  exact mul_real h₁ h₂

theorem down_at : Is (val_main_v60 (F := Ideal) x g u y) a.dWdown := fun f j => by
  have h₁ : val_main_v28 (F := Ideal) x g u y (ix2 j f) = ((∑ r, 1 / 2 * a.Y r j * a.A r f : ℝ) : EReal) := by
    unfold val_main_v28
    pointwise
    exact sum_rows _ (fun r => 1 / 2 * a.Y r j * a.A r f) fun b s => mul_real (half_at h b s j) (act_at h b s f)
  rw [val_main_v60_apply, val_main_v29_apply]
  refine (congrArg _ (at_pair (i := j) (j := f) rfl rfl)).trans (real_eq h₁ ?_)
  unfold Args.dWdown tn
  rw [Finset.sum_mul]
  exact Finset.sum_congr rfl fun r _ => by ring

theorem dact_at : At (val_main_v30 (F := Ideal) d y) a.DA := fun b s f => by
  rw [val_main_v30_apply]
  refine real_eq (sum_coe _ (fun k => 1 / 2 * a.Y (flat b s) k * a.D f k) fun k => ?_) (congrFun (congrFun (dact_eq a.Y a.D) _) _).symm
  have hl : lidx_main_v30 (ix3 b s f) k = ix3 b s k := at_triple rfl rfl rfl
  have hr : ridx_main_v30 (ix3 b s f) k = ix2 f k := at_pair rfl rfl
  rw [hl, hr]
  exact mul_real (half_at h b s k) (h.d f k)

theorem dup_at : At (val_main_v31 (F := Ideal) x g u d y) a.DP := fun b s f =>
  real_eq (mul_real (silu_at h b s f) (dact_at h b s f)) (mul_comm _ _)

theorem dgate_at : At (val_main_v33 (F := Ideal) x g u d y) a.DG := fun b s f => by
  have h₁ : val_main_v32 (F := Ideal) x g u d y (ix3 b s f) = ((a.DA (flat b s) f * a.P (flat b s) f : ℝ) : EReal) :=
    mul_real (dact_at h b s f) (up_at h b s f)
  exact real_eq (add_real (mul_real h₁ (sig_at h b s f)) (mul_real (mul_real (gate_at h b s f) h₁) (slope_sig_at h b s f)))
    (congrFun (congrFun (dgate_eq a.G a.P a.DA) _) _).symm

theorem both_at : At (val_main_v34 (F := Ideal) x g u d y) (beside a.DG a.DP) := fun b s f => by
  unfold val_main_v34
  pointwise
  unfold beside
  split
  · exact dgate_at h b s _
  · exact dup_at h b s _

theorem win_at : Is (val_main_v59 (F := Ideal) x g u d y) a.dWin := fun k f => by
  have h₁ : val_main_v35 (F := Ideal) x g u d y (ix2 f k) = ((∑ r, beside a.DG a.DP r f * a.H r k : ℝ) : EReal) := by
    unfold val_main_v35
    pointwise
    exact sum_rows _ (fun r => beside a.DG a.DP r f * a.H r k) fun b s => mul_real (both_at h b s f) (hid_at h b s k)
  rw [val_main_v59_apply, val_main_v36_apply]
  refine (congrArg _ (at_pair (i := f) (j := k) rfl rfl)).trans (real_eq h₁ ?_)
  unfold Args.dWin Args.dWgate Args.dWup beside tn
  split <;> exact Finset.sum_congr rfl fun r _ => mul_comm _ _

theorem dhid_at : At (val_main_v37 (F := Ideal) x g u d y) a.dH := fun b s j => by
  rw [val_main_v37_apply]
  refine real_eq (sum_coe _ (fun f => beside a.DG a.DP (flat b s) f * a.U j f) fun f => ?_) ?_
  · have hl : lidx_main_v37 (ix3 b s j) f = ix3 b s f := at_triple rfl rfl rfl
    have hr : ridx_main_v37 (ix3 b s j) f = ix2 j f := at_pair rfl rfl
    rw [hl, hr]
    exact mul_real (both_at h b s f) (h.u j f)
  · rw [sum_halves]
    unfold Args.dH Args.dH1 nt left right
    rw [add_comm]
    refine congrArg₂ (· + ·) (Finset.sum_congr rfl fun f _ => ?_) (Finset.sum_congr rfl fun f _ => ?_)
    · exact congrArg (· * a.U j ⟨2816 + f.val, by omega⟩) (beside_right a.DG a.DP (flat b s) f)
    · exact congrArg (· * a.U j ⟨f.val, by omega⟩) (beside_left a.DG a.DP (flat b s) f)

theorem dgain_at (j : Fin 1024) : val_main_v43 (F := Ideal) x g u d y (ix1 j) = ((a.dg j : ℝ) : EReal) := by
  have h₁ : val_main_v39 (F := Ideal) x g u d y (ix1 j) = ((a.dg j : ℝ) : EReal) := by
    unfold val_main_v39
    show Ideal.hostReduceAdd _ _ _ _ = _
    rw [reduce01]
    refine (congrArg₂ (· + ·) (show val_main_cst_5 (F := Ideal) _ = 0 from Ideal.ofBits_zero_f32)
      (sum_rows _ (fun r => a.dH r j * xhat a.X r j) fun b s => ?_)).trans (zero_add _)
    exact real_eq (mul_real (xhat_at h b s j) (dhid_at h b s j)) (mul_comm _ _)
  have h₂ : val_main_v40 (F := Ideal) x g u d y (ix3 0 0 j) = ((a.dg j : ℝ) : EReal) := by
    unfold val_main_v40
    pointwise
    exact h₁
  unfold val_main_v43
  show Ideal.hostReduceAdd _ _ _ _ = _
  rw [reduce01]
  refine (congrArg₂ (· + ·) (show val_main_cst_6 (F := Ideal) _ = 0 from Ideal.ofBits_zero_f32) ?_).trans (zero_add _)
  simp only [Fin.sum_univ_one]
  exact h₂

theorem through_at : At (val_main_v42 (F := Ideal) x g u d y) (fun r j => a.dH r j * a.g j) :=
  fun b s j => mul_real (dhid_at h b s j) (gain_at' h b s j)

/-- The part of the derivative through the mean square. -/
theorem mean_at (b : Fin 2) (s : Fin 2048) (j : Fin 1024) : val_main_v54 (F := Ideal) x g u d y (ix3 b s j)
    = (((∑ k, a.X (flat b s) k * (a.dH (flat b s) k * a.g k)) * (-(1 / 2) * (rstd a.X (flat b s) * (msq a.X (flat b s))⁻¹))
        * (1 / 1024) : ℝ) : EReal) := by
  have h₁ : val_main_v45 (F := Ideal) x g u d y (ix2 b s)
      = ((∑ k, a.X (flat b s) k * (a.dH (flat b s) k * a.g k) : ℝ) : EReal) := by
    rw [val_main_v45_apply]
    refine (congrArg₂ (· + ·) (show val_main_cst_7 (F := Ideal) _ = 0 from Ideal.ofBits_zero_f32)
      (sum_coe _ (fun k => a.X (flat b s) k * (a.dH (flat b s) k * a.g k)) fun k => ?_)).trans (zero_add _)
    have hk : idx_main_v45 (ix2 b s) k = ix3 b s k := at_triple rfl rfl rfl
    rw [hk]
    exact mul_real (h.x b s k) (through_at h b s k)
  have h₂ : val_main_v46 (F := Ideal) x g u d y (ix3 b s 0)
      = ((∑ k, a.X (flat b s) k * (a.dH (flat b s) k * a.g k) : ℝ) : EReal) := by
    unfold val_main_v46
    pointwise
    exact h₁
  have h₃ : val_main_v51 (F := Ideal) (ix3 b s 0) = ((1024 : ℝ) : EReal) := by
    rw [val_main_v51_apply]; exact n1024_f32
  rw [val_main_v54_apply]
  refine (congrArg _ (at_pair (i := b) (j := s) rfl rfl)).trans ?_
  rw [val_main_v53_apply]
  refine (congrArg₂ (· + ·) (show val_main_cst_9 (F := Ideal) _ = 0 from Ideal.ofBits_zero_f32) ?_).trans (zero_add _)
  simp only [Fin.sum_univ_one]
  have hk : idx_main_v53 (ix2 b s) 0 = ix3 b s 0 := at_triple rfl rfl rfl
  rw [hk]
  exact div_real (by norm_num) (mul_real h₂ (slope_at h b s)) h₃

theorem rows_at : At (val_main_v58 (F := Ideal) x g u d y) a.dX := fun b s j => by
  have h₁ : val_main_v47 (F := Ideal) x (ix3 b s j) = ((rstd a.X (flat b s) : ℝ) : EReal) := by
    rw [val_main_v47_apply]
    exact (congrArg _ (at_triple (i := b) (j := s) (q := (0 : Fin 1)) rfl rfl rfl)).trans (rstd_at h b s)
  exact real_eq (add_real (add_real (add_real (h.y b s j) (mul_real (through_at h b s j) h₁))
      (mul_real (h.x b s j) (mean_at h b s j))) (mul_real (mean_at h b s j) (h.x b s j)))
    (congrFun (congrFun (dnorm_eq a.X a.dH a.Y a.g) _) _).symm

end Cert.ReferenceIdeal.Real

end
-- ==== Proof.Project.Ends.lean ====
module
public import proofs.«01_k».proof.Proof.Gen.Kernel2Ideal.Frame

/-! The run of the projection's program, with what its result array holds at the end: the contents at the last boundary of
    the program's items. The launch is set up as the frame's is; what is read off the last state is more. -/

@[expose] public section

set_option maxRecDepth 16384

noncomputable section

namespace Cert.Kernel2Ideal.Ends

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair run ends with the result array at the last boundary's contents and the arguments as launched. -/
theorem ends : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.Kernel2Ideal.Ends

end
-- ==== Proof.Project.Rows.lean ====
module
public import proofs.«01_k».proof.Proof.Rows

/-! The norm and the combined projection over the extended reals, row by row: no element need be finite. -/

@[expose] public section

noncomputable section

namespace Cert.Half

open Idealize.ShloMosaic

/-- A row over the root of its mean square, times the gain, one element. -/
def normed (x g : Fin 1024 → EReal) (k : Fin 1024) : EReal :=
  x k * Ideal.rsqrt (Ideal.div (∑ l, x l * x l) (Ideal.ofBits .f32 0x44800000#32) + Ideal.ofBits .f32 0x358637BD#32) * g k

/-- The normalised row times one column of the weight. -/
def projected (x g w : Fin 1024 → EReal) : EReal := ∑ k, normed x g k * w k

end Cert.Half

end
-- ==== Proof.Project.Norm.lean ====
module
public import proofs.«01_k».proof.Proof.Gen.Kernel2Ideal.Frame
public import proofs.«01_k».proof.Proof.Project.Rows
public import Idealize.ShloMosaic.Lib.Pipeline.ValueKit
public import Idealize.ShloMosaic.Lib.Pointwise

/-! What the projection's first call leaves: the rows scaled to unit mean square, times the gain. -/

@[expose] public section

noncomputable section

namespace Cert.Kernel2Ideal.Norm

open Idealize.ShloMosaic Idealize.ShloMosaic.TcCoe Idealize.ShloMosaic.Tactic
open Idealize.SL.Sem
open Idealize.ShloMosaic.Pipeline (Dat Cfg Window)
open Cert.Half

/-- One block. -/
theorem pay (x : Vec Ideal S1024x1024 .f32) (g : Vec Ideal S1x1024 .f32) (p q : Fin 1024) :
    Gen.k0_pay1 x g (ix2 p q) = normed (fun k => x (ix2 p k)) (fun k => g (ix2 0 k)) q := by
  unfold_payloads
  pointwise
  rfl

variable (V : (c : Dev nD) → (b : Ref sig .tc) → Buf (Elt Ideal) ((c : Thread nD τ).loc b))

theorem idx : ∀ t : Fin grid0.N, (win0_0.index t 0 = t.val ∧ win0_0.index t 1 = 0) ∧
    (win0_1.index t 0 = 0 ∧ win0_1.index t 1 = 0) ∧ (win0_2.index t 0 = t.val ∧ win0_2.index t 1 = 0) := by
  decide +kernel

theorem lt4 (t : Fin cfg0.N) : t.val < 4 := t.isLt.trans_eq (by decide +kernel)

/-- The row of the array that row `p` of block `t` is. -/
def row (t : Fin cfg0.N) (p : Fin 1024) : Fin 4096 := ⟨t.val * 1024 + p.val, by have := lt4 t; omega⟩

theorem blk0 (c : Dev nD) (t : Fin cfg0.N) (p k : Fin 1024) : Gen.iblk0 V c 0 t (ix2 p k) = V c main_v0 (ix2 (row t p) k) := by
  have h := (idx t).1
  blk_simp [Gen.iblk0]
  refine congrArg (V c main_v0) (at_pair ?_ ?_) <;> blk_simp <;> simp only [h.1, h.2, row] <;> omega

theorem blk1 (c : Dev nD) (t : Fin cfg0.N) (k : Fin 1024) : Gen.iblk0 V c 1 t (ix2 0 k) = V c main_v1 (ix2 0 k) := by
  have h := (idx t).2.1
  blk_simp [Gen.iblk0]
  refine congrArg (V c main_v1) (at_pair ?_ ?_) <;> blk_simp <;> simp only [h.1, h.2] <;> omega

/-- An element of the normalised rows of an array. -/
def rowed (X : S4096x1024.Idx → EReal) (g : S1x1024.Idx → EReal) (r : Fin 4096) (f : Fin 1024) : EReal :=
  normed (fun k => X (ix2 r k)) (fun k => g (ix2 0 k)) f

/-- The array after the call. -/
theorem arr (c : Dev nD) (r : Fin 4096) (f : Fin 1024) :
    (Gen.dat0 V c).arrAt 2 cfg0.N (ix2 r f) = rowed (V c main_v0) (V c main_v1) r f := by
  refine (Gen.dat0 V c).arrAt_forall_of_covers 2 (fun i v => v = rowed (V c main_v0) (V c main_v1) (i 0) (i 1))
    (by decide +kernel) (fun t hf y => ?_) (ix2 r f)
  blk_simp
  rw [Gen.after0_2]
  frame_out
  obtain ⟨p, q, rfl⟩ : ∃ (p q : Fin 1024), y = ix2 p q := ⟨y 0, y 1, eq_ix2 y⟩
  have e : ((View.whole main_v3).slice (win0_2.rect t)).emb (ix2 p q) = ix2 (row t p) q := by
    have h := (idx t).2.2
    refine at_pair ?_ ?_ <;> blk_simp <;> simp only [h.1, h.2, row] <;> omega
  rw [e]
  exact (pay _ _ p q).trans (congrArg₂ (fun x g => normed x g q) (funext fun k => blk0 V c t p k) (funext fun k => blk1 V c t k))

end Cert.Kernel2Ideal.Norm

end
-- ==== Proof.Project.In.lean ====
module
public import proofs.«01_k».proof.Proof.Gen.Kernel2Ideal.Frame
public import proofs.«01_k».proof.Proof.Project.Rows
public import Idealize.ShloMosaic.Lib.Pipeline.ValueKit
public import Idealize.ShloMosaic.Lib.Pointwise

/-! What the projection's second call leaves: the normalised rows times the weight, 256 columns a step. -/

@[expose] public section

noncomputable section

namespace Cert.Kernel2Ideal.In

open Idealize.ShloMosaic Idealize.ShloMosaic.TcCoe Idealize.ShloMosaic.Tactic
open Idealize.SL.Sem
open Idealize.ShloMosaic.Pipeline (Dat Cfg Window)
open Cert.Half

/-- One block. -/
theorem pay (x : Vec Ideal S4096x1024 .bf16) (w : Vec Ideal S1024x256 .bf16) (p : Fin 4096) (q : Fin 256) :
    Gen.k1_pay1 x w (ix2 p q) = ∑ k : Fin 1024, x (ix2 p k) * w (ix2 k q) := by
  unfold_payloads
  pointwise

variable (V : (c : Dev nD) → (b : Ref sig .tc) → Buf (Elt Ideal) ((c : Thread nD τ).loc b))

theorem idx : ∀ t : Fin grid1.N, (win1_0.index t 0 = 0 ∧ win1_0.index t 1 = 0) ∧
    (win1_1.index t 0 = 0 ∧ win1_1.index t 1 = t.val) ∧ (win1_2.index t 0 = 0 ∧ win1_2.index t 1 = t.val) := by
  decide +kernel

theorem lt23 (t : Fin cfg1.N) : t.val < 23 := t.isLt.trans_eq (by decide +kernel)

/-- The column of the array that column `q` of block `t` is. -/
def col (t : Fin cfg1.N) (q : Fin 256) : Fin 5888 := ⟨t.val * 256 + q.val, by have := lt23 t; omega⟩

theorem blk0 (c : Dev nD) (t : Fin cfg1.N) (p : Fin 4096) (k : Fin 1024) :
    Gen.iblk1 V c 0 t (ix2 p k) = V c main_v3 (ix2 p k) := by
  have h := (idx t).1
  blk_simp [Gen.iblk1]
  refine congrArg (V c main_v3) (at_pair ?_ ?_) <;> blk_simp <;> simp only [h.1, h.2] <;> omega

theorem blk1 (c : Dev nD) (t : Fin cfg1.N) (k : Fin 1024) (q : Fin 256) :
    Gen.iblk1 V c 1 t (ix2 k q) = V c main_v2 (ix2 k (col t q)) := by
  have h := (idx t).2.1
  blk_simp [Gen.iblk1]
  refine congrArg (V c main_v2) (at_pair ?_ ?_) <;> blk_simp <;> simp only [h.1, h.2, col] <;> omega

/-- One element of a product. -/
def times (H : S4096x1024.Idx → EReal) (W : S1024x5888.Idx → EReal) (r : Fin 4096) (f : Fin 5888) : EReal :=
  ∑ k : Fin 1024, H (ix2 r k) * W (ix2 k f)

theorem times_eq (H : S4096x1024.Idx → EReal) (W : S1024x5888.Idx → EReal) (r : Fin 4096) (f : Fin 5888)
    (h w : Fin 1024 → EReal) (hH : ∀ k, H (ix2 r k) = h k) (hW : ∀ k, W (ix2 k f) = w k) :
    times H W r f = ∑ k, h k * w k :=
  Finset.sum_congr rfl fun k _ => congrArg₂ (· * ·) (hH k) (hW k)

/-- The array after the call. -/
theorem arr (c : Dev nD) (r : Fin 4096) (f : Fin 5888) :
    (Gen.dat1 V c).arrAt 2 cfg1.N (ix2 r f) = times (V c main_v3) (V c main_v2) r f := by
  refine (Gen.dat1 V c).arrAt_forall_of_covers 2 (fun i v => v = times (V c main_v3) (V c main_v2) (i 0) (i 1))
    (by decide +kernel) (fun t hf y => ?_) (ix2 r f)
  blk_simp
  rw [Gen.after1_2]
  frame_out
  obtain ⟨p, q, rfl⟩ : ∃ (p : Fin 4096) (q : Fin 256), y = ix2 p q := ⟨y 0, y 1, eq_ix2 y⟩
  have e : ((View.whole main_v4).slice (win1_2.rect t)).emb (ix2 p q) = ix2 p (col t q) := by
    have h := (idx t).2.2
    refine at_pair ?_ ?_ <;> blk_simp <;> simp only [h.1, h.2, col] <;> omega
  rw [e]
  exact (pay _ _ p q).trans (Finset.sum_congr rfl fun k _ => congrArg₂ (· * ·) (blk0 V c t p k) (blk1 V c t k q))

end Cert.Kernel2Ideal.In

end
-- ==== Proof.Project.Forward.lean ====
module
public import proofs.«01_k».proof.Proof.Project.Norm
public import proofs.«01_k».proof.Proof.Project.In

/-! The projection's arrays along its two calls, in terms of the arguments. -/

@[expose] public section

noncomputable section

namespace Cert.Kernel2Ideal.Forward

open Idealize.ShloMosaic Idealize.ShloMosaic.TcCoe Idealize.ShloMosaic.Tactic
open Idealize.SL.Sem
open Cert.Half

variable (m : (ℓ : Loc nD τ sig) → Buf (Elt Ideal) ℓ) (ρ : Dev nD → PrngReg) (c : Dev nD)

/-- An element of the result, from the three arguments. -/
def out (x : S2x2048x1024.Idx → EReal) (g : S1024.Idx → EReal) (w : S1024x5888.Idx → EReal) (b : Fin 2) (s : Fin 2048)
    (f : Fin 5888) : EReal :=
  projected (fun k => x (ix3 b s k)) (fun k => g (ix1 k)) (fun k => w (ix2 k f))

theorem x1 (b : Fin 2) (s : Fin 2048) (k : Fin 1024) :
    Gen.V1 m ρ c main_v0 (ix2 (flat b s) k) = m ((c : Thread nD τ).loc main_arg0) (ix3 b s k) := by
  unfold_abbrev_sides
  after_results
  pointwise
  refine congrArg (m ((c : Thread nD τ).loc main_arg0)) (at_triple ?_ ?_ rfl)
  · show (b.val * 2048 + s.val) / 2048 = b.val
    omega
  · show (b.val * 2048 + s.val) % 2048 = s.val
    omega

theorem g1 (k : Fin 1024) : Gen.V1 m ρ c main_v1 (ix2 0 k) = m ((c : Thread nD τ).loc main_arg1) (ix1 k) := by
  unfold_abbrev_sides
  after_results
  pointwise

theorem w1 (k : Fin 1024) (f : Fin 5888) :
    Gen.V1 m ρ c main_v2 (ix2 k f) = m ((c : Thread nD τ).loc main_arg2) (ix2 k f) := by
  unfold_abbrev_sides
  after_results
  pointwise

theorem h2 (b : Fin 2) (s : Fin 2048) (k : Fin 1024) :
    Gen.V2 m ρ c main_v3 (ix2 (flat b s) k)
      = normed (fun l => m ((c : Thread nD τ).loc main_arg0) (ix3 b s l)) (fun l => m ((c : Thread nD τ).loc main_arg1) (ix1 l)) k :=
  (congrFun (Gen.W2_arr m ρ c 2).symm _).symm.trans ((Norm.arr (Gen.V1 m ρ) c (flat b s) k).trans
    (congrArg₂ (fun x g => normed x g k) (funext fun l => x1 m ρ c b s l) (funext fun l => g1 m ρ c l)))

theorem w2 (k : Fin 1024) (f : Fin 5888) :
    Gen.V2 m ρ c main_v2 (ix2 k f) = m ((c : Thread nD τ).loc main_arg2) (ix2 k f) :=
  (congrFun (Gen.W2_of m ρ c main_v2 (by decide)) _).trans (w1 m ρ c k f)

theorem p3 (b : Fin 2) (s : Fin 2048) (f : Fin 5888) :
    Gen.V3 m ρ c main_v4 (ix2 (flat b s) f)
      = out (m ((c : Thread nD τ).loc main_arg0)) (m ((c : Thread nD τ).loc main_arg1)) (m ((c : Thread nD τ).loc main_arg2)) b s f :=
  (congrFun (Gen.W3_arr m ρ c 2).symm _).symm.trans ((In.arr (Gen.V2 m ρ) c (flat b s) f).trans
    (In.times_eq _ _ _ _ _ _ (h2 m ρ c b s) (fun k => w2 m ρ c k f)))

/-- The result array. -/
theorem p4 (b : Fin 2) (s : Fin 2048) (f : Fin 5888) :
    Gen.W4 m ρ c (Proc.devRef .tc main_v5) (ix3 b s f)
      = out (m ((c : Thread nD τ).loc main_arg0)) (m ((c : Thread nD τ).loc main_arg1)) (m ((c : Thread nD τ).loc main_arg2)) b s f := by
  refine Eq.trans ?_ (p3 m ρ c b s f)
  unfold_abbrev_sides
  after_results
  pointwise
  exact congrArg (Gen.V3 m ρ c main_v4) (at_pair (i := flat b s) (j := f) rfl rfl)

end Cert.Kernel2Ideal.Forward

end
-- ==== Proof.Project.Sums.lean ====
module
public import proofs.«01_k».proof.Proof.Rows

/-! A sum over an even number of terms is the sum of its halves. -/

@[expose] public section

namespace Cert.Half

/-- The sum over 4096 rows, half by half. -/
theorem sum_row_halves (f : Fin 4096 → EReal) :
    ∑ k, f k = (∑ k : Fin 2048, f ⟨(0 : Fin 2).val * 2048 + k.val, by have := k.isLt; show 0 * 2048 + k.val < 4096; omega⟩)
      + ∑ k : Fin 2048, f ⟨(1 : Fin 2).val * 2048 + k.val, by have := k.isLt; show 1 * 2048 + k.val < 4096; omega⟩ := by
  refine (Fin.sum_univ_add (a := 2048) (b := 2048) f).trans (congrArg₂ (· + ·) ?_ ?_)
  · exact Finset.sum_congr rfl fun k _ => congrArg f (Fin.ext (by show k.val = 0 * 2048 + k.val; omega))
  · exact Finset.sum_congr rfl fun k _ => congrArg f (Fin.ext (by show 2048 + k.val = 1 * 2048 + k.val; omega))

/-- The sum over 5888 columns, half by half. -/
theorem sum_column_halves (f : Fin 5888 → EReal) :
    ∑ k, f k = (∑ k : Fin 2944, f ⟨(0 : Fin 2).val * 2944 + k.val, by have := k.isLt; show 0 * 2944 + k.val < 5888; omega⟩)
      + ∑ k : Fin 2944, f ⟨(1 : Fin 2).val * 2944 + k.val, by have := k.isLt; show 1 * 2944 + k.val < 5888; omega⟩ := by
  refine (Fin.sum_univ_add (a := 2944) (b := 2944) f).trans (congrArg₂ (· + ·) ?_ ?_)
  · exact Finset.sum_congr rfl fun k _ => congrArg f (Fin.ext (by show k.val = 0 * 2944 + k.val; omega))
  · exact Finset.sum_congr rfl fun k _ => congrArg f (Fin.ext (by show 2944 + k.val = 1 * 2944 + k.val; omega))

end Cert.Half
-- ==== Proof.Project.DWin.lean ====
module
public import proofs.«01_k».proof.Proof.Gen.Kernel3Ideal.Frame
public import proofs.«01_k».proof.Proof.Project.Sums
public import Idealize.ShloMosaic.Lib.Pipeline.ValueKit
public import Idealize.ShloMosaic.Lib.Pipeline.ReadBack
public import Idealize.ShloMosaic.Lib.Pointwise

/-! The gradient of the combined projection: the call adds, in a buffer that it keeps from one grid step to the next, the
    products of the two halves of the rows, and writes a block out after the second half. -/

@[expose] public section

noncomputable section

namespace Cert.Kernel3Ideal.DWin

open Idealize.ShloMosaic Idealize.ShloMosaic.TcCoe Idealize.ShloMosaic.Tactic
open Idealize.SL.Sem
open Idealize.ShloMosaic.Pipeline (Dat Cfg Window)
open Cert.Half

/-- The product that the first step of a block stores. -/
theorem payFirst (x : Vec Ideal S2048x512 .bf16) (d : Vec Ideal S2048x2944 .bf16) (p : Fin 512) (q : Fin 2944) :
    Gen.k0_pay2 x d (ix2 p q) = ∑ k : Fin 2048, x (ix2 k p) * d (ix2 k q) := by
  unfold_payloads
  pointwise

/-- The second step adds its product. -/
theorem payNext (x : Vec Ideal S2048x512 .bf16) (d : Vec Ideal S2048x2944 .bf16) (a : Vec Ideal S512x2944 .f32)
    (p : Fin 512) (q : Fin 2944) :
    Gen.k0_pay3 x d a (ix2 p q) = a (ix2 p q) + ∑ k : Fin 2048, x (ix2 k p) * d (ix2 k q) := by
  unfold_payloads
  pointwise

/-- The cast of what is written out changes no value. -/
theorem payOut (a : Vec Ideal S512x2944 .f32) : Gen.k0_pay4 a = a := rfl

variable (m : (ℓ : Loc nD τ sig) → Buf (Elt Ideal) ℓ)

theorem idx : ∀ t : Fin grid0.N,
    (win0_0.index t 0 = t.val % 2 ∧ win0_0.index t 1 = t.val / 4) ∧
    (win0_1.index t 0 = t.val % 2 ∧ win0_1.index t 1 = t.val / 2 % 2) ∧
    (win0_2.index t 0 = t.val / 4 ∧ win0_2.index t 1 = t.val / 2 % 2) := by
  decide +kernel

theorem lt8 (t : Fin cfg0.N) : t.val < 8 := t.isLt.trans_eq (by decide +kernel)

/-- The row of the whole arrays that row `k` of a point's blocks is. -/
def row (t : Fin cfg0.N) (k : Fin 2048) : Fin 4096 := ⟨t.val % 2 * 2048 + k.val, by omega⟩
/-- The column of the normalised rows that column `p` of a point's block is. -/
def left (t : Fin cfg0.N) (p : Fin 512) : Fin 1024 := ⟨t.val / 4 * 512 + p.val, by have := lt8 t; omega⟩
/-- The column of the cotangent that column `q` of a point's block is. -/
def right (t : Fin cfg0.N) (q : Fin 2944) : Fin 5888 := ⟨t.val / 2 % 2 * 2944 + q.val, by omega⟩

theorem blk0 (c : Dev nD) (t : Fin cfg0.N) (k : Fin 2048) (p : Fin 512) :
    Gen.iblk m c 0 t (ix2 k p) = m ((c : Thread nD τ).loc main_arg0) (ix2 (row t k) (left t p)) := by
  have h := (idx t).1
  blk_simp [Gen.iblk]
  refine congrArg (m ((c : Thread nD τ).loc main_arg0)) (at_pair ?_ ?_) <;> blk_simp <;> simp only [h.1, h.2, row, left] <;> omega

theorem blk1 (c : Dev nD) (t : Fin cfg0.N) (k : Fin 2048) (q : Fin 2944) :
    Gen.iblk m c 1 t (ix2 k q) = m ((c : Thread nD τ).loc main_arg1) (ix2 (row t k) (right t q)) := by
  have h := (idx t).2.1
  blk_simp [Gen.iblk]
  refine congrArg (m ((c : Thread nD τ).loc main_arg1)) (at_pair ?_ ?_) <;> blk_simp <;> simp only [h.1, h.2, row, right] <;> omega

/-- The products of the rows of one half, summed. -/
def part (H : S4096x1024.Idx → EReal) (D : S4096x5888.Idx → EReal) (s : Fin 2) (i : Fin 1024) (j : Fin 5888) : EReal :=
  ∑ k : Fin 2048, H (ix2 ⟨s.val * 2048 + k.val, by omega⟩ i) * D (ix2 ⟨s.val * 2048 + k.val, by omega⟩ j)

/-- What the kept buffer holds after the first step of a block. -/
theorem kept (c : Dev nD) (t : Fin cfg0.N) (h0 : t.val % 2 = 0) (p : Fin 512) (q : Fin 2944) :
    (Gen.outsAt0 m c t.val t.isLt).2 (ix2 p q)
      = part (m ((c : Thread nD τ).loc main_arg0)) (m ((c : Thread nD τ).loc main_arg1)) 0 (left t p) (right t q) := by
  rw [Gen.outsAt0_A m c t h0 (by omega) (by omega)]
  frame_out
  refine (payFirst _ _ p q).trans (Finset.sum_congr rfl fun k _ => ?_)
  have e : row t k = ⟨(0 : Fin 2).val * 2048 + k.val, by omega⟩ := Fin.ext (by show t.val % 2 * 2048 + k.val = 0 * 2048 + k.val; rw [h0])
  rw [blk0, blk1, e]

/-- What the second step of a block writes out. -/
theorem written (c : Dev nD) (t : Fin cfg0.N) (h1 : t.val % 2 = 1) (p : Fin 512) (q : Fin 2944) :
    (Gen.outsAt0 m c t.val t.isLt).1 (ix2 p q)
      = part (m ((c : Thread nD τ).loc main_arg0)) (m ((c : Thread nD τ).loc main_arg1)) 0 (left t p) (right t q)
        + part (m ((c : Thread nD τ).loc main_arg0)) (m ((c : Thread nD τ).loc main_arg1)) 1 (left t p) (right t q) := by
  have hk := kept m c ⟨t.val - 1, Nat.lt_of_le_of_lt (Nat.sub_le _ _) t.isLt⟩ (by show (t.val - 1) % 2 = 0; omega) p q
  have el : left ⟨t.val - 1, Nat.lt_of_le_of_lt (Nat.sub_le _ _) t.isLt⟩ p = left t p :=
    Fin.ext (by show (t.val - 1) / 4 * 512 + p.val = t.val / 4 * 512 + p.val; omega)
  have er : right ⟨t.val - 1, Nat.lt_of_le_of_lt (Nat.sub_le _ _) t.isLt⟩ q = right t q :=
    Fin.ext (by show (t.val - 1) / 2 % 2 * 2944 + q.val = t.val / 2 % 2 * 2944 + q.val; omega)
  rw [el, er] at hk
  rw [Gen.outsAt0_B m c t (by omega) h1 h1]
  frame_out
  rw [payOut]
  simp only [read_unread_whole]
  refine (payNext _ _ _ p q).trans ?_
  refine congrArg₂ (· + ·) hk (Finset.sum_congr rfl fun k _ => ?_)
  have e : row t k = ⟨(1 : Fin 2).val * 2048 + k.val, by omega⟩ := Fin.ext (by show t.val % 2 * 2048 + k.val = 1 * 2048 + k.val; rw [h1])
  rw [blk0, blk1, e]

/-- The whole product, an element at a time. -/
def whole (H : S4096x1024.Idx → EReal) (D : S4096x5888.Idx → EReal) (i : Fin 1024) (j : Fin 5888) : EReal :=
  ∑ k : Fin 4096, H (ix2 k i) * D (ix2 k j)

theorem whole_parts (H : S4096x1024.Idx → EReal) (D : S4096x5888.Idx → EReal) (i : Fin 1024) (j : Fin 5888) :
    part H D 0 i j + part H D 1 i j = whole H D i j :=
  (sum_row_halves fun k => H (ix2 k i) * D (ix2 k j)).symm

/-- The array after the call: each element is the product's sum over all rows. -/
theorem arr (c : Dev nD) (i : Fin 1024) (j : Fin 5888) :
    (Gen.dats m 0 c).arrAt 2 cfg0.N (ix2 i j)
      = whole (m ((c : Thread nD τ).loc main_arg0)) (m ((c : Thread nD τ).loc main_arg1)) i j := by
  refine (Gen.dats m 0 c).arrAt_forall_of_covers 2
    (fun e v => v = whole (m ((c : Thread nD τ).loc main_arg0)) (m ((c : Thread nD τ).loc main_arg1)) (e 0) (e 1))
    (by decide +kernel) (fun t hf y => ?_) (ix2 i j)
  blk_simp
  rw [Gen.after0_2]
  obtain ⟨p, q, rfl⟩ : ∃ (p : Fin 512) (q : Fin 2944), y = ix2 p q := ⟨y 0, y 1, eq_ix2 y⟩
  have e : ((View.whole main_v0).slice (win0_2.rect t)).emb (ix2 p q) = ix2 (left t p) (right t q) := by
    have h := (idx t).2.2
    refine at_pair ?_ ?_ <;> blk_simp <;> simp only [h.1, h.2, left, right] <;> omega
  rw [e]
  exact (written m c t ((Gen.flush0_2 t).mp hf) p q).trans (whole_parts _ _ _ _)

end Cert.Kernel3Ideal.DWin

end
-- ==== Proof.Project.DHid.lean ====
module
public import proofs.«01_k».proof.Proof.Gen.Kernel4Ideal.Frame
public import proofs.«01_k».proof.Proof.Project.Sums
public import Idealize.ShloMosaic.Lib.Pipeline.ValueKit
public import Idealize.ShloMosaic.Lib.Pipeline.ReadBack
public import Idealize.ShloMosaic.Lib.Pointwise

/-! The gradient of the normalised rows: the call adds, in a buffer that it keeps from one grid step to the next, the
    products of the two halves of the projection's columns, and writes a block out after the second half. -/

@[expose] public section

noncomputable section

namespace Cert.Kernel4Ideal.DHid

open Idealize.ShloMosaic Idealize.ShloMosaic.TcCoe Idealize.ShloMosaic.Tactic
open Idealize.SL.Sem
open Idealize.ShloMosaic.Pipeline (Dat Cfg Window)
open Cert.Half

/-- The product that the first step of a block stores. -/
theorem payFirst (d w : Vec Ideal S1024x2944 .bf16) (p q : Fin 1024) :
    Gen.k0_pay2 d w (ix2 p q) = ∑ k : Fin 2944, d (ix2 p k) * w (ix2 q k) := by
  unfold_payloads
  pointwise

/-- The second step adds its product. -/
theorem payNext (d w : Vec Ideal S1024x2944 .bf16) (a : Vec Ideal S1024x1024 .f32) (p q : Fin 1024) :
    Gen.k0_pay3 d w a (ix2 p q) = a (ix2 p q) + ∑ k : Fin 2944, d (ix2 p k) * w (ix2 q k) := by
  unfold_payloads
  pointwise

variable (m : (ℓ : Loc nD τ sig) → Buf (Elt Ideal) ℓ)

theorem idx : ∀ t : Fin grid0.N,
    (win0_0.index t 0 = t.val / 2 ∧ win0_0.index t 1 = t.val % 2) ∧
    (win0_1.index t 0 = 0 ∧ win0_1.index t 1 = t.val % 2) ∧
    (win0_2.index t 0 = t.val / 2 ∧ win0_2.index t 1 = 0) := by
  decide +kernel

theorem lt8 (t : Fin cfg0.N) : t.val < 8 := t.isLt.trans_eq (by decide +kernel)

/-- The row of the whole arrays that row `p` of a point's blocks is. -/
def row (t : Fin cfg0.N) (p : Fin 1024) : Fin 4096 := ⟨t.val / 2 * 1024 + p.val, by have := lt8 t; omega⟩
/-- The column of the cotangent and of the weight that column `k` of a point's blocks is. -/
def col (t : Fin cfg0.N) (k : Fin 2944) : Fin 5888 := ⟨t.val % 2 * 2944 + k.val, by omega⟩

theorem blk0 (c : Dev nD) (t : Fin cfg0.N) (p : Fin 1024) (k : Fin 2944) :
    Gen.iblk m c 0 t (ix2 p k) = m ((c : Thread nD τ).loc main_arg0) (ix2 (row t p) (col t k)) := by
  have h := (idx t).1
  blk_simp [Gen.iblk]
  refine congrArg (m ((c : Thread nD τ).loc main_arg0)) (at_pair ?_ ?_) <;> blk_simp <;> simp only [h.1, h.2, row, col] <;> omega

theorem blk1 (c : Dev nD) (t : Fin cfg0.N) (q : Fin 1024) (k : Fin 2944) :
    Gen.iblk m c 1 t (ix2 q k) = m ((c : Thread nD τ).loc main_arg1) (ix2 q (col t k)) := by
  have h := (idx t).2.1
  blk_simp [Gen.iblk]
  refine congrArg (m ((c : Thread nD τ).loc main_arg1)) (at_pair ?_ ?_) <;> blk_simp <;> simp only [h.1, h.2, col] <;> omega

/-- The products over the columns of one half, summed. -/
def part (D : S4096x5888.Idx → EReal) (W : S1024x5888.Idx → EReal) (s : Fin 2) (i : Fin 4096) (j : Fin 1024) : EReal :=
  ∑ k : Fin 2944, D (ix2 i ⟨s.val * 2944 + k.val, by omega⟩) * W (ix2 j ⟨s.val * 2944 + k.val, by omega⟩)

/-- The whole product, an element at a time. -/
def whole (D : S4096x5888.Idx → EReal) (W : S1024x5888.Idx → EReal) (i : Fin 4096) (j : Fin 1024) : EReal :=
  ∑ k : Fin 5888, D (ix2 i k) * W (ix2 j k)

theorem whole_parts (D : S4096x5888.Idx → EReal) (W : S1024x5888.Idx → EReal) (i : Fin 4096) (j : Fin 1024) :
    part D W 0 i j + part D W 1 i j = whole D W i j :=
  (sum_column_halves fun k => D (ix2 i k) * W (ix2 j k)).symm

/-- What the kept buffer holds after the first step of a block. -/
theorem kept (c : Dev nD) (t : Fin cfg0.N) (h0 : t.val % 2 = 0) (p q : Fin 1024) :
    (Gen.outsAt0 m c t.val t.isLt).2 (ix2 p q)
      = part (m ((c : Thread nD τ).loc main_arg0)) (m ((c : Thread nD τ).loc main_arg1)) 0 (row t p) q := by
  rw [Gen.outsAt0_A m c t h0 (by omega) (by omega)]
  frame_out
  refine (payFirst _ _ p q).trans (Finset.sum_congr rfl fun k _ => ?_)
  have e : col t k = ⟨(0 : Fin 2).val * 2944 + k.val, by omega⟩ := Fin.ext (by show t.val % 2 * 2944 + k.val = 0 * 2944 + k.val; rw [h0])
  rw [blk0, blk1, e]

/-- What the second step of a block writes out. -/
theorem written (c : Dev nD) (t : Fin cfg0.N) (h1 : t.val % 2 = 1) (p q : Fin 1024) :
    (Gen.outsAt0 m c t.val t.isLt).1 (ix2 p q)
      = whole (m ((c : Thread nD τ).loc main_arg0)) (m ((c : Thread nD τ).loc main_arg1)) (row t p) q := by
  have hk := kept m c ⟨t.val - 1, Nat.lt_of_le_of_lt (Nat.sub_le _ _) t.isLt⟩ (by show (t.val - 1) % 2 = 0; omega) p q
  have er : row ⟨t.val - 1, Nat.lt_of_le_of_lt (Nat.sub_le _ _) t.isLt⟩ p = row t p :=
    Fin.ext (by show (t.val - 1) / 2 * 1024 + p.val = t.val / 2 * 1024 + p.val; omega)
  rw [er] at hk
  rw [Gen.outsAt0_B m c t (by omega) h1 h1]
  frame_out
  simp only [read_unread_whole]
  refine ((payNext _ _ _ p q).trans ?_).trans (whole_parts _ _ _ _)
  refine congrArg₂ (· + ·) hk (Finset.sum_congr rfl fun k _ => ?_)
  have e : col t k = ⟨(1 : Fin 2).val * 2944 + k.val, by omega⟩ := Fin.ext (by show t.val % 2 * 2944 + k.val = 1 * 2944 + k.val; rw [h1])
  rw [blk0, blk1, e]

/-- The array after the call: each element is the product's sum over all columns. -/
theorem arr (c : Dev nD) (i : Fin 4096) (j : Fin 1024) :
    (Gen.dats m 0 c).arrAt 2 cfg0.N (ix2 i j)
      = whole (m ((c : Thread nD τ).loc main_arg0)) (m ((c : Thread nD τ).loc main_arg1)) i j := by
  refine (Gen.dats m 0 c).arrAt_forall_of_covers 2
    (fun e v => v = whole (m ((c : Thread nD τ).loc main_arg0)) (m ((c : Thread nD τ).loc main_arg1)) (e 0) (e 1))
    (by decide +kernel) (fun t hf y => ?_) (ix2 i j)
  blk_simp
  rw [Gen.after0_2]
  obtain ⟨p, q, rfl⟩ : ∃ p q : Fin 1024, y = ix2 p q := ⟨y 0, y 1, eq_ix2 y⟩
  have e : ((View.whole main_v0).slice (win0_2.rect t)).emb (ix2 p q) = ix2 (row t p) q := by
    have h := (idx t).2.2
    refine at_pair ?_ ?_ <;> blk_simp <;> simp only [h.1, h.2, row] <;> omega
  rw [e]
  exact written m c t ((Gen.flush0_2 t).mp hf) p q

end Cert.Kernel4Ideal.DHid

end
-- ==== Proof.Project.Reference.lean ====
module
public import proofs.«01_k».proof.Proof.Gen.Reference2Ideal.Read
public import proofs.«01_k».proof.Proof.Gen.Reference3Ideal.Read
public import proofs.«01_k».proof.Proof.Gen.Reference4Ideal.Read
public import proofs.«01_k».proof.Proof.Project.Rows

/-! The references of the combined projection and of its two gradients, an element at a time. -/

@[expose] public section

noncomputable section

namespace Cert.Reference2Ideal.Real

open Idealize.ShloMosaic Cert.Half Cert.Reference2Ideal.Read

variable (x : FVec Ideal S2x2048x1024 .f32) (g : FVec Ideal S1024 .f32) (w : FVec Ideal S1024x5888 .f32)

theorem normed_at (b : Fin 2) (s : Fin 2048) (k : Fin 1024) :
    val_main_v12 (F := Ideal) x g (ix3 b s k) = normed (fun l => x (ix3 b s l)) (fun l => g (ix1 l)) k := by
  have h₁ : val_main_v1 (F := Ideal) x (ix2 b s) = ∑ l, x (ix3 b s l) * x (ix3 b s l) := by
    rw [val_main_v1_apply]
    refine (congrArg₂ (· + ·) (show val_main_cst (F := Ideal) _ = 0 from Ideal.ofBits_zero_f32)
      (Finset.sum_congr rfl fun l _ => ?_)).trans (zero_add _)
    have hl : idx_main_v1 (ix2 b s) l = ix3 b s l := at_triple rfl rfl rfl
    rw [hl]
    rfl
  have h₂ : val_main_v2 (F := Ideal) x (ix3 b s 0) = ∑ l, x (ix3 b s l) * x (ix3 b s l) := by
    rw [val_main_v2_apply]
    exact (congrArg _ (at_pair (i := b) (j := s) rfl rfl)).trans h₁
  have h₃ : val_main_v3 (F := Ideal) (ix3 b s 0) = Ideal.ofBits .f32 0x44800000#32 := by
    rw [val_main_v3_apply]; rfl
  have h₅ : val_main_v5 (F := Ideal) (ix3 b s 0) = Ideal.ofBits .f32 0x358637BD#32 := by
    rw [val_main_v5_apply]; rfl
  have h₇ : val_main_v7 (F := Ideal) x (ix3 b s 0) = Ideal.rsqrt (Ideal.div (∑ l, x (ix3 b s l) * x (ix3 b s l))
      (Ideal.ofBits .f32 0x44800000#32) + Ideal.ofBits .f32 0x358637BD#32) :=
    congrArg Ideal.rsqrt (congrArg₂ (· + ·) (congrArg₂ Ideal.div h₂ h₃) h₅)
  have h₈ : val_main_v8 (F := Ideal) x (ix3 b s k) = val_main_v7 (F := Ideal) x (ix3 b s 0) := by
    rw [val_main_v8_apply]
    exact congrArg _ (at_triple (i := b) (j := s) (q := (0 : Fin 1)) rfl rfl rfl)
  have h₁₁ : val_main_v11 (F := Ideal) g (ix3 b s k) = g (ix1 k) := by
    rw [val_main_v11_apply, val_main_v10_apply]
    refine congrArg g ?_
    funext a
    match a with
    | ⟨0, _⟩ => rfl
  exact congrArg₂ (· * ·) (congrArg (x (ix3 b s k) * ·) (h₈.trans h₇)) h₁₁

/-- The projection. -/
theorem out_at (b : Fin 2) (s : Fin 2048) (f : Fin 5888) :
    val_main_v13 (F := Ideal) x g w (ix3 b s f)
      = projected (fun l => x (ix3 b s l)) (fun l => g (ix1 l)) (fun k => w (ix2 k f)) := by
  rw [val_main_v13_apply]
  refine Finset.sum_congr rfl fun k _ => ?_
  have hl : lidx_main_v13 (ix3 b s f) k = ix3 b s k := at_triple rfl rfl rfl
  have hr : ridx_main_v13 (ix3 b s f) k = ix2 k f := at_pair rfl rfl
  rw [hl, hr, normed_at]

end Cert.Reference2Ideal.Real

namespace Cert.Reference3Ideal.Real

open Idealize.ShloMosaic Cert.Half Cert.Reference3Ideal.Read

/-- The gradient of the weight. -/
theorem out_at (h : FVec Ideal S4096x1024 .bf16) (d : FVec Ideal S4096x5888 .bf16) (i : Fin 1024) (j : Fin 5888) :
    val_main_v6 (F := Ideal) h d (ix2 i j) = ∑ k : Fin 4096, h (ix2 k i) * d (ix2 k j) := by
  have e : idx_main_v5 (ix2 i j) = ix2 j i := at_pair rfl rfl
  refine (val_main_v6_apply (F := Ideal) h d (ix2 i j)).trans ((val_main_v5_apply (F := Ideal) h d (ix2 i j)).trans ?_)
  rw [e, val_main_v4_apply]
  refine Finset.sum_congr rfl fun k _ => ?_
  have hl : lidx_main_v4 (ix2 j i) k = ix2 k j := at_pair rfl rfl
  have hr : ridx_main_v4 (ix2 j i) k = ix2 k i := at_pair rfl rfl
  rw [hl, hr]
  exact mul_comm _ _

end Cert.Reference3Ideal.Real

namespace Cert.Reference4Ideal.Real

open Idealize.ShloMosaic Cert.Half Cert.Reference4Ideal.Read

/-- The gradient of the rows. -/
theorem out_at (d : FVec Ideal S4096x5888 .bf16) (w : FVec Ideal S1024x5888 .bf16) (i : Fin 4096) (j : Fin 1024) :
    val_main_v4 (F := Ideal) d w (ix2 i j) = ∑ k : Fin 5888, d (ix2 i k) * w (ix2 j k) := by
  rw [val_main_v4_apply]
  refine Finset.sum_congr rfl fun k _ => ?_
  have hl : lidx_main_v4 (ix2 i j) k = ix2 i k := at_pair rfl rfl
  have hr : ridx_main_v4 (ix2 i j) k = ix2 j k := at_pair rfl rfl
  rw [hl, hr]
  rfl

end Cert.Reference4Ideal.Real

end
-- ==== Proof.Merge.Ends.lean ====
module
public import proofs.«01_k».proof.Proof.Gen.Kernel5Ideal.Frame

/-! The run of the merge program, with what its result arrays hold at the end: the contents at the last boundary of
    the program's items. The launch is set up as the frame's is; what is read off the last state is more. -/

@[expose] public section

set_option maxRecDepth 16384

noncomputable section

namespace Cert.Kernel5Ideal.Ends

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair run ends with the result arrays at the last boundary's contents and the arguments as launched. -/
theorem ends : θ_run defs (onTc (τ := τ) (main (F := F))) ⟨m, fun _ => 0, ρ⟩ (fun r => ∀ c : Dev nD,
      r.2.mem ((c.tc : Thread nD τ).loc main_v17) = W14 m ρ c (Proc.devRef .tc main_v17)
      ∧ r.2.mem ((c.tc : Thread nD τ).loc main_v18) = W14 m ρ c (Proc.devRef .tc main_v18)
      ∧ r.2.mem ((c.tc : Thread nD τ).loc main_v15) = W14 m ρ c (Proc.devRef .tc main_v15)
      ∧ r.2.mem ((c.tc : Thread nD τ).loc main_v16) = W14 m ρ c (Proc.devRef .tc main_v16)
      ∧ r.2.mem ((c.tc : Thread nD τ).loc main_v13) = W14 m ρ c (Proc.devRef .tc main_v13)
      ∧ r.2.mem ((c.tc : Thread nD τ).loc main_v14) = W14 m ρ c (Proc.devRef .tc main_v14)
      ∧ r.2.mem ((c.tc : Thread nD τ).loc main_v10) = W14 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ c =>
      ⟨h c _ (mem_uc main_v17 (by decide)),
       h c _ (mem_uc main_v18 (by decide)),
       h c _ (mem_uc main_v15 (by decide)),
       h c _ (mem_uc main_v16 (by decide)),
       h c _ (mem_uc main_v13 (by decide)),
       h c _ (mem_uc main_v14 (by decide)),
       h c _ (mem_uc main_v10 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.Kernel5Ideal.Ends

end
-- ==== Proof.Merge.Spec.lean ====
module
public import proofs.«01_k».proof.Proof.Rows

/-! The gated merge of the two attentions, the output product and their gradients, as matrices of extended reals: no
    element need be finite. The two branches are numbered 0 (dilated) and 1 (neighbourhood). -/

@[expose] public section

noncomputable section

namespace Cert.Merge

open Idealize.ShloMosaic

abbrev EMat (m n : ℕ) : Type := Fin m → Fin n → EReal

/-- The elements of an array are those of the matrix. -/
def Holds {m n : ℕ} (v : (⟨2, ![m, n]⟩ : Shape).Idx → EReal) (A : EMat m n) : Prop := ∀ i j, v (ix2 i j) = A i j

theorem Holds.unique {m n : ℕ} {v w : (⟨2, ![m, n]⟩ : Shape).Idx → EReal} {A : EMat m n} (hv : Holds v A) (hw : Holds w A) :
    v = w := by
  funext k
  rw [eq_ix2 k]
  exact (hv _ _).trans (hw _ _).symm

/-- The two branches' matrices, one after the other in an array of three axes. -/
def Slabs {m n : ℕ} (v : (⟨3, ![2, m, n]⟩ : Shape).Idx → EReal) (Z : Fin 2 → EMat m n) : Prop :=
  ∀ s i j, v (ix3 s i j) = Z s i j

/-- The column of the projection that holds column `j` of branch `s`'s gate. -/
def gateCol (s : Fin 2) (j : Fin 1024) : Fin 5888 := ⟨3840 + s.val * 1024 + j.val, by omega⟩

/-- The gates' columns of the projection hold the two branches' matrices. -/
def Gates (v : (⟨2, ![4096, 5888]⟩ : Shape).Idx → EReal) (G : Fin 2 → EMat 4096 1024) : Prop :=
  ∀ s i j, v (ix2 i (gateCol s j)) = G s i j

/-- The column of the logits' gradient that holds column `j` of branch `s`'s. -/
def wideCol (s : Fin 2) (j : Fin 1024) : Fin 2048 := ⟨s.val * 1024 + j.val, by omega⟩

theorem wideCol_divMod (k : Fin 2048) : wideCol ⟨k.val / 1024, by omega⟩ ⟨k.val % 1024, by omega⟩ = k := by
  apply Fin.ext
  show k.val / 1024 * 1024 + k.val % 1024 = k.val
  omega

/-- The two branches' matrices, side by side. -/
def Wide (v : (⟨2, ![4096, 2048]⟩ : Shape).Idx → EReal) (G : Fin 2 → EMat 4096 1024) : Prop :=
  ∀ s i j, v (ix2 i (wideCol s j)) = G s i j

theorem Wide.unique {v w : (⟨2, ![4096, 2048]⟩ : Shape).Idx → EReal} {G : Fin 2 → EMat 4096 1024} (hv : Wide v G)
    (hw : Wide w G) : v = w := by
  funext k
  obtain ⟨i, j, rfl⟩ : ∃ (i : Fin 4096) (j : Fin 2048), k = ix2 i j := ⟨k 0, k 1, eq_ix2 k⟩
  rw [← wideCol_divMod j]
  exact (hv _ _ _).trans (hw _ _ _).symm

/-- An array of two sequences holds, token by token, the rows of a matrix. -/
def Tokens {n : ℕ} (v : (⟨3, ![2, 2048, n]⟩ : Shape).Idx → EReal) (A : EMat 4096 n) : Prop :=
  ∀ b s j, v (ix3 b s j) = A (Half.flat b s) j

theorem Tokens.unique {n : ℕ} {v w : (⟨3, ![2, 2048, n]⟩ : Shape).Idx → EReal} {A : EMat 4096 n} (hv : Tokens v A)
    (hw : Tokens w A) : v = w := by
  funext k
  rw [eq_ix3 k]
  exact (hv _ _ _).trans (hw _ _ _).symm

/-- The three products: plain, with the second factor transposed, with the first transposed. -/
def nn {m k n : ℕ} (A : EMat m k) (B : EMat k n) : EMat m n := fun i j => ∑ l, A i l * B l j

def nt {m k n : ℕ} (A : EMat m k) (B : EMat n k) : EMat m n := fun i j => ∑ l, A i l * B j l

def tn {m k n : ℕ} (A : EMat k m) (B : EMat k n) : EMat m n := fun i j => ∑ l, A l i * B l j

/-- The gated sum of the branches. -/
def blend (G Z : Fin 2 → EMat 4096 1024) : EMat 4096 1024 := fun i j =>
  Ideal.logistic (G 0 i j) * Z 0 i j + Ideal.logistic (G 1 i j) * Z 1 i j

/-- The gradient of a branch, from the sum's. -/
def dbranch (D : EMat 4096 1024) (G : Fin 2 → EMat 4096 1024) (s : Fin 2) : EMat 4096 1024 := fun i j =>
  D i j * Ideal.logistic (G s i j)

/-- The gradient of a gate's logits, from the sum's. -/
def dgate (D : EMat 4096 1024) (G Z : Fin 2 → EMat 4096 1024) (s : Fin 2) : EMat 4096 1024 := fun i j =>
  D i j * Z s i j * Ideal.logistic (G s i j) * (1 - Ideal.logistic (G s i j))

/-- The arguments: the rows, the gates' logits, the two attentions' outputs, the three weights, the cotangent. -/
structure Given where
  X : EMat 4096 1024
  G : Fin 2 → EMat 4096 1024
  YA : EMat 4096 256
  YB : EMat 4096 512
  A : EMat 256 1024
  B : EMat 512 1024
  O : EMat 1024 1024
  D : EMat 4096 1024

namespace Given

variable (a : Given)

/-- The branches' products. -/
def Z (s : Fin 2) : EMat 4096 1024 := if s = 0 then nn a.YA a.A else nn a.YB a.B

def M : EMat 4096 1024 := blend a.G a.Z

/-- The mixer's output. -/
def out : EMat 4096 1024 := fun i j => nn a.M a.O i j + a.X i j

def dM : EMat 4096 1024 := nt a.D a.O

def dZ (s : Fin 2) : EMat 4096 1024 := dbranch a.dM a.G s

def dG (s : Fin 2) : EMat 4096 1024 := dgate a.dM a.G a.Z s

end Given

/-- The arguments, as the programs are given them, are those of `a`. -/
structure Reads (x : FVec Ideal ⟨3, ![2, 2048, 1024]⟩ .f32) (p : FVec Ideal ⟨2, ![4096, 5888]⟩ .f32)
    (ya : FVec Ideal ⟨2, ![4096, 256]⟩ .bf16) (yb : FVec Ideal ⟨2, ![4096, 512]⟩ .bf16)
    (wa : FVec Ideal ⟨2, ![256, 1024]⟩ .f32) (wb : FVec Ideal ⟨2, ![512, 1024]⟩ .f32)
    (wo : FVec Ideal ⟨2, ![1024, 1024]⟩ .f32) (dy : FVec Ideal ⟨3, ![2, 2048, 1024]⟩ .f32) (a : Given) : Prop where
  x : Tokens x a.X
  g : Gates p a.G
  ya : Holds ya a.YA
  yb : Holds yb a.YB
  wa : Holds wa a.A
  wb : Holds wb a.B
  wo : Holds wo a.O
  dy : Tokens dy a.D

/-- Any arguments are those of some `a`. -/
theorem reads (x : FVec Ideal ⟨3, ![2, 2048, 1024]⟩ .f32) (p : FVec Ideal ⟨2, ![4096, 5888]⟩ .f32)
    (ya : FVec Ideal ⟨2, ![4096, 256]⟩ .bf16) (yb : FVec Ideal ⟨2, ![4096, 512]⟩ .bf16)
    (wa : FVec Ideal ⟨2, ![256, 1024]⟩ .f32) (wb : FVec Ideal ⟨2, ![512, 1024]⟩ .f32)
    (wo : FVec Ideal ⟨2, ![1024, 1024]⟩ .f32) (dy : FVec Ideal ⟨3, ![2, 2048, 1024]⟩ .f32) :
    ∃ a, Reads x p ya yb wa wb wo dy a := by
  have back : ∀ (v : FVec Ideal ⟨3, ![2, 2048, 1024]⟩ .f32) (b : Fin 2) (s : Fin 2048) (j : Fin 1024),
      v (ix3 b s j) = v (ix3 ⟨(Half.flat b s).val / 2048, by omega⟩ ⟨(Half.flat b s).val % 2048, by omega⟩ j) := by
    intro v b s j
    have hb : b.val = (b.val * 2048 + s.val) / 2048 := by omega
    have hs : s.val = (b.val * 2048 + s.val) % 2048 := by omega
    exact congrArg v (Half.at_triple hb hs rfl)
  exact ⟨⟨fun r j => x (ix3 ⟨r.val / 2048, by omega⟩ ⟨r.val % 2048, by omega⟩ j), fun s i j => p (ix2 i (gateCol s j)),
    fun i j => ya (ix2 i j), fun i j => yb (ix2 i j), fun i j => wa (ix2 i j), fun i j => wb (ix2 i j), fun i j => wo (ix2 i j),
    fun r j => dy (ix3 ⟨r.val / 2048, by omega⟩ ⟨r.val % 2048, by omega⟩ j)⟩,
    ⟨back x, fun _ _ _ => rfl, fun _ _ => rfl, fun _ _ => rfl, fun _ _ => rfl, fun _ _ => rfl, fun _ _ => rfl, back dy⟩⟩

end Cert.Merge

end
-- ==== Proof.Merge.Call.ZA.lean ====
module
public import proofs.«01_k».proof.Proof.Gen.Kernel5Ideal.Frame.Region0
public import proofs.«01_k».proof.Proof.Merge.Spec
public import Idealize.ShloMosaic.Lib.Pipeline.ValueKit
public import Idealize.ShloMosaic.Lib.Pointwise

/-! The dilated attention's branch: the call writes its product into the first slab of the branches' array. -/

@[expose] public section

noncomputable section

namespace Cert.Kernel5Ideal.ZA

open Idealize.ShloMosaic Idealize.ShloMosaic.TcCoe Idealize.ShloMosaic.Tactic
open Idealize.SL.Sem
open Idealize.ShloMosaic.Pipeline (Dat Cfg Window)
open Cert.Half Cert.Merge

/-- One block. -/
theorem pay (x : Vec Ideal S4096x256 .bf16) (w : Vec Ideal S256x256 .bf16) (A : EMat 4096 256) (B : EMat 256 256)
    (hx : Holds x A) (hw : Holds w B) (p : Fin 4096) (q : Fin 256) : Gen.k0_pay1 x w (ix3 0 p q) = Merge.nn A B p q := by
  unfold_payloads
  pointwise
  simp only [hx _ _, hw _ _]
  rfl

variable (V : (c : Dev nD) → (b : Ref sig .tc) → Buf (Elt Ideal) ((c : Thread nD τ).loc b))

theorem idx : ∀ t : Fin grid0.N, (win0_0.index t 0 = 0 ∧ win0_0.index t 1 = 0) ∧
    (win0_1.index t 0 = 0 ∧ win0_1.index t 1 = t.val) ∧
    (win0_2.index t 0 = 0 ∧ win0_2.index t 1 = 0 ∧ win0_2.index t 2 = t.val) := by
  decide +kernel

theorem lt4 (t : Fin cfg0.N) : t.val < 4 := t.isLt.trans_eq (by decide +kernel)

/-- The column of the array that column `q` of block `t` is. -/
def col (t : Fin cfg0.N) (q : Fin 256) : Fin 1024 := ⟨t.val * 256 + q.val, by have := lt4 t; omega⟩

theorem blk0 (c : Dev nD) (A : EMat 4096 256) (hA : Holds (V c main_arg2) A) (t : Fin cfg0.N) :
    Holds (Gen.iblk0 V c 0 t) A := by
  intro i j
  have h := (idx t).1
  blk_simp [Gen.iblk0]
  refine (congrArg (V c main_arg2) (at_pair ?_ ?_)).trans (hA _ _) <;> blk_simp <;> simp only [h.1, h.2] <;> omega

theorem blk1 (c : Dev nD) (B : EMat 256 1024) (hB : Holds (V c main_v3) B) (t : Fin cfg0.N) :
    Holds (Gen.iblk0 V c 1 t) (fun i j => B i (col t j)) := by
  intro i j
  have h := (idx t).2.1
  blk_simp [Gen.iblk0]
  refine (congrArg (V c main_v3) (at_pair ?_ ?_)).trans (hB _ _) <;> blk_simp <;> simp only [h.1, h.2, col] <;> omega

/-- The first slab after the call. -/
theorem arr (c : Dev nD) (A : EMat 4096 256) (B : EMat 256 1024) (hA : Holds (V c main_arg2) A) (hB : Holds (V c main_v3) B)
    (r : Fin 4096) (f : Fin 1024) : (Gen.dat0 V c).arrAt 2 cfg0.N (ix3 0 r f) = Merge.nn A B r f := by
  refine (Gen.dat0 V c).arrAt_forall_of_coversWhere 2
    (fun i v => ∀ (r : Fin 4096) (f : Fin 1024), (i 1).val = r.val → (i 2).val = f.val → (i 0).val = 0 → v = Merge.nn A B r f)
    (fun β => ∀ h : 0 < 3, β ⟨0, h⟩ = 0) (by decide +kernel) (fun t hf y => ?_) (fun j hj => ?_)
    (ix3 0 r f) (Memref.isWhole_whole _) r f rfl rfl rfl
  · blk_simp
    rw [Gen.after0_2]
    frame_out
    obtain ⟨o, p, q, rfl⟩ : ∃ (o : Fin 1) (p : Fin 4096) (q : Fin 256), y = ix3 o p q := ⟨y 0, y 1, y 2, eq_ix3 y⟩
    obtain rfl : o = 0 := Subsingleton.elim _ _
    have h := (idx t).2.2
    intro r f hr hf _
    have hr' : win0_2.index t 1 * 4096 + p.val = r.val := hr
    have hf' : win0_2.index t 2 * 256 + q.val = f.val := hf
    rw [h.2.1] at hr'
    rw [h.2.2] at hf'
    obtain rfl : p = r := Fin.ext (by omega)
    obtain rfl : col t q = f := Fin.ext hf'
    exact pay _ _ _ _ (blk0 V c A hA t) (blk1 V c B hB t) p q
  · intro r f hr hf h0
    refine absurd (fun h => ?_) hj
    rw [Pipeline.Window.cell_apply]
    have hj0 : (j ⟨0, h⟩).val = 0 := h0
    rw [hj0]
    exact Nat.zero_div _

end Cert.Kernel5Ideal.ZA

end
-- ==== Proof.Merge.Call.ZB.lean ====
module
public import proofs.«01_k».proof.Proof.Gen.Kernel5Ideal.Frame.Region1
public import proofs.«01_k».proof.Proof.Merge.Spec
public import Idealize.ShloMosaic.Lib.Pipeline.ValueKit
public import Idealize.ShloMosaic.Lib.Pointwise

/-! The neighbourhood attention's branch: the call writes its product into the second slab of the array that holds the first. -/

@[expose] public section

noncomputable section

namespace Cert.Kernel5Ideal.ZB

open Idealize.ShloMosaic Idealize.ShloMosaic.TcCoe Idealize.ShloMosaic.Tactic
open Idealize.SL.Sem
open Idealize.ShloMosaic.Pipeline (Dat Cfg Window)
open Cert.Half Cert.Merge

/-- One block. -/
theorem pay (x : Vec Ideal S4096x512 .bf16) (w : Vec Ideal S512x256 .bf16) (A : EMat 4096 512) (B : EMat 512 256)
    (hx : Holds x A) (hw : Holds w B) (p : Fin 4096) (q : Fin 256) : Gen.k1_pay1 x w (ix3 0 p q) = Merge.nn A B p q := by
  unfold_payloads
  pointwise
  simp only [hx _ _, hw _ _]
  rfl

variable (V : (c : Dev nD) → (b : Ref sig .tc) → Buf (Elt Ideal) ((c : Thread nD τ).loc b))

theorem idx : ∀ t : Fin grid1.N, (win1_0.index t 0 = 0 ∧ win1_0.index t 1 = 0) ∧
    (win1_1.index t 0 = 0 ∧ win1_1.index t 1 = t.val) ∧
    (win1_2.index t 0 = 1 ∧ win1_2.index t 1 = 0 ∧ win1_2.index t 2 = t.val) := by
  decide +kernel

theorem lt4 (t : Fin cfg1.N) : t.val < 4 := t.isLt.trans_eq (by decide +kernel)

/-- The column of the array that column `q` of block `t` is. -/
def col (t : Fin cfg1.N) (q : Fin 256) : Fin 1024 := ⟨t.val * 256 + q.val, by have := lt4 t; omega⟩

theorem blk0 (c : Dev nD) (A : EMat 4096 512) (hA : Holds (V c main_arg3) A) (t : Fin cfg1.N) :
    Holds (Gen.iblk1 V c 0 t) A := by
  intro i j
  have h := (idx t).1
  blk_simp [Gen.iblk1]
  refine (congrArg (V c main_arg3) (at_pair ?_ ?_)).trans (hA _ _) <;> blk_simp <;> simp only [h.1, h.2] <;> omega

theorem blk1 (c : Dev nD) (B : EMat 512 1024) (hB : Holds (V c main_v4) B) (t : Fin cfg1.N) :
    Holds (Gen.iblk1 V c 1 t) (fun i j => B i (col t j)) := by
  intro i j
  have h := (idx t).2.1
  blk_simp [Gen.iblk1]
  refine (congrArg (V c main_v4) (at_pair ?_ ?_)).trans (hB _ _) <;> blk_simp <;> simp only [h.1, h.2, col] <;> omega

/-- The array after the call: what it held in the first slab, and the product in the second. -/
theorem arr (c : Dev nD) (A : EMat 4096 512) (B : EMat 512 1024) (Z : EMat 4096 1024) (hA : Holds (V c main_arg3) A)
    (hB : Holds (V c main_v4) B) (hZ : ∀ r f, V c main_v7 (ix3 0 r f) = Z r f) :
    Slabs ((Gen.dat1 V c).arrAt 2 cfg1.N) (fun s => if s = 0 then Z else Merge.nn A B) := by
  have key := fun (s : Fin 2) (r : Fin 4096) (f : Fin 1024) => (Gen.dat1 V c).arrAt_forall_of_coversWhere 2
    (fun i v => (∀ (r : Fin 4096) (f : Fin 1024), (i 0).val = 0 → (i 1).val = r.val → (i 2).val = f.val → v = Z r f)
      ∧ ∀ (r : Fin 4096) (f : Fin 1024), (i 0).val = 1 → (i 1).val = r.val → (i 2).val = f.val → v = Merge.nn A B r f)
    (fun β => ∀ h : 0 < 3, β ⟨0, h⟩ = 1) (by decide +kernel) (fun t hf y => ?_) (fun j hj => ?_)
    (ix3 s r f) (Memref.isWhole_whole _)
  · intro s r f
    match s with
    | ⟨0, _⟩ => exact (key 0 r f).1 r f rfl rfl rfl
    | ⟨1, _⟩ => exact (key 1 r f).2 r f rfl rfl rfl
  · blk_simp
    rw [Gen.after1_2]
    unfold Gen.outsAt1
    frame_out
    obtain ⟨o, p, q, rfl⟩ : ∃ (o : Fin 1) (p : Fin 4096) (q : Fin 256), y = ix3 o p q := ⟨y 0, y 1, y 2, eq_ix3 y⟩
    have h := (idx t).2.2
    refine ⟨fun r f h0 _ _ => ?_, fun r f _ hr hf => ?_⟩
    · have h0' : win1_2.index t 0 = 0 := h0
      rw [h.1] at h0'
      exact absurd h0' Nat.one_ne_zero
    · obtain rfl : o = 0 := Subsingleton.elim _ _
      have hr' : win1_2.index t 1 * 4096 + p.val = r.val := hr
      have hf' : win1_2.index t 2 * 256 + q.val = f.val := hf
      rw [h.2.1] at hr'
      rw [h.2.2] at hf'
      obtain rfl : p = r := Fin.ext (by omega)
      obtain rfl : col t q = f := Fin.ext hf'
      exact pay _ _ _ _ (blk0 V c A hA t) (blk1 V c B hB t) p q
  · rw [Gen.A_eq1]
    refine ⟨fun r f h0 hr hf => ?_, fun r f h0 _ _ => ?_⟩
    · have e : (show (⟨3, ![2, 4096, 1024]⟩ : Shape).Idx from j) = ix3 0 r f := at_triple h0 hr hf
      refine Eq.trans ?_ (hZ r f)
      rw [← e]
      rfl
    · refine absurd (fun h => ?_) hj
      rw [Pipeline.Window.cell_apply]
      have hj0 : (j ⟨0, h⟩).val = 1 := h0
      rw [hj0]
      exact Nat.div_one 1

end Cert.Kernel5Ideal.ZB

end
-- ==== Proof.Merge.Call.Gate.lean ====
module
public import proofs.«01_k».proof.Proof.Gen.Kernel5Ideal.Frame.Region2
public import proofs.«01_k».proof.Proof.Merge.Spec
public import Idealize.ShloMosaic.Lib.Pipeline.ValueKit
public import Idealize.ShloMosaic.Lib.Pointwise

/-! The gated sum of the two branches, a block of 2048 rows and 256 columns a step. -/

@[expose] public section

noncomputable section

namespace Cert.Kernel5Ideal.Gate

open Idealize.ShloMosaic Idealize.ShloMosaic.TcCoe Idealize.ShloMosaic.Tactic
open Idealize.SL.Sem
open Idealize.ShloMosaic.Pipeline (Dat Cfg Window)
open Cert.Half Cert.Merge

/-- One block. -/
theorem pay (g h : Vec Ideal S2048x256 .f32) (u v : Vec Ideal S1x2048x256 .f32) (p : Fin 2048) (q : Fin 256) :
    Gen.k2_pay1 g u h v (ix2 p q)
      = Ideal.logistic (g (ix2 p q)) * u (ix3 0 p q) + Ideal.logistic (h (ix2 p q)) * v (ix3 0 p q) := by
  unfold_payloads
  pointwise

variable (V : (c : Dev nD) → (b : Ref sig .tc) → Buf (Elt Ideal) ((c : Thread nD τ).loc b))

theorem idx : ∀ t : Fin grid2.N, (win2_0.index t 0 = t.val / 4 ∧ win2_0.index t 1 = 15 + t.val % 4) ∧
    (win2_1.index t 0 = t.val / 4 ∧ win2_1.index t 1 = 19 + t.val % 4) ∧
    (win2_2.index t 0 = 0 ∧ win2_2.index t 1 = t.val / 4 ∧ win2_2.index t 2 = t.val % 4) ∧
    (win2_3.index t 0 = 1 ∧ win2_3.index t 1 = t.val / 4 ∧ win2_3.index t 2 = t.val % 4) ∧
    (win2_4.index t 0 = t.val / 4 ∧ win2_4.index t 1 = t.val % 4) := by
  decide +kernel

theorem lt8 (t : Fin cfg2.N) : t.val < 8 := t.isLt.trans_eq (by decide +kernel)

/-- The row and the column of the array that an element of block `t` has. -/
def row (t : Fin cfg2.N) (p : Fin 2048) : Fin 4096 := ⟨t.val / 4 * 2048 + p.val, by have := lt8 t; omega⟩

def col (t : Fin cfg2.N) (q : Fin 256) : Fin 1024 := ⟨t.val % 4 * 256 + q.val, by omega⟩

theorem blk0 (c : Dev nD) (G : Fin 2 → EMat 4096 1024) (hG : Gates (V c main_arg1) G) (t : Fin cfg2.N) (p : Fin 2048)
    (q : Fin 256) : Gen.iblk2 V c 0 t (ix2 p q) = G 0 (row t p) (col t q) := by
  have h := (idx t).1
  blk_simp [Gen.iblk2]
  refine (congrArg (V c main_arg1) (at_pair ?_ ?_)).trans (hG 0 _ _) <;> blk_simp <;>
    simp only [h.1, h.2, row, col, gateCol, Fin.val_zero] <;> omega

theorem blk1 (c : Dev nD) (G : Fin 2 → EMat 4096 1024) (hG : Gates (V c main_arg1) G) (t : Fin cfg2.N) (p : Fin 2048)
    (q : Fin 256) : Gen.iblk2 V c 1 t (ix2 p q) = G 1 (row t p) (col t q) := by
  have h := (idx t).2.1
  blk_simp [Gen.iblk2]
  refine (congrArg (V c main_arg1) (at_pair ?_ ?_)).trans (hG 1 _ _) <;> blk_simp <;>
    simp only [h.1, h.2, row, col, gateCol, Fin.val_one] <;> omega

theorem blk2 (c : Dev nD) (Z : Fin 2 → EMat 4096 1024) (hZ : Slabs (V c main_v7) Z) (t : Fin cfg2.N) (p : Fin 2048)
    (q : Fin 256) : Gen.iblk2 V c 2 t (ix3 0 p q) = Z 0 (row t p) (col t q) := by
  have h := (idx t).2.2.1
  blk_simp [Gen.iblk2]
  refine (congrArg (V c main_v7) (at_triple ?_ ?_ ?_)).trans (hZ 0 _ _) <;> blk_simp <;>
    simp only [h.1, h.2.1, h.2.2, row, col, Fin.val_zero] <;> omega

theorem blk3 (c : Dev nD) (Z : Fin 2 → EMat 4096 1024) (hZ : Slabs (V c main_v7) Z) (t : Fin cfg2.N) (p : Fin 2048)
    (q : Fin 256) : Gen.iblk2 V c 3 t (ix3 0 p q) = Z 1 (row t p) (col t q) := by
  have h := (idx t).2.2.2.1
  blk_simp [Gen.iblk2]
  refine (congrArg (V c main_v7) (at_triple ?_ ?_ ?_)).trans (hZ 1 _ _) <;> blk_simp <;>
    simp only [h.1, h.2.1, h.2.2, row, col, Fin.val_zero, Fin.val_one] <;> omega

/-- The array after the call. -/
theorem arr (c : Dev nD) (G Z : Fin 2 → EMat 4096 1024) (hG : Gates (V c main_arg1) G) (hZ : Slabs (V c main_v7) Z) :
    Holds ((Gen.dat2 V c).arrAt 4 cfg2.N) (blend G Z) := by
  intro r f
  refine (Gen.dat2 V c).arrAt_forall_of_covers 4 (fun i v => v = blend G Z (i 0) (i 1))
    (by decide +kernel) (fun t hf y => ?_) (ix2 r f)
  blk_simp
  rw [Gen.after2_4]
  frame_out
  obtain ⟨p, q, rfl⟩ : ∃ (p : Fin 2048) (q : Fin 256), y = ix2 p q := ⟨y 0, y 1, eq_ix2 y⟩
  have e : ((View.whole main_v8).slice (win2_4.rect t)).emb (ix2 p q) = ix2 (row t p) (col t q) := by
    have h := (idx t).2.2.2.2
    refine at_pair ?_ ?_ <;> blk_simp <;> simp only [h.1, h.2, row, col] <;> omega
  rw [e]
  refine (pay _ _ _ _ p q).trans ?_
  exact congrArg₂ (· + ·)
    (congrArg₂ (fun g z => Ideal.logistic g * z) (blk0 V c G hG t p q) (blk2 V c Z hZ t p q))
    (congrArg₂ (fun g z => Ideal.logistic g * z) (blk1 V c G hG t p q) (blk3 V c Z hZ t p q))

end Cert.Kernel5Ideal.Gate

end
-- ==== Proof.Merge.Call.Out.lean ====
module
public import proofs.«01_k».proof.Proof.Gen.Kernel5Ideal.Frame.Region3
public import proofs.«01_k».proof.Proof.Merge.Spec
public import Idealize.ShloMosaic.Lib.Pipeline.ValueKit
public import Idealize.ShloMosaic.Lib.Pointwise

/-! The mixer's output: the merged rows times the output weight, plus the rows the mixer began with. -/

@[expose] public section

noncomputable section

namespace Cert.Kernel5Ideal.Out

open Idealize.ShloMosaic Idealize.ShloMosaic.TcCoe Idealize.ShloMosaic.Tactic
open Idealize.SL.Sem
open Idealize.ShloMosaic.Pipeline (Dat Cfg Window)
open Cert.Half Cert.Merge

/-- One block. -/
theorem pay (a : Vec Ideal S4096x1024 .bf16) (w : Vec Ideal S1024x256 .bf16) (x : Vec Ideal S4096x256 .f32)
    (A : EMat 4096 1024) (B : EMat 1024 256) (X : EMat 4096 256) (ha : Holds a A) (hw : Holds w B) (hx : Holds x X) :
    Holds (Gen.k3_pay1 a w x) (fun i j => Merge.nn A B i j + X i j) := by
  intro i j
  unfold_payloads
  pointwise
  simp only [ha _ _, hw _ _, hx _ _]
  rfl

variable (V : (c : Dev nD) → (b : Ref sig .tc) → Buf (Elt Ideal) ((c : Thread nD τ).loc b))

theorem idx : ∀ t : Fin grid3.N, (win3_0.index t 0 = 0 ∧ win3_0.index t 1 = 0) ∧
    (win3_1.index t 0 = 0 ∧ win3_1.index t 1 = t.val) ∧ (win3_2.index t 0 = 0 ∧ win3_2.index t 1 = t.val) ∧
    (win3_3.index t 0 = 0 ∧ win3_3.index t 1 = t.val) := by
  decide +kernel

theorem lt4 (t : Fin cfg3.N) : t.val < 4 := t.isLt.trans_eq (by decide +kernel)

/-- The column of the array that column `q` of block `t` is. -/
def col (t : Fin cfg3.N) (q : Fin 256) : Fin 1024 := ⟨t.val * 256 + q.val, by have := lt4 t; omega⟩

theorem blk0 (c : Dev nD) (A : EMat 4096 1024) (hA : Holds (V c main_v8) A) (t : Fin cfg3.N) :
    Holds (Gen.iblk3 V c 0 t) A := by
  intro i j
  have h := (idx t).1
  blk_simp [Gen.iblk3]
  refine (congrArg (V c main_v8) (at_pair ?_ ?_)).trans (hA _ _) <;> blk_simp <;> simp only [h.1, h.2] <;> omega

theorem blk1 (c : Dev nD) (B : EMat 1024 1024) (hB : Holds (V c main_v5) B) (t : Fin cfg3.N) :
    Holds (Gen.iblk3 V c 1 t) (fun i j => B i (col t j)) := by
  intro i j
  have h := (idx t).2.1
  blk_simp [Gen.iblk3]
  refine (congrArg (V c main_v5) (at_pair ?_ ?_)).trans (hB _ _) <;> blk_simp <;> simp only [h.1, h.2, col] <;> omega

theorem blk2 (c : Dev nD) (X : EMat 4096 1024) (hX : Holds (V c main_v0) X) (t : Fin cfg3.N) :
    Holds (Gen.iblk3 V c 2 t) (fun i j => X i (col t j)) := by
  intro i j
  have h := (idx t).2.2.1
  blk_simp [Gen.iblk3]
  refine (congrArg (V c main_v0) (at_pair ?_ ?_)).trans (hX _ _) <;> blk_simp <;> simp only [h.1, h.2, col] <;> omega

/-- The array after the call. -/
theorem arr (c : Dev nD) (A : EMat 4096 1024) (B : EMat 1024 1024) (X : EMat 4096 1024) (hA : Holds (V c main_v8) A)
    (hB : Holds (V c main_v5) B) (hX : Holds (V c main_v0) X) :
    Holds ((Gen.dat3 V c).arrAt 3 cfg3.N) (fun i j => Merge.nn A B i j + X i j) := by
  intro r f
  refine (Gen.dat3 V c).arrAt_forall_of_covers 3 (fun i v => v = Merge.nn A B (i 0) (i 1) + X (i 0) (i 1))
    (by decide +kernel) (fun t hf y => ?_) (ix2 r f)
  blk_simp
  rw [Gen.after3_3]
  frame_out
  obtain ⟨p, q, rfl⟩ : ∃ (p : Fin 4096) (q : Fin 256), y = ix2 p q := ⟨y 0, y 1, eq_ix2 y⟩
  have e : ((View.whole main_v9).slice (win3_3.rect t)).emb (ix2 p q) = ix2 p (col t q) := by
    have h := (idx t).2.2.2
    refine at_pair ?_ ?_ <;> blk_simp <;> simp only [h.1, h.2, col] <;> omega
  rw [e]
  exact pay _ _ _ _ _ _ (blk0 V c A hA t) (blk1 V c B hB t) (blk2 V c X hX t) p q

end Cert.Kernel5Ideal.Out

end
-- ==== Proof.Merge.Call.DOut.lean ====
module
public import proofs.«01_k».proof.Proof.Gen.Kernel5Ideal.Frame.Region4
public import proofs.«01_k».proof.Proof.Merge.Spec
public import Idealize.ShloMosaic.Lib.Pipeline.ValueKit
public import Idealize.ShloMosaic.Lib.Pointwise

/-! The gradient of the output weight: the merged rows, transposed, times the cotangent, in one step. -/

@[expose] public section

noncomputable section

namespace Cert.Kernel5Ideal.DOut

open Idealize.ShloMosaic Idealize.ShloMosaic.TcCoe Idealize.ShloMosaic.Tactic
open Idealize.SL.Sem
open Idealize.ShloMosaic.Pipeline (Dat Cfg Window)
open Cert.Half Cert.Merge

/-- The one block. -/
theorem pay (x d : Vec Ideal S4096x1024 .bf16) (A D : EMat 4096 1024) (hx : Holds x A) (hd : Holds d D) :
    Holds (Gen.k4_pay1 x d) (Merge.tn A D) := by
  intro i j
  unfold_payloads
  pointwise
  simp only [hx _ _, hd _ _]
  rfl

variable (V : (c : Dev nD) → (b : Ref sig .tc) → Buf (Elt Ideal) ((c : Thread nD τ).loc b))

theorem idx : ∀ t : Fin grid4.N, (win4_0.index t 0 = 0 ∧ win4_0.index t 1 = 0) ∧
    (win4_1.index t 0 = 0 ∧ win4_1.index t 1 = 0) ∧ (win4_2.index t 0 = 0 ∧ win4_2.index t 1 = 0) := by
  decide +kernel

theorem blk0 (c : Dev nD) (A : EMat 4096 1024) (hA : Holds (V c main_v8) A) (t : Fin cfg4.N) :
    Holds (Gen.iblk4 V c 0 t) A := by
  intro i j
  have h := (idx t).1
  blk_simp [Gen.iblk4]
  refine (congrArg (V c main_v8) (at_pair ?_ ?_)).trans (hA _ _) <;> blk_simp <;> simp only [h.1, h.2] <;> omega

theorem blk1 (c : Dev nD) (D : EMat 4096 1024) (hD : Holds (V c main_v2) D) (t : Fin cfg4.N) :
    Holds (Gen.iblk4 V c 1 t) D := by
  intro i j
  have h := (idx t).2.1
  blk_simp [Gen.iblk4]
  refine (congrArg (V c main_v2) (at_pair ?_ ?_)).trans (hD _ _) <;> blk_simp <;> simp only [h.1, h.2] <;> omega

/-- The array after the call. -/
theorem arr (c : Dev nD) (A D : EMat 4096 1024) (hA : Holds (V c main_v8) A) (hD : Holds (V c main_v2) D) :
    Holds ((Gen.dat4 V c).arrAt 2 cfg4.N) (Merge.tn A D) := by
  intro r f
  refine (Gen.dat4 V c).arrAt_forall_of_covers 2 (fun i v => v = Merge.tn A D (i 0) (i 1))
    (by decide +kernel) (fun t hf y => ?_) (ix2 r f)
  blk_simp
  rw [Gen.after4_2]
  frame_out
  obtain ⟨p, q, rfl⟩ : ∃ (p : Fin 1024) (q : Fin 1024), y = ix2 p q := ⟨y 0, y 1, eq_ix2 y⟩
  have e : ((View.whole main_v10).slice (win4_2.rect t)).emb (ix2 p q) = ix2 p q := by
    have h := (idx t).2.2
    refine at_pair ?_ ?_ <;> blk_simp <;> simp only [h.1, h.2] <;> omega
  rw [e]
  exact pay _ _ _ _ (blk0 V c A hA t) (blk1 V c D hD t) p q

end Cert.Kernel5Ideal.DOut

end
-- ==== Proof.Merge.Call.DM.lean ====
module
public import proofs.«01_k».proof.Proof.Gen.Kernel5Ideal.Frame.Region5
public import proofs.«01_k».proof.Proof.Merge.Spec
public import Idealize.ShloMosaic.Lib.Pipeline.ValueKit
public import Idealize.ShloMosaic.Lib.Pointwise

/-! The gradient of the merged rows: the cotangent times the output weight, transposed, 256 columns a step. -/

@[expose] public section

noncomputable section

namespace Cert.Kernel5Ideal.DM

open Idealize.ShloMosaic Idealize.ShloMosaic.TcCoe Idealize.ShloMosaic.Tactic
open Idealize.SL.Sem
open Idealize.ShloMosaic.Pipeline (Dat Cfg Window)
open Cert.Half Cert.Merge

/-- One block. -/
theorem pay (d : Vec Ideal S4096x1024 .bf16) (w : Vec Ideal S256x1024 .bf16) (D : EMat 4096 1024) (B : EMat 256 1024)
    (hd : Holds d D) (hw : Holds w B) : Holds (Gen.k5_pay1 d w) (Merge.nt D B) := by
  intro i j
  unfold_payloads
  pointwise
  simp only [hd _ _, hw _ _]
  rfl

variable (V : (c : Dev nD) → (b : Ref sig .tc) → Buf (Elt Ideal) ((c : Thread nD τ).loc b))

theorem idx : ∀ t : Fin grid5.N, (win5_0.index t 0 = 0 ∧ win5_0.index t 1 = 0) ∧
    (win5_1.index t 0 = t.val ∧ win5_1.index t 1 = 0) ∧ (win5_2.index t 0 = 0 ∧ win5_2.index t 1 = t.val) := by
  decide +kernel

theorem lt4 (t : Fin cfg5.N) : t.val < 4 := t.isLt.trans_eq (by decide +kernel)

/-- The column of the array that column `q` of block `t` is. -/
def col (t : Fin cfg5.N) (q : Fin 256) : Fin 1024 := ⟨t.val * 256 + q.val, by have := lt4 t; omega⟩

theorem blk0 (c : Dev nD) (D : EMat 4096 1024) (hD : Holds (V c main_v2) D) (t : Fin cfg5.N) :
    Holds (Gen.iblk5 V c 0 t) D := by
  intro i j
  have h := (idx t).1
  blk_simp [Gen.iblk5]
  refine (congrArg (V c main_v2) (at_pair ?_ ?_)).trans (hD _ _) <;> blk_simp <;> simp only [h.1, h.2] <;> omega

theorem blk1 (c : Dev nD) (B : EMat 1024 1024) (hB : Holds (V c main_v5) B) (t : Fin cfg5.N) :
    Holds (Gen.iblk5 V c 1 t) (fun i j => B (col t i) j) := by
  intro i j
  have h := (idx t).2.1
  blk_simp [Gen.iblk5]
  refine (congrArg (V c main_v5) (at_pair ?_ ?_)).trans (hB _ _) <;> blk_simp <;> simp only [h.1, h.2, col] <;> omega

/-- The array after the call. -/
theorem arr (c : Dev nD) (D : EMat 4096 1024) (B : EMat 1024 1024) (hD : Holds (V c main_v2) D) (hB : Holds (V c main_v5) B) :
    Holds ((Gen.dat5 V c).arrAt 2 cfg5.N) (Merge.nt D B) := by
  intro r f
  refine (Gen.dat5 V c).arrAt_forall_of_covers 2 (fun i v => v = Merge.nt D B (i 0) (i 1))
    (by decide +kernel) (fun t hf y => ?_) (ix2 r f)
  blk_simp
  rw [Gen.after5_2]
  frame_out
  obtain ⟨p, q, rfl⟩ : ∃ (p : Fin 4096) (q : Fin 256), y = ix2 p q := ⟨y 0, y 1, eq_ix2 y⟩
  have e : ((View.whole main_v11).slice (win5_2.rect t)).emb (ix2 p q) = ix2 p (col t q) := by
    have h := (idx t).2.2
    refine at_pair ?_ ?_ <;> blk_simp <;> simp only [h.1, h.2, col] <;> omega
  rw [e]
  exact pay _ _ _ _ (blk0 V c D hD t) (blk1 V c B hB t) p q

end Cert.Kernel5Ideal.DM

end
-- ==== Proof.Merge.Call.DGate.lean ====
module
public import proofs.«01_k».proof.Proof.Gen.Kernel5Ideal.Frame.Region6
public import proofs.«01_k».proof.Proof.Merge.Spec
public import Idealize.ShloMosaic.Lib.Pipeline.ValueKit
public import Idealize.ShloMosaic.Lib.Pointwise

/-! The gates' backward call: the two branches' gradients, and the gradient of the gates' logits, which the call writes
    into the gates' columns of the projection's cotangent and nowhere else. -/

@[expose] public section

noncomputable section

namespace Cert.Kernel5Ideal.DGate

open Idealize.ShloMosaic Idealize.ShloMosaic.TcCoe Idealize.ShloMosaic.Tactic
open Idealize.SL.Sem
open Idealize.ShloMosaic.Pipeline (Dat Cfg Window)
open Cert.Half Cert.Merge

/-- One block of a branch's gradient. -/
theorem payBranch (d g : Vec Ideal S2048x256 .f32) (p : Fin 2048) (q : Fin 256) :
    Gen.k6_pay3 d g (ix3 0 p q) = d (ix2 p q) * Ideal.logistic (g (ix2 p q)) := by
  unfold_payloads
  pointwise

/-- One block of the logits' gradient. -/
theorem payGate (d g : Vec Ideal S2048x256 .f32) (z : Vec Ideal S1x2048x256 .f32) (p : Fin 2048) (q : Fin 256) :
    Gen.k6_pay4 d g z (ix2 p q)
      = d (ix2 p q) * z (ix3 0 p q) * Ideal.logistic (g (ix2 p q)) * (1 - Ideal.logistic (g (ix2 p q))) := by
  unfold_payloads
  pointwise

variable (V : (c : Dev nD) → (b : Ref sig .tc) → Buf (Elt Ideal) ((c : Thread nD τ).loc b))

theorem idx : ∀ t : Fin grid6.N, (win6_0.index t 0 = t.val / 8 ∧ win6_0.index t 1 = t.val % 4) ∧
    (win6_1.index t 0 = t.val / 8 ∧ win6_1.index t 1 = 15 + t.val % 8) ∧
    (win6_2.index t 0 = t.val % 8 / 4 ∧ win6_2.index t 1 = t.val / 8 ∧ win6_2.index t 2 = t.val % 4) ∧
    (win6_3.index t 0 = t.val % 8 / 4 ∧ win6_3.index t 1 = t.val / 8 ∧ win6_3.index t 2 = t.val % 4) ∧
    (win6_4.index t 0 = t.val / 8 ∧ win6_4.index t 1 = 15 + t.val % 8) := by
  decide +kernel

theorem lt16 (t : Fin cfg6.N) : t.val < 16 := t.isLt.trans_eq (by decide +kernel)

/-- The branch that step `t` works on, and the row and the column of an element of its block. -/
def side (t : Fin cfg6.N) : Fin 2 := ⟨t.val % 8 / 4, by omega⟩

def row (t : Fin cfg6.N) (p : Fin 2048) : Fin 4096 := ⟨t.val / 8 * 2048 + p.val, by have := lt16 t; omega⟩

def col (t : Fin cfg6.N) (q : Fin 256) : Fin 1024 := ⟨t.val % 4 * 256 + q.val, by omega⟩

theorem blk0 (c : Dev nD) (D : EMat 4096 1024) (hD : Holds (V c main_v11) D) (t : Fin cfg6.N) (p : Fin 2048)
    (q : Fin 256) : Gen.iblk6 V c 0 t (ix2 p q) = D (row t p) (col t q) := by
  have h := (idx t).1
  blk_simp [Gen.iblk6]
  refine (congrArg (V c main_v11) (at_pair ?_ ?_)).trans (hD _ _) <;> blk_simp <;> simp only [h.1, h.2, row, col] <;> omega

theorem blk1 (c : Dev nD) (G : Fin 2 → EMat 4096 1024) (hG : Gates (V c main_arg1) G) (t : Fin cfg6.N) (p : Fin 2048)
    (q : Fin 256) : Gen.iblk6 V c 1 t (ix2 p q) = G (side t) (row t p) (col t q) := by
  have h := (idx t).2.1
  blk_simp [Gen.iblk6]
  refine (congrArg (V c main_arg1) (at_pair ?_ ?_)).trans (hG _ _ _) <;> blk_simp <;>
    simp only [h.1, h.2, row, col, side, gateCol] <;> omega

theorem blk2 (c : Dev nD) (Z : Fin 2 → EMat 4096 1024) (hZ : Slabs (V c main_v7) Z) (t : Fin cfg6.N) (p : Fin 2048)
    (q : Fin 256) : Gen.iblk6 V c 2 t (ix3 0 p q) = Z (side t) (row t p) (col t q) := by
  have h := (idx t).2.2.1
  blk_simp [Gen.iblk6]
  refine (congrArg (V c main_v7) (at_triple ?_ ?_ ?_)).trans (hZ _ _ _) <;> blk_simp <;>
    simp only [h.1, h.2.1, h.2.2, row, col, side, Fin.val_zero] <;> omega

/-- The branches' gradients after the call. -/
theorem arrBranch (c : Dev nD) (D : EMat 4096 1024) (G : Fin 2 → EMat 4096 1024) (hD : Holds (V c main_v11) D)
    (hG : Gates (V c main_arg1) G) : Slabs ((Gen.dat6 V c).arrAt 3 cfg6.N) (dbranch D G) := by
  intro s r f
  refine (Gen.dat6 V c).arrAt_forall_of_covers 3 (fun i v => v = dbranch D G (i 0) (i 1) (i 2))
    (by decide +kernel) (fun t hf y => ?_) (ix3 s r f)
  blk_simp
  rw [Gen.after6_3]
  frame_out
  obtain ⟨o, p, q, rfl⟩ : ∃ (o : Fin 1) (p : Fin 2048) (q : Fin 256), y = ix3 o p q := ⟨y 0, y 1, y 2, eq_ix3 y⟩
  obtain rfl : o = 0 := Subsingleton.elim _ _
  have e : ((View.whole main_v12_0).slice (win6_3.rect t)).emb (ix3 0 p q) = ix3 (side t) (row t p) (col t q) := by
    have h := (idx t).2.2.2.1
    refine at_triple ?_ ?_ ?_ <;> blk_simp <;> simp only [h.1, h.2.1, h.2.2, row, col, side, Fin.val_zero] <;> omega
  rw [e]
  refine (payBranch _ _ p q).trans ?_
  exact congrArg₂ (fun d g => d * Ideal.logistic g) (blk0 V c D hD t p q) (blk1 V c G hG t p q)

theorem place {t q s f : ℕ} (hs : s < 2) (hf : f < 1024) (hq : q < 256)
    (h : (15 + t % 8) * 256 + q = 3840 + s * 1024 + f) : t % 8 / 4 = s ∧ t % 4 * 256 + q = f := by omega

theorem right_of {s f : ℕ} : 15 ≤ (3840 + s * 1024 + f) / 256 := by omega

/-- The gates' columns of the projection's cotangent after the call. -/
theorem arrGate (c : Dev nD) (D : EMat 4096 1024) (G Z : Fin 2 → EMat 4096 1024) (hD : Holds (V c main_v11) D)
    (hG : Gates (V c main_arg1) G) (hZ : Slabs (V c main_v7) Z) : Gates ((Gen.dat6 V c).arrAt 4 cfg6.N) (dgate D G Z) := by
  intro s r f
  refine (Gen.dat6 V c).arrAt_forall_of_coversWhere 4
    (fun i v => ∀ (s : Fin 2) (r : Fin 4096) (f : Fin 1024), (i 0).val = r.val → (i 1).val = 3840 + s.val * 1024 + f.val →
      v = dgate D G Z s r f)
    (fun β => ∀ h : 1 < 2, 15 ≤ β ⟨1, h⟩) (by decide +kernel) (fun t hf y => ?_) (fun j hj => ?_)
    (ix2 r (gateCol s f)) (Memref.isWhole_whole _) s r f rfl rfl
  · blk_simp
    rw [Gen.after6_4]
    frame_out
    obtain ⟨p, q, rfl⟩ : ∃ (p : Fin 2048) (q : Fin 256), y = ix2 p q := ⟨y 0, y 1, eq_ix2 y⟩
    have h := (idx t).2.2.2.2
    intro s r f hr hf
    have hr' : win6_4.index t 0 * 2048 + p.val = r.val := hr
    have hf' : win6_4.index t 1 * 256 + q.val = 3840 + s.val * 1024 + f.val := hf
    rw [h.1] at hr'
    rw [h.2] at hf'
    have hp := place s.isLt f.isLt q.isLt hf'
    obtain rfl : row t p = r := Fin.ext hr'
    obtain rfl : side t = s := Fin.ext hp.1
    obtain rfl : col t q = f := Fin.ext hp.2
    refine (payGate _ _ _ p q).trans ?_
    rw [blk0 V c D hD t p q, blk1 V c G hG t p q, blk2 V c Z hZ t p q]
    rfl
  · intro s r f hr hf
    refine absurd (fun h => ?_) hj
    rw [Pipeline.Window.cell_apply]
    have hj1 : (j ⟨1, h⟩).val = 3840 + s.val * 1024 + f.val := hf
    rw [hj1]
    exact right_of

end Cert.Kernel5Ideal.DGate

end
-- ==== Proof.Merge.Call.DWA.lean ====
module
public import proofs.«01_k».proof.Proof.Gen.Kernel5Ideal.Frame.Region7
public import proofs.«01_k».proof.Proof.Merge.Spec
public import Idealize.ShloMosaic.Lib.Pipeline.ValueKit
public import Idealize.ShloMosaic.Lib.Pointwise

/-! The gradient of the dilated branch's weight: that attention's output, transposed, times the branch's gradient. -/

@[expose] public section

noncomputable section

namespace Cert.Kernel5Ideal.DWA

open Idealize.ShloMosaic Idealize.ShloMosaic.TcCoe Idealize.ShloMosaic.Tactic
open Idealize.SL.Sem
open Idealize.ShloMosaic.Pipeline (Dat Cfg Window)
open Cert.Half Cert.Merge

/-- The one block. -/
theorem pay (x : Vec Ideal S4096x256 .bf16) (d : Vec Ideal S1x4096x1024 .bf16) (A : EMat 4096 256) (D : EMat 4096 1024)
    (hx : Holds x A) (hd : ∀ i j, d (ix3 0 i j) = D i j) : Holds (Gen.k7_pay1 x d) (Merge.tn A D) := by
  intro i j
  unfold_payloads
  pointwise
  simp only [hx _ _, hd _ _]
  rfl

variable (V : (c : Dev nD) → (b : Ref sig .tc) → Buf (Elt Ideal) ((c : Thread nD τ).loc b))

theorem idx : ∀ t : Fin grid7.N, (win7_0.index t 0 = 0 ∧ win7_0.index t 1 = 0) ∧
    (win7_1.index t 0 = 0 ∧ win7_1.index t 1 = 0 ∧ win7_1.index t 2 = 0) ∧
    (win7_2.index t 0 = 0 ∧ win7_2.index t 1 = 0) := by
  decide +kernel

theorem blk0 (c : Dev nD) (A : EMat 4096 256) (hA : Holds (V c main_arg2) A) (t : Fin cfg7.N) :
    Holds (Gen.iblk7 V c 0 t) A := by
  intro i j
  have h := (idx t).1
  blk_simp [Gen.iblk7]
  refine (congrArg (V c main_arg2) (at_pair ?_ ?_)).trans (hA _ _) <;> blk_simp <;> simp only [h.1, h.2] <;> omega

theorem blk1 (c : Dev nD) (D : Fin 2 → EMat 4096 1024) (hD : Slabs (V c main_v12_0) D) (t : Fin cfg7.N) (i : Fin 4096)
    (j : Fin 1024) : Gen.iblk7 V c 1 t (ix3 0 i j) = D 0 i j := by
  have h := (idx t).2.1
  blk_simp [Gen.iblk7]
  refine (congrArg (V c main_v12_0) (at_triple ?_ ?_ ?_)).trans (hD 0 _ _) <;> blk_simp <;>
    simp only [h.1, h.2.1, h.2.2, Fin.val_zero] <;> omega

/-- The array after the call. -/
theorem arr (c : Dev nD) (A : EMat 4096 256) (D : Fin 2 → EMat 4096 1024) (hA : Holds (V c main_arg2) A)
    (hD : Slabs (V c main_v12_0) D) : Holds ((Gen.dat7 V c).arrAt 2 cfg7.N) (Merge.tn A (D 0)) := by
  intro r f
  refine (Gen.dat7 V c).arrAt_forall_of_covers 2 (fun i v => v = Merge.tn A (D 0) (i 0) (i 1))
    (by decide +kernel) (fun t hf y => ?_) (ix2 r f)
  blk_simp
  rw [Gen.after7_2]
  frame_out
  obtain ⟨p, q, rfl⟩ : ∃ (p : Fin 256) (q : Fin 1024), y = ix2 p q := ⟨y 0, y 1, eq_ix2 y⟩
  have e : ((View.whole main_v13).slice (win7_2.rect t)).emb (ix2 p q) = ix2 p q := by
    have h := (idx t).2.2
    refine at_pair ?_ ?_ <;> blk_simp <;> simp only [h.1, h.2] <;> omega
  rw [e]
  exact pay _ _ _ _ (blk0 V c A hA t) (blk1 V c D hD t) p q

end Cert.Kernel5Ideal.DWA

end
-- ==== Proof.Merge.Call.DWB.lean ====
module
public import proofs.«01_k».proof.Proof.Gen.Kernel5Ideal.Frame.Region8
public import proofs.«01_k».proof.Proof.Merge.Spec
public import Idealize.ShloMosaic.Lib.Pipeline.ValueKit
public import Idealize.ShloMosaic.Lib.Pointwise

/-! The gradient of the neighbourhood branch's weight: that attention's output, transposed, times the branch's gradient. -/

@[expose] public section

noncomputable section

namespace Cert.Kernel5Ideal.DWB

open Idealize.ShloMosaic Idealize.ShloMosaic.TcCoe Idealize.ShloMosaic.Tactic
open Idealize.SL.Sem
open Idealize.ShloMosaic.Pipeline (Dat Cfg Window)
open Cert.Half Cert.Merge

/-- The one block. -/
theorem pay (x : Vec Ideal S4096x512 .bf16) (d : Vec Ideal S1x4096x1024 .bf16) (A : EMat 4096 512) (D : EMat 4096 1024)
    (hx : Holds x A) (hd : ∀ i j, d (ix3 0 i j) = D i j) : Holds (Gen.k8_pay1 x d) (Merge.tn A D) := by
  intro i j
  unfold_payloads
  pointwise
  simp only [hx _ _, hd _ _]
  rfl

variable (V : (c : Dev nD) → (b : Ref sig .tc) → Buf (Elt Ideal) ((c : Thread nD τ).loc b))

theorem idx : ∀ t : Fin grid8.N, (win8_0.index t 0 = 0 ∧ win8_0.index t 1 = 0) ∧
    (win8_1.index t 0 = 1 ∧ win8_1.index t 1 = 0 ∧ win8_1.index t 2 = 0) ∧
    (win8_2.index t 0 = 0 ∧ win8_2.index t 1 = 0) := by
  decide +kernel

theorem blk0 (c : Dev nD) (A : EMat 4096 512) (hA : Holds (V c main_arg3) A) (t : Fin cfg8.N) :
    Holds (Gen.iblk8 V c 0 t) A := by
  intro i j
  have h := (idx t).1
  blk_simp [Gen.iblk8]
  refine (congrArg (V c main_arg3) (at_pair ?_ ?_)).trans (hA _ _) <;> blk_simp <;> simp only [h.1, h.2] <;> omega

theorem blk1 (c : Dev nD) (D : Fin 2 → EMat 4096 1024) (hD : Slabs (V c main_v12_0) D) (t : Fin cfg8.N) (i : Fin 4096)
    (j : Fin 1024) : Gen.iblk8 V c 1 t (ix3 0 i j) = D 1 i j := by
  have h := (idx t).2.1
  blk_simp [Gen.iblk8]
  refine (congrArg (V c main_v12_0) (at_triple ?_ ?_ ?_)).trans (hD 1 _ _) <;> blk_simp <;>
    simp only [h.1, h.2.1, h.2.2, Fin.val_zero, Fin.val_one] <;> omega

/-- The array after the call. -/
theorem arr (c : Dev nD) (A : EMat 4096 512) (D : Fin 2 → EMat 4096 1024) (hA : Holds (V c main_arg3) A)
    (hD : Slabs (V c main_v12_0) D) : Holds ((Gen.dat8 V c).arrAt 2 cfg8.N) (Merge.tn A (D 1)) := by
  intro r f
  refine (Gen.dat8 V c).arrAt_forall_of_covers 2 (fun i v => v = Merge.tn A (D 1) (i 0) (i 1))
    (by decide +kernel) (fun t hf y => ?_) (ix2 r f)
  blk_simp
  rw [Gen.after8_2]
  frame_out
  obtain ⟨p, q, rfl⟩ : ∃ (p : Fin 512) (q : Fin 1024), y = ix2 p q := ⟨y 0, y 1, eq_ix2 y⟩
  have e : ((View.whole main_v14).slice (win8_2.rect t)).emb (ix2 p q) = ix2 p q := by
    have h := (idx t).2.2
    refine at_pair ?_ ?_ <;> blk_simp <;> simp only [h.1, h.2] <;> omega
  rw [e]
  exact pay _ _ _ _ (blk0 V c A hA t) (blk1 V c D hD t) p q

end Cert.Kernel5Ideal.DWB

end
-- ==== Proof.Merge.Call.DYA.lean ====
module
public import proofs.«01_k».proof.Proof.Gen.Kernel5Ideal.Frame.Region9
public import proofs.«01_k».proof.Proof.Merge.Spec
public import Idealize.ShloMosaic.Lib.Pipeline.ValueKit
public import Idealize.ShloMosaic.Lib.Pointwise

/-! The gradient of the dilated attention's output, in one step. -/

@[expose] public section

noncomputable section

namespace Cert.Kernel5Ideal.DYA

open Idealize.ShloMosaic Idealize.ShloMosaic.TcCoe Idealize.ShloMosaic.Tactic
open Idealize.SL.Sem
open Idealize.ShloMosaic.Pipeline (Dat Cfg Window)
open Cert.Half Cert.Merge

/-- The one block. -/
theorem pay (d : Vec Ideal S1x4096x1024 .bf16) (w : Vec Ideal S256x1024 .bf16) (D : EMat 4096 1024) (B : EMat 256 1024)
    (hd : ∀ i j, d (ix3 0 i j) = D i j) (hw : Holds w B) : Holds (Gen.k9_pay1 d w) (Merge.nt D B) := by
  intro i j
  unfold_payloads
  pointwise
  simp only [hd _ _, hw _ _]
  rfl

variable (V : (c : Dev nD) → (b : Ref sig .tc) → Buf (Elt Ideal) ((c : Thread nD τ).loc b))

theorem idx : ∀ t : Fin grid9.N, (win9_0.index t 0 = 0 ∧ win9_0.index t 1 = 0 ∧ win9_0.index t 2 = 0) ∧
    (win9_1.index t 0 = 0 ∧ win9_1.index t 1 = 0) ∧ (win9_2.index t 0 = 0 ∧ win9_2.index t 1 = 0) := by
  decide +kernel

theorem blk0 (c : Dev nD) (D : Fin 2 → EMat 4096 1024) (hD : Slabs (V c main_v12_0) D) (t : Fin cfg9.N) (i : Fin 4096)
    (j : Fin 1024) : Gen.iblk9 V c 0 t (ix3 0 i j) = D 0 i j := by
  have h := (idx t).1
  blk_simp [Gen.iblk9]
  refine (congrArg (V c main_v12_0) (at_triple ?_ ?_ ?_)).trans (hD 0 _ _) <;> blk_simp <;>
    simp only [h.1, h.2.1, h.2.2, Fin.val_zero] <;> omega

theorem blk1 (c : Dev nD) (B : EMat 256 1024) (hB : Holds (V c main_v3) B) (t : Fin cfg9.N) :
    Holds (Gen.iblk9 V c 1 t) B := by
  intro i j
  have h := (idx t).2.1
  blk_simp [Gen.iblk9]
  refine (congrArg (V c main_v3) (at_pair ?_ ?_)).trans (hB _ _) <;> blk_simp <;> simp only [h.1, h.2] <;> omega

/-- The array after the call. -/
theorem arr (c : Dev nD) (D : Fin 2 → EMat 4096 1024) (B : EMat 256 1024) (hD : Slabs (V c main_v12_0) D)
    (hB : Holds (V c main_v3) B) : Holds ((Gen.dat9 V c).arrAt 2 cfg9.N) (Merge.nt (D 0) B) := by
  intro r f
  refine (Gen.dat9 V c).arrAt_forall_of_covers 2 (fun i v => v = Merge.nt (D 0) B (i 0) (i 1))
    (by decide +kernel) (fun t hf y => ?_) (ix2 r f)
  blk_simp
  rw [Gen.after9_2]
  frame_out
  obtain ⟨p, q, rfl⟩ : ∃ (p : Fin 4096) (q : Fin 256), y = ix2 p q := ⟨y 0, y 1, eq_ix2 y⟩
  have e : ((View.whole main_v15).slice (win9_2.rect t)).emb (ix2 p q) = ix2 p q := by
    have h := (idx t).2.2
    refine at_pair ?_ ?_ <;> blk_simp <;> simp only [h.1, h.2] <;> omega
  rw [e]
  exact pay _ _ _ _ (blk0 V c D hD t) (blk1 V c B hB t) p q

end Cert.Kernel5Ideal.DYA

end
-- ==== Proof.Merge.Call.DYB.lean ====
module
public import proofs.«01_k».proof.Proof.Gen.Kernel5Ideal.Frame.Region10
public import proofs.«01_k».proof.Proof.Merge.Spec
public import Idealize.ShloMosaic.Lib.Pipeline.ValueKit
public import Idealize.ShloMosaic.Lib.Pointwise

/-! The gradient of the neighbourhood attention's output, 256 columns a step. -/

@[expose] public section

noncomputable section

namespace Cert.Kernel5Ideal.DYB

open Idealize.ShloMosaic Idealize.ShloMosaic.TcCoe Idealize.ShloMosaic.Tactic
open Idealize.SL.Sem
open Idealize.ShloMosaic.Pipeline (Dat Cfg Window)
open Cert.Half Cert.Merge

/-- One block. -/
theorem pay (d : Vec Ideal S1x4096x1024 .bf16) (w : Vec Ideal S256x1024 .bf16) (D : EMat 4096 1024) (B : EMat 256 1024)
    (hd : ∀ i j, d (ix3 0 i j) = D i j) (hw : Holds w B) : Holds (Gen.k10_pay1 d w) (Merge.nt D B) := by
  intro i j
  unfold_payloads
  pointwise
  simp only [hd _ _, hw _ _]
  rfl

variable (V : (c : Dev nD) → (b : Ref sig .tc) → Buf (Elt Ideal) ((c : Thread nD τ).loc b))

theorem idx : ∀ t : Fin grid10.N, (win10_0.index t 0 = 1 ∧ win10_0.index t 1 = 0 ∧ win10_0.index t 2 = 0) ∧
    (win10_1.index t 0 = t.val ∧ win10_1.index t 1 = 0) ∧ (win10_2.index t 0 = 0 ∧ win10_2.index t 1 = t.val) := by
  decide +kernel

theorem lt2 (t : Fin cfg10.N) : t.val < 2 := t.isLt.trans_eq (by decide +kernel)

/-- The column of the array that column `q` of block `t` is. -/
def col (t : Fin cfg10.N) (q : Fin 256) : Fin 512 := ⟨t.val * 256 + q.val, by have := lt2 t; omega⟩

theorem blk0 (c : Dev nD) (D : Fin 2 → EMat 4096 1024) (hD : Slabs (V c main_v12_0) D) (t : Fin cfg10.N) (i : Fin 4096)
    (j : Fin 1024) : Gen.iblk10 V c 0 t (ix3 0 i j) = D 1 i j := by
  have h := (idx t).1
  blk_simp [Gen.iblk10]
  refine (congrArg (V c main_v12_0) (at_triple ?_ ?_ ?_)).trans (hD 1 _ _) <;> blk_simp <;>
    simp only [h.1, h.2.1, h.2.2, Fin.val_zero, Fin.val_one] <;> omega

theorem blk1 (c : Dev nD) (B : EMat 512 1024) (hB : Holds (V c main_v4) B) (t : Fin cfg10.N) :
    Holds (Gen.iblk10 V c 1 t) (fun i j => B (col t i) j) := by
  intro i j
  have h := (idx t).2.1
  blk_simp [Gen.iblk10]
  refine (congrArg (V c main_v4) (at_pair ?_ ?_)).trans (hB _ _) <;> blk_simp <;> simp only [h.1, h.2, col] <;> omega

/-- The array after the call. -/
theorem arr (c : Dev nD) (D : Fin 2 → EMat 4096 1024) (B : EMat 512 1024) (hD : Slabs (V c main_v12_0) D)
    (hB : Holds (V c main_v4) B) : Holds ((Gen.dat10 V c).arrAt 2 cfg10.N) (Merge.nt (D 1) B) := by
  intro r f
  refine (Gen.dat10 V c).arrAt_forall_of_covers 2 (fun i v => v = Merge.nt (D 1) B (i 0) (i 1))
    (by decide +kernel) (fun t hf y => ?_) (ix2 r f)
  blk_simp
  rw [Gen.after10_2]
  frame_out
  obtain ⟨p, q, rfl⟩ : ∃ (p : Fin 4096) (q : Fin 256), y = ix2 p q := ⟨y 0, y 1, eq_ix2 y⟩
  have e : ((View.whole main_v16).slice (win10_2.rect t)).emb (ix2 p q) = ix2 p (col t q) := by
    have h := (idx t).2.2
    refine at_pair ?_ ?_ <;> blk_simp <;> simp only [h.1, h.2, col] <;> omega
  rw [e]
  exact pay _ _ _ _ (blk0 V c D hD t) (blk1 V c B hB t) p q

end Cert.Kernel5Ideal.DYB

end
-- ==== Proof.Merge.Host.lean ====
module
public import proofs.«01_k».proof.Proof.Gen.Kernel5Ideal.Frame
public import proofs.«01_k».proof.Proof.Merge.Spec
public import Idealize.ShloMosaic.Lib.Pipeline.ValueKit
public import Idealize.ShloMosaic.Lib.Pointwise

/-! The merge program's host code before the first call: the arrays it makes of the arguments. -/

@[expose] public section

noncomputable section

namespace Cert.Kernel5Ideal.Host

open Idealize.ShloMosaic Idealize.ShloMosaic.TcCoe Idealize.ShloMosaic.Tactic
open Idealize.SL.Sem
open Cert.Half Cert.Merge

variable (m : (ℓ : Loc nD τ sig) → Buf (Elt Ideal) ℓ) (ρ : Dev nD → PrngReg) (c : Dev nD) (a : Given)

/-- Core `c`'s arguments are those of `a`. -/
abbrev Starts : Prop :=
  Merge.Reads (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) a

variable {m c a} (h : Starts m c a)
include h

theorem x1 : Holds (Gen.V1 m ρ c main_v0) a.X := by
  intro i j
  unfold_abbrev_sides
  after_results
  pointwise
  exact (h.x _ _ _).trans (by rw [flat_divMod])

theorem d1 : Holds (Gen.V1 m ρ c main_v2) a.D := by
  intro i j
  unfold_abbrev_sides
  after_results
  pointwise
  exact (h.dy _ _ _).trans (by rw [flat_divMod])

theorem wa1 : Holds (Gen.V1 m ρ c main_v3) a.A := by
  intro i j
  unfold_abbrev_sides
  after_results
  pointwise
  exact h.wa i j

theorem wb1 : Holds (Gen.V1 m ρ c main_v4) a.B := by
  intro i j
  unfold_abbrev_sides
  after_results
  pointwise
  exact h.wb i j

theorem wo1 : Holds (Gen.V1 m ρ c main_v5) a.O := by
  intro i j
  unfold_abbrev_sides
  after_results
  pointwise
  exact h.wo i j

end Cert.Kernel5Ideal.Host

end
-- ==== Proof.Merge.Chain.lean ====
module
public import proofs.«01_k».proof.Proof.Merge.Call.ZA
public import proofs.«01_k».proof.Proof.Merge.Call.ZB
public import proofs.«01_k».proof.Proof.Merge.Call.Gate
public import proofs.«01_k».proof.Proof.Merge.Call.Out
public import proofs.«01_k».proof.Proof.Merge.Call.DOut
public import proofs.«01_k».proof.Proof.Merge.Call.DM
public import proofs.«01_k».proof.Proof.Merge.Call.DGate
public import proofs.«01_k».proof.Proof.Merge.Call.DWA
public import proofs.«01_k».proof.Proof.Merge.Call.DWB
public import proofs.«01_k».proof.Proof.Merge.Call.DYA
public import proofs.«01_k».proof.Proof.Merge.Call.DYB
public import proofs.«01_k».proof.Proof.Merge.Host

/-! The merge program's arrays along its eleven calls: each call's result is the matrix that the specification names.
    A boundary is numbered by the items of the program before it; an array that no item in between writes is carried
    from one boundary to another. -/

@[expose] public section

noncomputable section

namespace Cert.Kernel5Ideal.Chain

open Idealize.ShloMosaic Idealize.ShloMosaic.TcCoe Idealize.ShloMosaic.Tactic
open Idealize.SL.Sem
open Cert.Half Cert.Merge Cert.Kernel5Ideal.Host

theorem keep {p q : ℕ} {v w : (⟨2, ![p, q]⟩ : Shape).Idx → EReal} {A : EMat p q} (e : v = w) (hw : Holds w A) : Holds v A :=
  e ▸ hw

theorem keepSlabs {p q : ℕ} {v w : (⟨3, ![2, p, q]⟩ : Shape).Idx → EReal} {Z : Fin 2 → EMat p q} (e : v = w)
    (hw : Slabs w Z) : Slabs v Z :=
  e ▸ hw

theorem keepGates {v w : (⟨2, ![4096, 5888]⟩ : Shape).Idx → EReal} {G : Fin 2 → EMat 4096 1024} (e : v = w)
    (hw : Gates w G) : Gates v G :=
  e ▸ hw

variable {m : (ℓ : Loc nD τ sig) → Buf (Elt Ideal) ℓ} (ρ : Dev nD → PrngReg) {c : Dev nD} {a : Given} (h : Starts m c a)
include h

/-! ## The forward half -/

theorem ya1 : Holds (Gen.V1 m ρ c main_arg2) a.YA := keep (Gen.W1_args m ρ c main_arg2 (by decide)) h.ya

theorem first2 (r : Fin 4096) (f : Fin 1024) : Gen.V2 m ρ c main_v6 (ix3 0 r f) = nn a.YA a.A r f :=
  (congrFun (Gen.W2_arr m ρ c 2) _).trans (ZA.arr (Gen.V1 m ρ) c _ _ (ya1 ρ h) (wa1 ρ h) r f)

theorem first3 (r : Fin 4096) (f : Fin 1024) : Gen.V3 m ρ c main_v7 (ix3 0 r f) = nn a.YA a.A r f := by
  unfold_abbrev_sides
  after_results
  exact first2 ρ h r f

theorem yb3 : Holds (Gen.V3 m ρ c main_arg3) a.YB := keep (Gen.W3_args m ρ c main_arg3 (by decide)) h.yb

theorem wb3 : Holds (Gen.V3 m ρ c main_v4) a.B :=
    keep (Gen.W3_of m ρ c main_v4 (by decide)) <|
    keep (Gen.W2_of m ρ c main_v4 (by decide)) <|
    wb1 ρ h

theorem z4 : Slabs (Gen.V4 m ρ c main_v7) a.Z :=
  keepSlabs (Gen.W4_arr m ρ c 2) (ZB.arr (Gen.V3 m ρ) c _ _ _ (yb3 ρ h) (wb3 ρ h) (first3 ρ h))

theorem g4 : Gates (Gen.V4 m ρ c main_arg1) a.G := keepGates (Gen.W4_args m ρ c main_arg1 (by decide)) h.g

theorem m5 : Holds (Gen.V5 m ρ c main_v8) a.M :=
  keep (Gen.W5_arr m ρ c 4) (Gate.arr (Gen.V4 m ρ) c _ _ (g4 ρ h) (z4 ρ h))

theorem wo5 : Holds (Gen.V5 m ρ c main_v5) a.O :=
    keep (Gen.W5_of m ρ c main_v5 (by decide)) <|
    keep (Gen.W4_of m ρ c main_v5 (by decide)) <|
    keep (Gen.W3_of m ρ c main_v5 (by decide)) <|
    keep (Gen.W2_of m ρ c main_v5 (by decide)) <|
    wo1 ρ h

theorem x5 : Holds (Gen.V5 m ρ c main_v0) a.X :=
    keep (Gen.W5_of m ρ c main_v0 (by decide)) <|
    keep (Gen.W4_of m ρ c main_v0 (by decide)) <|
    keep (Gen.W3_of m ρ c main_v0 (by decide)) <|
    keep (Gen.W2_of m ρ c main_v0 (by decide)) <|
    x1 ρ h

theorem out6 : Holds (Gen.V6 m ρ c main_v9) a.out :=
  keep (Gen.W6_arr m ρ c 3) (Out.arr (Gen.V5 m ρ) c _ _ _ (m5 ρ h) (wo5 ρ h) (x5 ρ h))

/-! ## The backward half -/

theorem m6 : Holds (Gen.V6 m ρ c main_v8) a.M :=
    keep (Gen.W6_of m ρ c main_v8 (by decide)) <|
    m5 ρ h

theorem d6 : Holds (Gen.V6 m ρ c main_v2) a.D :=
    keep (Gen.W6_of m ρ c main_v2 (by decide)) <|
    keep (Gen.W5_of m ρ c main_v2 (by decide)) <|
    keep (Gen.W4_of m ρ c main_v2 (by decide)) <|
    keep (Gen.W3_of m ρ c main_v2 (by decide)) <|
    keep (Gen.W2_of m ρ c main_v2 (by decide)) <|
    d1 ρ h

theorem wo7 : Holds (Gen.V7 m ρ c main_v10) (tn a.M a.D) :=
  keep (Gen.W7_arr m ρ c 2) (DOut.arr (Gen.V6 m ρ) c _ _ (m6 ρ h) (d6 ρ h))

theorem d7 : Holds (Gen.V7 m ρ c main_v2) a.D :=
    keep (Gen.W7_of m ρ c main_v2 (by decide)) <|
    d6 ρ h

theorem o7 : Holds (Gen.V7 m ρ c main_v5) a.O :=
    keep (Gen.W7_of m ρ c main_v5 (by decide)) <|
    keep (Gen.W6_of m ρ c main_v5 (by decide)) <|
    wo5 ρ h

theorem dm8 : Holds (Gen.V8 m ρ c main_v11) a.dM :=
  keep (Gen.W8_arr m ρ c 2) (DM.arr (Gen.V7 m ρ) c _ _ (d7 ρ h) (o7 ρ h))

theorem g8 : Gates (Gen.V8 m ρ c main_arg1) a.G := keepGates (Gen.W8_args m ρ c main_arg1 (by decide)) h.g

theorem z8 : Slabs (Gen.V8 m ρ c main_v7) a.Z :=
    keepSlabs (Gen.W8_of m ρ c main_v7 (by decide)) <|
    keepSlabs (Gen.W7_of m ρ c main_v7 (by decide)) <|
    keepSlabs (Gen.W6_of m ρ c main_v7 (by decide)) <|
    keepSlabs (Gen.W5_of m ρ c main_v7 (by decide)) <|
    z4 ρ h

theorem dz9 : Slabs (Gen.V9 m ρ c main_v12_0) a.dZ :=
  keepSlabs (Gen.W9_arr m ρ c 3) (DGate.arrBranch (Gen.V8 m ρ) c _ _ (dm8 ρ h) (g8 ρ h))

theorem dg9 : Gates (Gen.V9 m ρ c main_v12_1) a.dG :=
  keepGates (Gen.W9_arr m ρ c 4) (DGate.arrGate (Gen.V8 m ρ) c _ _ _ (dm8 ρ h) (g8 ρ h) (z8 ρ h))

theorem ya9 : Holds (Gen.V9 m ρ c main_arg2) a.YA := keep (Gen.W9_args m ρ c main_arg2 (by decide)) h.ya

theorem wa10 : Holds (Gen.V10 m ρ c main_v13) (tn a.YA (a.dZ 0)) :=
  keep (Gen.W10_arr m ρ c 2) (DWA.arr (Gen.V9 m ρ) c _ _ (ya9 ρ h) (dz9 ρ h))

theorem yb10 : Holds (Gen.V10 m ρ c main_arg3) a.YB := keep (Gen.W10_args m ρ c main_arg3 (by decide)) h.yb

theorem dz10 : Slabs (Gen.V10 m ρ c main_v12_0) a.dZ :=
    keepSlabs (Gen.W10_of m ρ c main_v12_0 (by decide)) <|
    dz9 ρ h

theorem wb11 : Holds (Gen.V11 m ρ c main_v14) (tn a.YB (a.dZ 1)) :=
  keep (Gen.W11_arr m ρ c 2) (DWB.arr (Gen.V10 m ρ) c _ _ (yb10 ρ h) (dz10 ρ h))

theorem dz11 : Slabs (Gen.V11 m ρ c main_v12_0) a.dZ :=
    keepSlabs (Gen.W11_of m ρ c main_v12_0 (by decide)) <|
    dz10 ρ h

theorem a11 : Holds (Gen.V11 m ρ c main_v3) a.A :=
    keep (Gen.W11_of m ρ c main_v3 (by decide)) <|
    keep (Gen.W10_of m ρ c main_v3 (by decide)) <|
    keep (Gen.W9_of m ρ c main_v3 (by decide)) <|
    keep (Gen.W8_of m ρ c main_v3 (by decide)) <|
    keep (Gen.W7_of m ρ c main_v3 (by decide)) <|
    keep (Gen.W6_of m ρ c main_v3 (by decide)) <|
    keep (Gen.W5_of m ρ c main_v3 (by decide)) <|
    keep (Gen.W4_of m ρ c main_v3 (by decide)) <|
    keep (Gen.W3_of m ρ c main_v3 (by decide)) <|
    keep (Gen.W2_of m ρ c main_v3 (by decide)) <|
    wa1 ρ h

theorem ya12 : Holds (Gen.V12 m ρ c main_v15) (nt (a.dZ 0) a.A) :=
  keep (Gen.W12_arr m ρ c 2) (DYA.arr (Gen.V11 m ρ) c _ _ (dz11 ρ h) (a11 ρ h))

theorem dz12 : Slabs (Gen.V12 m ρ c main_v12_0) a.dZ :=
    keepSlabs (Gen.W12_of m ρ c main_v12_0 (by decide)) <|
    dz11 ρ h

theorem b12 : Holds (Gen.V12 m ρ c main_v4) a.B :=
    keep (Gen.W12_of m ρ c main_v4 (by decide)) <|
    keep (Gen.W11_of m ρ c main_v4 (by decide)) <|
    keep (Gen.W10_of m ρ c main_v4 (by decide)) <|
    keep (Gen.W9_of m ρ c main_v4 (by decide)) <|
    keep (Gen.W8_of m ρ c main_v4 (by decide)) <|
    keep (Gen.W7_of m ρ c main_v4 (by decide)) <|
    keep (Gen.W6_of m ρ c main_v4 (by decide)) <|
    keep (Gen.W5_of m ρ c main_v4 (by decide)) <|
    keep (Gen.W4_of m ρ c main_v4 (by decide)) <|
    wb3 ρ h

theorem yb13 : Holds (Gen.V13 m ρ c main_v16) (nt (a.dZ 1) a.B) :=
  keep (Gen.W13_arr m ρ c 2) (DYB.arr (Gen.V12 m ρ) c _ _ (dz12 ρ h) (b12 ρ h))

/-! ## The results, after the last host code -/

theorem out13 : Holds (Gen.V13 m ρ c main_v9) a.out :=
    keep (Gen.W13_of m ρ c main_v9 (by decide)) <|
    keep (Gen.W12_of m ρ c main_v9 (by decide)) <|
    keep (Gen.W11_of m ρ c main_v9 (by decide)) <|
    keep (Gen.W10_of m ρ c main_v9 (by decide)) <|
    keep (Gen.W9_of m ρ c main_v9 (by decide)) <|
    keep (Gen.W8_of m ρ c main_v9 (by decide)) <|
    keep (Gen.W7_of m ρ c main_v9 (by decide)) <|
    out6 ρ h

theorem out14 : Tokens (Gen.W14 m ρ c (Proc.devRef .tc main_v17)) a.out := by
  intro b s j
  unfold_abbrev_sides
  after_results
  pointwise
  exact out13 ρ h _ _

theorem dg13 : Gates (Gen.V13 m ρ c main_v12_1) a.dG :=
    keepGates (Gen.W13_of m ρ c main_v12_1 (by decide)) <|
    keepGates (Gen.W12_of m ρ c main_v12_1 (by decide)) <|
    keepGates (Gen.W11_of m ρ c main_v12_1 (by decide)) <|
    keepGates (Gen.W10_of m ρ c main_v12_1 (by decide)) <|
    dg9 ρ h

theorem dg14 : Wide (Gen.W14 m ρ c (Proc.devRef .tc main_v18)) a.dG := by
  intro s i j
  unfold_abbrev_sides
  after_results
  pointwise
  refine (congrArg (Gen.V13 m ρ c main_v12_1) (at_pair (j := gateCol s j) rfl ?_)).trans (dg13 ρ h s i j)
  exact (Nat.add_assoc _ _ _).symm

theorem ya14 : Holds (Gen.W14 m ρ c (Proc.devRef .tc main_v15)) (nt (a.dZ 0) a.A) :=
    keep (Gen.W14_of m ρ c main_v15 (by decide)) <|
    keep (Gen.W13_of m ρ c main_v15 (by decide)) <|
    ya12 ρ h

theorem yb14 : Holds (Gen.W14 m ρ c (Proc.devRef .tc main_v16)) (nt (a.dZ 1) a.B) :=
    keep (Gen.W14_of m ρ c main_v16 (by decide)) <|
    yb13 ρ h

theorem wa14 : Holds (Gen.W14 m ρ c (Proc.devRef .tc main_v13)) (tn a.YA (a.dZ 0)) :=
    keep (Gen.W14_of m ρ c main_v13 (by decide)) <|
    keep (Gen.W13_of m ρ c main_v13 (by decide)) <|
    keep (Gen.W12_of m ρ c main_v13 (by decide)) <|
    keep (Gen.W11_of m ρ c main_v13 (by decide)) <|
    wa10 ρ h

theorem wb14 : Holds (Gen.W14 m ρ c (Proc.devRef .tc main_v14)) (tn a.YB (a.dZ 1)) :=
    keep (Gen.W14_of m ρ c main_v14 (by decide)) <|
    keep (Gen.W13_of m ρ c main_v14 (by decide)) <|
    keep (Gen.W12_of m ρ c main_v14 (by decide)) <|
    wb11 ρ h

theorem wo14 : Holds (Gen.W14 m ρ c (Proc.devRef .tc main_v10)) (tn a.M a.D) :=
    keep (Gen.W14_of m ρ c main_v10 (by decide)) <|
    keep (Gen.W13_of m ρ c main_v10 (by decide)) <|
    keep (Gen.W12_of m ρ c main_v10 (by decide)) <|
    keep (Gen.W11_of m ρ c main_v10 (by decide)) <|
    keep (Gen.W10_of m ρ c main_v10 (by decide)) <|
    keep (Gen.W9_of m ρ c main_v10 (by decide)) <|
    keep (Gen.W8_of m ρ c main_v10 (by decide)) <|
    wo7 ρ h

end Cert.Kernel5Ideal.Chain

end
-- ==== Proof.Merge.Reference.lean ====
module
public import proofs.«01_k».proof.Proof.Gen.Reference5Ideal.Read
public import proofs.«01_k».proof.Proof.Merge.Spec

/-! The merge's reference: each of its arrays, in the order it computes them, holds the matrix that the specification
    names. It slices the two gates, whose logits lie side by side, out of one array; its derivative of the logistic
    function associates the product differently. -/

@[expose] public section

noncomputable section

namespace Cert.Reference5Ideal.Real

open Idealize.ShloMosaic Cert.Half Cert.Merge Cert.Reference5Ideal.Read

/-! Two matrices put side by side, read in either. -/

theorem left_at (u v : S4096x1024.Idx → EReal) (i : Fin 4096) (j : Fin 1024) :
    concatenate S4096x2048 1 [⟨S4096x1024, u⟩, ⟨S4096x1024, v⟩] Gen.concatenates_S4096x1024_S4096x1024_S4096x2048_d1
      (ix2 i (wideCol 0 j)) = u (ix2 i j) :=
  concatenate_pair_apply_left 1 u v Gen.concatenates_S4096x1024_S4096x1024_S4096x2048_d1 _ rfl _ (fun b => by
    match b with
    | ⟨0, _⟩ => rfl
    | ⟨1, _⟩ => show j.val = 0 * 1024 + j.val; omega)

theorem right_at (u v : S4096x1024.Idx → EReal) (i : Fin 4096) (j : Fin 1024) :
    concatenate S4096x2048 1 [⟨S4096x1024, u⟩, ⟨S4096x1024, v⟩] Gen.concatenates_S4096x1024_S4096x1024_S4096x2048_d1
      (ix2 i (wideCol 1 j)) = v (ix2 i j) :=
  concatenate_pair_apply_right 1 u v Gen.concatenates_S4096x1024_S4096x1024_S4096x2048_d1 _ rfl rfl _
    (fun b hb => by
      match b with
      | ⟨0, _⟩ => rfl
      | ⟨1, _⟩ => exact absurd rfl hb)
    (by show j.val + 1024 = 1 * 1024 + j.val; omega)

variable {x : FVec Ideal S2x2048x1024 .f32} {p : FVec Ideal S4096x5888 .f32} {ya : FVec Ideal S4096x256 .bf16}
  {yb : FVec Ideal S4096x512 .bf16} {wa : FVec Ideal S256x1024 .f32} {wb : FVec Ideal S512x1024 .f32}
  {wo : FVec Ideal S1024x1024 .f32} {dy : FVec Ideal S2x2048x1024 .f32} {a : Given}
  (h : Merge.Reads x p ya yb wa wb wo dy a)
include h

/-! ## The gates -/

theorem logits_at : Wide (val_main_v0 (F := Ideal) p) a.G := fun s i j => by
  rw [val_main_v0_apply]
  exact (congrArg p (at_pair (j := gateCol s j) rfl (Nat.add_assoc _ _ _).symm)).trans (h.g s i j)

theorem one_at (k : S4096x2048.Idx) : val_main_v5 (F := Ideal) k = 1 := by
  rw [val_main_v5_apply]; exact Ideal.ofBits_one_f32

theorem one_at' (k : S4096x2048.Idx) : val_main_v7 (F := Ideal) k = 1 := by
  rw [val_main_v7_apply]; exact Ideal.ofBits_one_f32

theorem one_at'' (k : S4096x2048.Idx) : val_main_v9 (F := Ideal) k = 1 := by
  rw [val_main_v9_apply]; exact Ideal.ofBits_one_f32

theorem gates_at : Wide (val_main_v8 (F := Ideal) p) (fun s i j => Ideal.logistic (a.G s i j)) := fun s i j =>
  congrArg₂ Ideal.div (one_at' h _) (congrArg₂ (· + ·) (one_at h _) (congrArg (fun z => Ideal.exp (-z)) (logits_at h s i j)))

theorem slope_at : Wide (val_main_v11 (F := Ideal) p)
    (fun s i j => Ideal.logistic (a.G s i j) * (1 - Ideal.logistic (a.G s i j))) := fun s i j =>
  congrArg₂ (· * ·) (gates_at h s i j) (congrArg₂ (· - ·) (one_at'' h _) (gates_at h s i j))

theorem gate0_at : Holds (val_main_v12 (F := Ideal) p) (fun i j => Ideal.logistic (a.G 0 i j)) := fun i j => by
  rw [val_main_v12_apply]
  exact (congrArg _ (at_pair (i := i) (j := wideCol 0 j) rfl (by show j.val = 0 * 1024 + j.val; omega))).trans (gates_at h 0 i j)

theorem gate1_at : Holds (val_main_v13 (F := Ideal) p) (fun i j => Ideal.logistic (a.G 1 i j)) := fun i j => by
  rw [val_main_v13_apply]
  exact (congrArg _ (at_pair (i := i) (j := wideCol 1 j) rfl (by show 1024 + j.val = 1 * 1024 + j.val; omega))).trans (gates_at h 1 i j)

/-! ## The forward half -/

theorem z0_at : Holds (val_main_v14 (F := Ideal) ya wa) (a.Z 0) := fun i j => by
  rw [val_main_v14_apply]
  show _ = nn a.YA a.A i j
  refine Finset.sum_congr rfl fun k _ => ?_
  have hl : lidx_main_v14 (ix2 i j) k = ix2 i k := at_pair rfl rfl
  have hr : ridx_main_v14 (ix2 i j) k = ix2 k j := at_pair rfl rfl
  rw [hl, hr]
  exact congrArg₂ (· * ·) (h.ya i k) (h.wa k j)

theorem z1_at : Holds (val_main_v16 (F := Ideal) yb wb) (a.Z 1) := fun i j => by
  rw [val_main_v16_apply]
  show _ = nn a.YB a.B i j
  refine Finset.sum_congr rfl fun k _ => ?_
  have hl : lidx_main_v16 (ix2 i j) k = ix2 i k := at_pair rfl rfl
  have hr : ridx_main_v16 (ix2 i j) k = ix2 k j := at_pair rfl rfl
  rw [hl, hr]
  exact congrArg₂ (· * ·) (h.yb i k) (h.wb k j)

theorem merged_at : Holds (val_main_v18 (F := Ideal) p ya yb wa wb) a.M := fun i j =>
  congrArg₂ (· + ·) (congrArg₂ (· * ·) (gate0_at h i j) (z0_at h i j)) (congrArg₂ (· * ·) (gate1_at h i j) (z1_at h i j))

theorem product_at : Holds (val_main_v19 (F := Ideal) p ya yb wa wb wo) (nn a.M a.O) := fun i j => by
  rw [val_main_v19_apply]
  refine Finset.sum_congr rfl fun k _ => ?_
  have hl : lidx_main_v19 (ix2 i j) k = ix2 i k := at_pair rfl rfl
  have hr : ridx_main_v19 (ix2 i j) k = ix2 k j := at_pair rfl rfl
  rw [hl, hr]
  exact congrArg₂ (· * ·) (merged_at h i k) (h.wo k j)

theorem out_at : Tokens (val_main_v37 (F := Ideal) x p ya yb wa wb wo) a.out := fun b s j => by
  have e : idx_main_v36 (ix3 b s j) = ix2 (flat b s) j := by
    refine at_pair ?_ ?_
    · show ((b.val * 2048 + s.val) * 1024 + j.val) / 1024 = b.val * 2048 + s.val
      omega
    · show ((b.val * 2048 + s.val) * 1024 + j.val) % 1024 = j.val
      omega
  have hy : val_main_v36 (F := Ideal) p ya yb wa wb wo (ix3 b s j) = nn a.M a.O (flat b s) j := by
    rw [val_main_v36_apply, e]
    exact product_at h _ _
  exact (congrArg₂ (· + ·) (h.x b s j) hy).trans (add_comm _ _)

/-! ## The backward half -/

theorem cotangent_at : Holds (val_main_v20 (F := Ideal) dy) a.D := fun i j => by
  have e : idx_main_v20 (ix2 i j) = ix3 ⟨i.val / 2048, by omega⟩ ⟨i.val % 2048, by omega⟩ j := by
    refine at_triple ?_ ?_ ?_
    · show (i.val * 1024 + j.val) / 2097152 = i.val / 2048
      omega
    · show (i.val * 1024 + j.val) / 1024 % 2048 = i.val % 2048
      omega
    · show (i.val * 1024 + j.val) % 1024 = j.val
      omega
  rw [val_main_v20_apply, e]
  exact (h.dy _ _ _).trans (by rw [flat_divMod])

theorem dwo_at : Holds (val_main_v41 (F := Ideal) p ya yb wa wb dy) (tn a.M a.D) := fun i j => by
  have e : idx_main_v22 (ix2 i j) = ix2 j i := at_pair rfl rfl
  refine (val_main_v41_apply (F := Ideal) p ya yb wa wb dy (ix2 i j)).trans
    ((val_main_v22_apply (F := Ideal) p ya yb wa wb dy (ix2 i j)).trans ?_)
  rw [e, val_main_v21_apply]
  refine Finset.sum_congr rfl fun k _ => ?_
  have hl : lidx_main_v21 (ix2 j i) k = ix2 k j := at_pair rfl rfl
  have hr : ridx_main_v21 (ix2 j i) k = ix2 k i := at_pair rfl rfl
  rw [hl, hr]
  exact (congrArg₂ (· * ·) (cotangent_at h k j) (merged_at h k i)).trans (mul_comm _ _)

theorem dm_at : Holds (val_main_v23 (F := Ideal) wo dy) a.dM := fun i j => by
  rw [val_main_v23_apply]
  show _ = nt a.D a.O i j
  refine Finset.sum_congr rfl fun k _ => ?_
  have hl : lidx_main_v23 (ix2 i j) k = ix2 i k := at_pair rfl rfl
  have hr : ridx_main_v23 (ix2 i j) k = ix2 j k := at_pair rfl rfl
  rw [hl, hr]
  exact congrArg₂ (· * ·) (cotangent_at h i k) (h.wo j k)

theorem dz1_at : Holds (val_main_v24 (F := Ideal) p wo dy) (a.dZ 1) := fun i j =>
  (congrArg₂ (· * ·) (gate1_at h i j) (dm_at h i j)).trans (mul_comm _ _)

theorem dz0_at : Holds (val_main_v29 (F := Ideal) p wo dy) (a.dZ 0) := fun i j =>
  (congrArg₂ (· * ·) (gate0_at h i j) (dm_at h i j)).trans (mul_comm _ _)

theorem dwb_at : Holds (val_main_v40 (F := Ideal) p yb wo dy) (tn a.YB (a.dZ 1)) := fun i j => by
  have e : idx_main_v27 (ix2 i j) = ix2 j i := at_pair rfl rfl
  refine (val_main_v40_apply (F := Ideal) p yb wo dy (ix2 i j)).trans
    ((val_main_v27_apply (F := Ideal) p yb wo dy (ix2 i j)).trans ?_)
  rw [e, val_main_v26_apply]
  refine Finset.sum_congr rfl fun k _ => ?_
  have hl : lidx_main_v26 (ix2 j i) k = ix2 k j := at_pair rfl rfl
  have hr : ridx_main_v26 (ix2 j i) k = ix2 k i := at_pair rfl rfl
  rw [hl, hr]
  exact (congrArg₂ (· * ·) (dz1_at h k j) (h.yb k i)).trans (mul_comm _ _)

theorem dwa_at : Holds (val_main_v39 (F := Ideal) p ya wo dy) (tn a.YA (a.dZ 0)) := fun i j => by
  have e : idx_main_v32 (ix2 i j) = ix2 j i := at_pair rfl rfl
  refine (val_main_v39_apply (F := Ideal) p ya wo dy (ix2 i j)).trans
    ((val_main_v32_apply (F := Ideal) p ya wo dy (ix2 i j)).trans ?_)
  rw [e, val_main_v31_apply]
  refine Finset.sum_congr rfl fun k _ => ?_
  have hl : lidx_main_v31 (ix2 j i) k = ix2 k j := at_pair rfl rfl
  have hr : ridx_main_v31 (ix2 j i) k = ix2 k i := at_pair rfl rfl
  rw [hl, hr]
  exact (congrArg₂ (· * ·) (dz0_at h k j) (h.ya k i)).trans (mul_comm _ _)

theorem dyb_at : Holds (val_main_v28 (F := Ideal) p wb wo dy) (nt (a.dZ 1) a.B) := fun i j => by
  rw [val_main_v28_apply]
  refine Finset.sum_congr rfl fun k _ => ?_
  have hl : lidx_main_v28 (ix2 i j) k = ix2 i k := at_pair rfl rfl
  have hr : ridx_main_v28 (ix2 i j) k = ix2 j k := at_pair rfl rfl
  rw [hl, hr]
  exact congrArg₂ (· * ·) (dz1_at h i k) (h.wb j k)

theorem dya_at : Holds (val_main_v33 (F := Ideal) p wa wo dy) (nt (a.dZ 0) a.A) := fun i j => by
  rw [val_main_v33_apply]
  refine Finset.sum_congr rfl fun k _ => ?_
  have hl : lidx_main_v33 (ix2 i j) k = ix2 i k := at_pair rfl rfl
  have hr : ridx_main_v33 (ix2 i j) k = ix2 j k := at_pair rfl rfl
  rw [hl, hr]
  exact congrArg₂ (· * ·) (dz0_at h i k) (h.wa j k)

/-- The gradients of the gates themselves, side by side. -/
theorem dgates_at : Wide (val_main_v34 (F := Ideal) ya yb wa wb wo dy) (fun s i j => a.dM i j * a.Z s i j) := fun s i j => by
  match s with
  | ⟨0, _⟩ => exact (left_at _ _ i j).trans (congrArg₂ (· * ·) (dm_at h i j) (z0_at h i j))
  | ⟨1, _⟩ => exact (right_at _ _ i j).trans (congrArg₂ (· * ·) (dm_at h i j) (z1_at h i j))

theorem dlogits_at : Wide (val_main_v38 (F := Ideal) p ya yb wa wb wo dy) a.dG := fun s i j =>
  (congrArg₂ (· * ·) (dgates_at h s i j) (slope_at h s i j)).trans (mul_assoc _ _ _).symm

end Cert.Reference5Ideal.Real

end
-- ==== Proof.Adam.Spec.lean ====
module
public import Idealize.ShloMosaic.Lib.Pipeline.ValueKit
public import Idealize.ShloMosaic.Lib.Pointwise

/-! One step of the optimiser on one element: the two averages that the next step starts from, and the change of the
    weight. A constant is the number that its float word is; a cell of the three is named by the value `g` of the
    gradient, `m` and `v` of the averages and `w` of the weight. -/

@[expose] public section

noncomputable section

namespace Cert.Adam

open Idealize.ShloMosaic

/-- The average of the gradients: nine tenths of the old and one tenth of the new. -/
def mean (g m : EReal) : EReal :=
  Ideal.ofBits .f32 0x3F666666#32 * m + Ideal.ofBits .f32 0x3DCCCCCD#32 * g

/-- The average of the squares: 0.999 of the old and 0.001 of the new. -/
def square (g v : EReal) : EReal :=
  Ideal.ofBits .f32 0x3F7FBE77#32 * v + Ideal.ofBits .f32 0x3A83126F#32 * (g * g)

/-- The change of the weight: the averages are divided by one minus the tenth powers of their rates, their quotient and a
    hundredth of the weight are added, and the sum is multiplied by minus the rate of learning. -/
def delta (w g m v : EReal) : EReal :=
  Ideal.ofBits .f32 0xBA83126F#32 *
    (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

variable {s t : Shape}

/-- The three functions on whole arrays of one shape. -/
def means (g m : s.Idx → EReal) : s.Idx → EReal := fun i => mean (g i) (m i)

def squares (g v : s.Idx → EReal) : s.Idx → EReal := fun i => square (g i) (v i)

def deltas (w g m v : s.Idx → EReal) : s.Idx → EReal := fun i => delta (w i) (g i) (m i) (v i)

/-! A block loses its unit axis when it is read and gets it back when it is stored: that changes no element. -/

theorem means_cast (h : s.ShapeCasts t) (h' : t.ShapeCasts s) (g m : s.Idx → EReal) :
    shapeCast s (means (shapeCast t g h) (shapeCast t m h)) h' = means g m :=
  funext fun i => congrArg₂ mean (congrFun (shapeCast_shapeCast g h h') i) (congrFun (shapeCast_shapeCast m h h') i)

theorem squares_cast (h : s.ShapeCasts t) (h' : t.ShapeCasts s) (g v : s.Idx → EReal) :
    shapeCast s (squares (shapeCast t g h) (shapeCast t v h)) h' = squares g v :=
  funext fun i => congrArg₂ square (congrFun (shapeCast_shapeCast g h h') i) (congrFun (shapeCast_shapeCast v h h') i)

theorem deltas_cast (h : s.ShapeCasts t) (h' : t.ShapeCasts s) (w g m v : s.Idx → EReal) :
    shapeCast s (deltas (shapeCast t w h) (shapeCast t g h) (shapeCast t m h) (shapeCast t v h)) h' = deltas w g m v :=
  funext fun i => by
    have e (x : s.Idx → EReal) : shapeCast s (shapeCast t x h) h' i = x i := congrFun (shapeCast_shapeCast x h h') i
    show delta (shapeCast s (shapeCast t w h) h' i) (shapeCast s (shapeCast t g h) h' i) (shapeCast s (shapeCast t m h) h' i)
      (shapeCast s (shapeCast t v h) h' i) = _
    rw [e, e, e, e]
    rfl

end Cert.Adam

end
-- ==== Proof.Adam.Up.lean ====
module
public import proofs.«01_k».proof.Defs
public import proofs.«01_k».proof.Proof.Gen.Kernel6Ideal.Value
public import proofs.«01_k».proof.Proof.Gen.Reference6Ideal.Run
public import proofs.«01_k».proof.Proof.Adam.Spec
public import Idealize.ShloMosaic.Lib.Quiescent

/-! The optimiser on a feed-forward half's first weight: two layers of 1024 rows and 1408 columns, 512 rows a step. -/

@[expose] public section

noncomputable section

namespace Cert.Kernel6Ideal.Up

open Idealize.ShloMosaic Idealize.ShloMosaic.TcCoe Idealize.ShloMosaic.Tactic
open Idealize.SL.Sem
open Idealize.ShloMosaic.Pipeline (Dat Cfg Window)
open Cert.Adam

variable (m : (ℓ : Loc nD τ sig) → Buf (Elt Ideal) ℓ) (c : Dev nD)

/-- The three arrays after the call: what one step makes of each element. -/
theorem arrD : (Gen.dats m 0 c).arrAt 4 cfg0.N
    = deltas (m ((c : Thread nD τ).loc main_arg0)) (m ((c : Thread nD τ).loc main_arg1))
        (m ((c : Thread nD τ).loc main_arg2)) (m ((c : Thread nD τ).loc main_arg3)) := by
  refine funext ((Gen.dats m 0 c).arrAt_forall_of_covers 4 (fun e v => v = deltas _ _ _ _ e)
    (by decide +kernel) (fun t hf y => ?_))
  blk_simp
  rw [Gen.after0_4]
  frame_out
  exact congrFun (deltas_cast _ _ (Gen.iblk m c 0 t)
    (Gen.iblk m c 1 t) (Gen.iblk m c 2 t) (Gen.iblk m c 3 t)) y

theorem arrM : (Gen.dats m 0 c).arrAt 5 cfg0.N
    = means (m ((c : Thread nD τ).loc main_arg1)) (m ((c : Thread nD τ).loc main_arg2)) := by
  refine funext ((Gen.dats m 0 c).arrAt_forall_of_covers 5 (fun e v => v = means _ _ e) (by decide +kernel)
    (fun t hf y => ?_))
  blk_simp
  rw [Gen.after0_5]
  frame_out
  exact congrFun (means_cast _ _ (Gen.iblk m c 1 t)
    (Gen.iblk m c 2 t)) y

theorem arrV : (Gen.dats m 0 c).arrAt 6 cfg0.N
    = squares (m ((c : Thread nD τ).loc main_arg1)) (m ((c : Thread nD τ).loc main_arg3)) := by
  refine funext ((Gen.dats m 0 c).arrAt_forall_of_covers 6 (fun e v => v = squares _ _ e) (by decide +kernel)
    (fun t hf y => ?_))
  blk_simp
  rw [Gen.after0_6]
  frame_out
  exact congrFun (squares_cast _ _ (Gen.iblk m c 1 t)
    (Gen.iblk m c 3 t)) y

attribute [local instance] Gen.facts Cert.Reference6Ideal.Gen.facts

/-- The call and reference.py's lines end with equal results: each is the same function of the arguments. -/
theorem equal : algebraic_Kernel6Ideal_Reference6Ideal := by
  intro m ρ m' ρ' _ hargs
  refine ⟨fun c => (Gen.dats m 0 c).arrAt 4 cfg0.N, fun c => (Gen.dats m 0 c).arrAt 5 cfg0.N,
    fun c => (Gen.dats m 0 c).arrAt 6 cfg0.N, Value.run_blocks m ρ,
    (θ_run Cert.Reference6Ideal.defs _ _).mono (fun r h c => ?_) (Cert.Reference6Ideal.Value.run m' ρ')⟩
  obtain ⟨d, n, s, rest⟩ := h c
  obtain ⟨e₀, e₁, e₂, e₃⟩ := hargs c
  rw [e₀, e₁, e₂, e₃] at d
  rw [e₁, e₂] at n
  rw [e₁, e₃] at s
  exact ⟨d.trans (arrD m c).symm, n.trans (arrM m c).symm, s.trans (arrV m c).symm, rest⟩

theorem frame : quiescent_Reference6Ideal := fun m ρ _ =>
  (θ_run Cert.Reference6Ideal.defs _ _).mono
    (fun r h => ⟨fun c => (h c).2.2.2, sem_eq_zero_of_no_sems rfl r.2⟩) (Cert.Reference6Ideal.Value.run m ρ)

end Cert.Kernel6Ideal.Up

end
-- ==== Proof.Adam.Down.lean ====
module
public import proofs.«01_k».proof.Defs
public import proofs.«01_k».proof.Proof.Gen.Kernel7Ideal.Value
public import proofs.«01_k».proof.Proof.Gen.Reference7Ideal.Run
public import proofs.«01_k».proof.Proof.Adam.Spec
public import Idealize.ShloMosaic.Lib.Quiescent

/-! The optimiser on a feed-forward half's second weight: two layers of 704 rows and 1024 columns, 64 rows a step. -/

@[expose] public section

noncomputable section

namespace Cert.Kernel7Ideal.Down

open Idealize.ShloMosaic Idealize.ShloMosaic.TcCoe Idealize.ShloMosaic.Tactic
open Idealize.SL.Sem
open Idealize.ShloMosaic.Pipeline (Dat Cfg Window)
open Cert.Adam

variable (m : (ℓ : Loc nD τ sig) → Buf (Elt Ideal) ℓ) (c : Dev nD)

/-- The three arrays after the call: what one step makes of each element. -/
theorem arrD : (Gen.dats m 0 c).arrAt 4 cfg0.N
    = deltas (m ((c : Thread nD τ).loc main_arg0)) (m ((c : Thread nD τ).loc main_arg1))
        (m ((c : Thread nD τ).loc main_arg2)) (m ((c : Thread nD τ).loc main_arg3)) := by
  refine funext ((Gen.dats m 0 c).arrAt_forall_of_covers 4 (fun e v => v = deltas _ _ _ _ e)
    (by decide +kernel) (fun t hf y => ?_))
  blk_simp
  rw [Gen.after0_4]
  frame_out
  exact congrFun (deltas_cast _ _ (Gen.iblk m c 0 t)
    (Gen.iblk m c 1 t) (Gen.iblk m c 2 t) (Gen.iblk m c 3 t)) y

theorem arrM : (Gen.dats m 0 c).arrAt 5 cfg0.N
    = means (m ((c : Thread nD τ).loc main_arg1)) (m ((c : Thread nD τ).loc main_arg2)) := by
  refine funext ((Gen.dats m 0 c).arrAt_forall_of_covers 5 (fun e v => v = means _ _ e) (by decide +kernel)
    (fun t hf y => ?_))
  blk_simp
  rw [Gen.after0_5]
  frame_out
  exact congrFun (means_cast _ _ (Gen.iblk m c 1 t)
    (Gen.iblk m c 2 t)) y

theorem arrV : (Gen.dats m 0 c).arrAt 6 cfg0.N
    = squares (m ((c : Thread nD τ).loc main_arg1)) (m ((c : Thread nD τ).loc main_arg3)) := by
  refine funext ((Gen.dats m 0 c).arrAt_forall_of_covers 6 (fun e v => v = squares _ _ e) (by decide +kernel)
    (fun t hf y => ?_))
  blk_simp
  rw [Gen.after0_6]
  frame_out
  exact congrFun (squares_cast _ _ (Gen.iblk m c 1 t)
    (Gen.iblk m c 3 t)) y

attribute [local instance] Gen.facts Cert.Reference7Ideal.Gen.facts

/-- The call and reference.py's lines end with equal results: each is the same function of the arguments. -/
theorem equal : algebraic_Kernel7Ideal_Reference7Ideal := by
  intro m ρ m' ρ' _ hargs
  refine ⟨fun c => (Gen.dats m 0 c).arrAt 4 cfg0.N, fun c => (Gen.dats m 0 c).arrAt 5 cfg0.N,
    fun c => (Gen.dats m 0 c).arrAt 6 cfg0.N, Value.run_blocks m ρ,
    (θ_run Cert.Reference7Ideal.defs _ _).mono (fun r h c => ?_) (Cert.Reference7Ideal.Value.run m' ρ')⟩
  obtain ⟨d, n, s, rest⟩ := h c
  obtain ⟨e₀, e₁, e₂, e₃⟩ := hargs c
  rw [e₀, e₁, e₂, e₃] at d
  rw [e₁, e₂] at n
  rw [e₁, e₃] at s
  exact ⟨d.trans (arrD m c).symm, n.trans (arrM m c).symm, s.trans (arrV m c).symm, rest⟩

theorem frame : quiescent_Reference7Ideal := fun m ρ _ =>
  (θ_run Cert.Reference7Ideal.defs _ _).mono
    (fun r h => ⟨fun c => (h c).2.2.2, sem_eq_zero_of_no_sems rfl r.2⟩) (Cert.Reference7Ideal.Value.run m ρ)

end Cert.Kernel7Ideal.Down

end
-- ==== Proof.Adam.In.lean ====
module
public import proofs.«01_k».proof.Defs
public import proofs.«01_k».proof.Proof.Gen.Kernel8Ideal.Value
public import proofs.«01_k».proof.Proof.Gen.Reference8Ideal.Run
public import proofs.«01_k».proof.Proof.Adam.Spec
public import Idealize.ShloMosaic.Lib.Quiescent

/-! The optimiser on the mixer's combined projection: two layers of 1024 rows and 1472 columns, 512 rows a step. -/

@[expose] public section

noncomputable section

namespace Cert.Kernel8Ideal.In

open Idealize.ShloMosaic Idealize.ShloMosaic.TcCoe Idealize.ShloMosaic.Tactic
open Idealize.SL.Sem
open Idealize.ShloMosaic.Pipeline (Dat Cfg Window)
open Cert.Adam

variable (m : (ℓ : Loc nD τ sig) → Buf (Elt Ideal) ℓ) (c : Dev nD)

/-- The three arrays after the call: what one step makes of each element. -/
theorem arrD : (Gen.dats m 0 c).arrAt 4 cfg0.N
    = deltas (m ((c : Thread nD τ).loc main_arg0)) (m ((c : Thread nD τ).loc main_arg1))
        (m ((c : Thread nD τ).loc main_arg2)) (m ((c : Thread nD τ).loc main_arg3)) := by
  refine funext ((Gen.dats m 0 c).arrAt_forall_of_covers 4 (fun e v => v = deltas _ _ _ _ e)
    (by decide +kernel) (fun t hf y => ?_))
  blk_simp
  rw [Gen.after0_4]
  frame_out
  exact congrFun (deltas_cast _ _ (Gen.iblk m c 0 t)
    (Gen.iblk m c 1 t) (Gen.iblk m c 2 t) (Gen.iblk m c 3 t)) y

theorem arrM : (Gen.dats m 0 c).arrAt 5 cfg0.N
    = means (m ((c : Thread nD τ).loc main_arg1)) (m ((c : Thread nD τ).loc main_arg2)) := by
  refine funext ((Gen.dats m 0 c).arrAt_forall_of_covers 5 (fun e v => v = means _ _ e) (by decide +kernel)
    (fun t hf y => ?_))
  blk_simp
  rw [Gen.after0_5]
  frame_out
  exact congrFun (means_cast _ _ (Gen.iblk m c 1 t)
    (Gen.iblk m c 2 t)) y

theorem arrV : (Gen.dats m 0 c).arrAt 6 cfg0.N
    = squares (m ((c : Thread nD τ).loc main_arg1)) (m ((c : Thread nD τ).loc main_arg3)) := by
  refine funext ((Gen.dats m 0 c).arrAt_forall_of_covers 6 (fun e v => v = squares _ _ e) (by decide +kernel)
    (fun t hf y => ?_))
  blk_simp
  rw [Gen.after0_6]
  frame_out
  exact congrFun (squares_cast _ _ (Gen.iblk m c 1 t)
    (Gen.iblk m c 3 t)) y

attribute [local instance] Gen.facts Cert.Reference8Ideal.Gen.facts

/-- The call and reference.py's lines end with equal results: each is the same function of the arguments. -/
theorem equal : algebraic_Kernel8Ideal_Reference8Ideal := by
  intro m ρ m' ρ' _ hargs
  refine ⟨fun c => (Gen.dats m 0 c).arrAt 4 cfg0.N, fun c => (Gen.dats m 0 c).arrAt 5 cfg0.N,
    fun c => (Gen.dats m 0 c).arrAt 6 cfg0.N, Value.run_blocks m ρ,
    (θ_run Cert.Reference8Ideal.defs _ _).mono (fun r h c => ?_) (Cert.Reference8Ideal.Value.run m' ρ')⟩
  obtain ⟨d, n, s, rest⟩ := h c
  obtain ⟨e₀, e₁, e₂, e₃⟩ := hargs c
  rw [e₀, e₁, e₂, e₃] at d
  rw [e₁, e₂] at n
  rw [e₁, e₃] at s
  exact ⟨d.trans (arrD m c).symm, n.trans (arrM m c).symm, s.trans (arrV m c).symm, rest⟩

theorem frame : quiescent_Reference8Ideal := fun m ρ _ =>
  (θ_run Cert.Reference8Ideal.defs _ _).mono
    (fun r h => ⟨fun c => (h c).2.2.2, sem_eq_zero_of_no_sems rfl r.2⟩) (Cert.Reference8Ideal.Value.run m ρ)

end Cert.Kernel8Ideal.In

end
-- ==== Proof.Adam.BranchA.lean ====
module
public import proofs.«01_k».proof.Defs
public import proofs.«01_k».proof.Proof.Gen.Kernel9Ideal.Value
public import proofs.«01_k».proof.Proof.Gen.Reference9Ideal.Run
public import proofs.«01_k».proof.Proof.Adam.Spec
public import Idealize.ShloMosaic.Lib.Quiescent

/-! The optimiser on the weight after the dilated attention: two layers of 256 rows and 256 columns, a layer a step. -/

@[expose] public section

noncomputable section

namespace Cert.Kernel9Ideal.BranchA

open Idealize.ShloMosaic Idealize.ShloMosaic.TcCoe Idealize.ShloMosaic.Tactic
open Idealize.SL.Sem
open Idealize.ShloMosaic.Pipeline (Dat Cfg Window)
open Cert.Adam

variable (m : (ℓ : Loc nD τ sig) → Buf (Elt Ideal) ℓ) (c : Dev nD)

/-- The three arrays after the call: what one step makes of each element. -/
theorem arrD : (Gen.dats m 0 c).arrAt 4 cfg0.N
    = deltas (m ((c : Thread nD τ).loc main_arg0)) (m ((c : Thread nD τ).loc main_arg1))
        (m ((c : Thread nD τ).loc main_arg2)) (m ((c : Thread nD τ).loc main_arg3)) := by
  refine funext ((Gen.dats m 0 c).arrAt_forall_of_covers 4 (fun e v => v = deltas _ _ _ _ e)
    (by decide +kernel) (fun t hf y => ?_))
  blk_simp
  rw [Gen.after0_4]
  frame_out
  exact congrFun (deltas_cast _ _ (Gen.iblk m c 0 t)
    (Gen.iblk m c 1 t) (Gen.iblk m c 2 t) (Gen.iblk m c 3 t)) y

theorem arrM : (Gen.dats m 0 c).arrAt 5 cfg0.N
    = means (m ((c : Thread nD τ).loc main_arg1)) (m ((c : Thread nD τ).loc main_arg2)) := by
  refine funext ((Gen.dats m 0 c).arrAt_forall_of_covers 5 (fun e v => v = means _ _ e) (by decide +kernel)
    (fun t hf y => ?_))
  blk_simp
  rw [Gen.after0_5]
  frame_out
  exact congrFun (means_cast _ _ (Gen.iblk m c 1 t)
    (Gen.iblk m c 2 t)) y

theorem arrV : (Gen.dats m 0 c).arrAt 6 cfg0.N
    = squares (m ((c : Thread nD τ).loc main_arg1)) (m ((c : Thread nD τ).loc main_arg3)) := by
  refine funext ((Gen.dats m 0 c).arrAt_forall_of_covers 6 (fun e v => v = squares _ _ e) (by decide +kernel)
    (fun t hf y => ?_))
  blk_simp
  rw [Gen.after0_6]
  frame_out
  exact congrFun (squares_cast _ _ (Gen.iblk m c 1 t)
    (Gen.iblk m c 3 t)) y

attribute [local instance] Gen.facts Cert.Reference9Ideal.Gen.facts

/-- The call and reference.py's lines end with equal results: each is the same function of the arguments. -/
theorem equal : algebraic_Kernel9Ideal_Reference9Ideal := by
  intro m ρ m' ρ' _ hargs
  refine ⟨fun c => (Gen.dats m 0 c).arrAt 4 cfg0.N, fun c => (Gen.dats m 0 c).arrAt 5 cfg0.N,
    fun c => (Gen.dats m 0 c).arrAt 6 cfg0.N, Value.run_blocks m ρ,
    (θ_run Cert.Reference9Ideal.defs _ _).mono (fun r h c => ?_) (Cert.Reference9Ideal.Value.run m' ρ')⟩
  obtain ⟨d, n, s, rest⟩ := h c
  obtain ⟨e₀, e₁, e₂, e₃⟩ := hargs c
  rw [e₀, e₁, e₂, e₃] at d
  rw [e₁, e₂] at n
  rw [e₁, e₃] at s
  exact ⟨d.trans (arrD m c).symm, n.trans (arrM m c).symm, s.trans (arrV m c).symm, rest⟩

theorem frame : quiescent_Reference9Ideal := fun m ρ _ =>
  (θ_run Cert.Reference9Ideal.defs _ _).mono
    (fun r h => ⟨fun c => (h c).2.2.2, sem_eq_zero_of_no_sems rfl r.2⟩) (Cert.Reference9Ideal.Value.run m ρ)

end Cert.Kernel9Ideal.BranchA

end
-- ==== Proof.Adam.BranchB.lean ====
module
public import proofs.«01_k».proof.Defs
public import proofs.«01_k».proof.Proof.Gen.Kernel10Ideal.Value
public import proofs.«01_k».proof.Proof.Gen.Reference10Ideal.Run
public import proofs.«01_k».proof.Proof.Adam.Spec
public import Idealize.ShloMosaic.Lib.Quiescent

/-! The optimiser on the weight after the neighbourhood attention: two layers of 512 rows and 256 columns, a layer a step. -/

@[expose] public section

noncomputable section

namespace Cert.Kernel10Ideal.BranchB

open Idealize.ShloMosaic Idealize.ShloMosaic.TcCoe Idealize.ShloMosaic.Tactic
open Idealize.SL.Sem
open Idealize.ShloMosaic.Pipeline (Dat Cfg Window)
open Cert.Adam

variable (m : (ℓ : Loc nD τ sig) → Buf (Elt Ideal) ℓ) (c : Dev nD)

/-- The three arrays after the call: what one step makes of each element. -/
theorem arrD : (Gen.dats m 0 c).arrAt 4 cfg0.N
    = deltas (m ((c : Thread nD τ).loc main_arg0)) (m ((c : Thread nD τ).loc main_arg1))
        (m ((c : Thread nD τ).loc main_arg2)) (m ((c : Thread nD τ).loc main_arg3)) := by
  refine funext ((Gen.dats m 0 c).arrAt_forall_of_covers 4 (fun e v => v = deltas _ _ _ _ e)
    (by decide +kernel) (fun t hf y => ?_))
  blk_simp
  rw [Gen.after0_4]
  frame_out
  exact congrFun (deltas_cast _ _ (Gen.iblk m c 0 t)
    (Gen.iblk m c 1 t) (Gen.iblk m c 2 t) (Gen.iblk m c 3 t)) y

theorem arrM : (Gen.dats m 0 c).arrAt 5 cfg0.N
    = means (m ((c : Thread nD τ).loc main_arg1)) (m ((c : Thread nD τ).loc main_arg2)) := by
  refine funext ((Gen.dats m 0 c).arrAt_forall_of_covers 5 (fun e v => v = means _ _ e) (by decide +kernel)
    (fun t hf y => ?_))
  blk_simp
  rw [Gen.after0_5]
  frame_out
  exact congrFun (means_cast _ _ (Gen.iblk m c 1 t)
    (Gen.iblk m c 2 t)) y

theorem arrV : (Gen.dats m 0 c).arrAt 6 cfg0.N
    = squares (m ((c : Thread nD τ).loc main_arg1)) (m ((c : Thread nD τ).loc main_arg3)) := by
  refine funext ((Gen.dats m 0 c).arrAt_forall_of_covers 6 (fun e v => v = squares _ _ e) (by decide +kernel)
    (fun t hf y => ?_))
  blk_simp
  rw [Gen.after0_6]
  frame_out
  exact congrFun (squares_cast _ _ (Gen.iblk m c 1 t)
    (Gen.iblk m c 3 t)) y

attribute [local instance] Gen.facts Cert.Reference10Ideal.Gen.facts

/-- The call and reference.py's lines end with equal results: each is the same function of the arguments. -/
theorem equal : algebraic_Kernel10Ideal_Reference10Ideal := by
  intro m ρ m' ρ' _ hargs
  refine ⟨fun c => (Gen.dats m 0 c).arrAt 4 cfg0.N, fun c => (Gen.dats m 0 c).arrAt 5 cfg0.N,
    fun c => (Gen.dats m 0 c).arrAt 6 cfg0.N, Value.run_blocks m ρ,
    (θ_run Cert.Reference10Ideal.defs _ _).mono (fun r h c => ?_) (Cert.Reference10Ideal.Value.run m' ρ')⟩
  obtain ⟨d, n, s, rest⟩ := h c
  obtain ⟨e₀, e₁, e₂, e₃⟩ := hargs c
  rw [e₀, e₁, e₂, e₃] at d
  rw [e₁, e₂] at n
  rw [e₁, e₃] at s
  exact ⟨d.trans (arrD m c).symm, n.trans (arrM m c).symm, s.trans (arrV m c).symm, rest⟩

theorem frame : quiescent_Reference10Ideal := fun m ρ _ =>
  (θ_run Cert.Reference10Ideal.defs _ _).mono
    (fun r h => ⟨fun c => (h c).2.2.2, sem_eq_zero_of_no_sems rfl r.2⟩) (Cert.Reference10Ideal.Value.run m ρ)

end Cert.Kernel10Ideal.BranchB

end
-- ==== Proof.Adam.Out.lean ====
module
public import proofs.«01_k».proof.Defs
public import proofs.«01_k».proof.Proof.Gen.Kernel11Ideal.Value
public import proofs.«01_k».proof.Proof.Gen.Reference11Ideal.Run
public import proofs.«01_k».proof.Proof.Adam.Spec
public import Idealize.ShloMosaic.Lib.Quiescent

/-! The optimiser on the mixer's last weight: two layers of 256 rows and 1024 columns, a layer a step. -/

@[expose] public section

noncomputable section

namespace Cert.Kernel11Ideal.Out

open Idealize.ShloMosaic Idealize.ShloMosaic.TcCoe Idealize.ShloMosaic.Tactic
open Idealize.SL.Sem
open Idealize.ShloMosaic.Pipeline (Dat Cfg Window)
open Cert.Adam

variable (m : (ℓ : Loc nD τ sig) → Buf (Elt Ideal) ℓ) (c : Dev nD)

/-- The three arrays after the call: what one step makes of each element. -/
theorem arrD : (Gen.dats m 0 c).arrAt 4 cfg0.N
    = deltas (m ((c : Thread nD τ).loc main_arg0)) (m ((c : Thread nD τ).loc main_arg1))
        (m ((c : Thread nD τ).loc main_arg2)) (m ((c : Thread nD τ).loc main_arg3)) := by
  refine funext ((Gen.dats m 0 c).arrAt_forall_of_covers 4 (fun e v => v = deltas _ _ _ _ e)
    (by decide +kernel) (fun t hf y => ?_))
  blk_simp
  rw [Gen.after0_4]
  frame_out
  exact congrFun (deltas_cast _ _ (Gen.iblk m c 0 t)
    (Gen.iblk m c 1 t) (Gen.iblk m c 2 t) (Gen.iblk m c 3 t)) y

theorem arrM : (Gen.dats m 0 c).arrAt 5 cfg0.N
    = means (m ((c : Thread nD τ).loc main_arg1)) (m ((c : Thread nD τ).loc main_arg2)) := by
  refine funext ((Gen.dats m 0 c).arrAt_forall_of_covers 5 (fun e v => v = means _ _ e) (by decide +kernel)
    (fun t hf y => ?_))
  blk_simp
  rw [Gen.after0_5]
  frame_out
  exact congrFun (means_cast _ _ (Gen.iblk m c 1 t)
    (Gen.iblk m c 2 t)) y

theorem arrV : (Gen.dats m 0 c).arrAt 6 cfg0.N
    = squares (m ((c : Thread nD τ).loc main_arg1)) (m ((c : Thread nD τ).loc main_arg3)) := by
  refine funext ((Gen.dats m 0 c).arrAt_forall_of_covers 6 (fun e v => v = squares _ _ e) (by decide +kernel)
    (fun t hf y => ?_))
  blk_simp
  rw [Gen.after0_6]
  frame_out
  exact congrFun (squares_cast _ _ (Gen.iblk m c 1 t)
    (Gen.iblk m c 3 t)) y

attribute [local instance] Gen.facts Cert.Reference11Ideal.Gen.facts

/-- The call and reference.py's lines end with equal results: each is the same function of the arguments. -/
theorem equal : algebraic_Kernel11Ideal_Reference11Ideal := by
  intro m ρ m' ρ' _ hargs
  refine ⟨fun c => (Gen.dats m 0 c).arrAt 4 cfg0.N, fun c => (Gen.dats m 0 c).arrAt 5 cfg0.N,
    fun c => (Gen.dats m 0 c).arrAt 6 cfg0.N, Value.run_blocks m ρ,
    (θ_run Cert.Reference11Ideal.defs _ _).mono (fun r h c => ?_) (Cert.Reference11Ideal.Value.run m' ρ')⟩
  obtain ⟨d, n, s, rest⟩ := h c
  obtain ⟨e₀, e₁, e₂, e₃⟩ := hargs c
  rw [e₀, e₁, e₂, e₃] at d
  rw [e₁, e₂] at n
  rw [e₁, e₃] at s
  exact ⟨d.trans (arrD m c).symm, n.trans (arrM m c).symm, s.trans (arrV m c).symm, rest⟩

theorem frame : quiescent_Reference11Ideal := fun m ρ _ =>
  (θ_run Cert.Reference11Ideal.defs _ _).mono
    (fun r h => ⟨fun c => (h c).2.2.2, sem_eq_zero_of_no_sems rfl r.2⟩) (Cert.Reference11Ideal.Value.run m ρ)

end Cert.Kernel11Ideal.Out

end
-- ==== Proof.Adam.Norm.lean ====
module
public import proofs.«01_k».proof.Defs
public import proofs.«01_k».proof.Proof.Gen.Kernel12Ideal.Value
public import proofs.«01_k».proof.Proof.Gen.Reference12Ideal.Run
public import proofs.«01_k».proof.Proof.Adam.Spec
public import Idealize.ShloMosaic.Lib.Quiescent

/-! The optimiser on a layer's gain: one block that holds both layers' 1024 elements. -/

@[expose] public section

noncomputable section

namespace Cert.Kernel12Ideal.Norm

open Idealize.ShloMosaic Idealize.ShloMosaic.TcCoe Idealize.ShloMosaic.Tactic
open Idealize.SL.Sem
open Idealize.ShloMosaic.Pipeline (Dat Cfg Window)
open Cert.Adam

variable (m : (ℓ : Loc nD τ sig) → Buf (Elt Ideal) ℓ) (c : Dev nD)

/-- The three arrays after the call: what one step makes of each element. -/
theorem arrD : (Gen.dats m 0 c).arrAt 4 cfg0.N
    = deltas (m ((c : Thread nD τ).loc main_arg0)) (m ((c : Thread nD τ).loc main_arg1))
        (m ((c : Thread nD τ).loc main_arg2)) (m ((c : Thread nD τ).loc main_arg3)) := by
  refine funext ((Gen.dats m 0 c).arrAt_forall_of_covers 4 (fun e v => v = deltas _ _ _ _ e)
    (by decide +kernel) (fun t hf y => ?_))
  blk_simp
  rw [Gen.after0_4]
  frame_out
  exact congrFun (deltas_cast _ _ (Gen.iblk m c 0 t)
    (Gen.iblk m c 1 t) (Gen.iblk m c 2 t) (Gen.iblk m c 3 t)) y

theorem arrM : (Gen.dats m 0 c).arrAt 5 cfg0.N
    = means (m ((c : Thread nD τ).loc main_arg1)) (m ((c : Thread nD τ).loc main_arg2)) := by
  refine funext ((Gen.dats m 0 c).arrAt_forall_of_covers 5 (fun e v => v = means _ _ e) (by decide +kernel)
    (fun t hf y => ?_))
  blk_simp
  rw [Gen.after0_5]
  frame_out
  exact congrFun (means_cast _ _ (Gen.iblk m c 1 t)
    (Gen.iblk m c 2 t)) y

theorem arrV : (Gen.dats m 0 c).arrAt 6 cfg0.N
    = squares (m ((c : Thread nD τ).loc main_arg1)) (m ((c : Thread nD τ).loc main_arg3)) := by
  refine funext ((Gen.dats m 0 c).arrAt_forall_of_covers 6 (fun e v => v = squares _ _ e) (by decide +kernel)
    (fun t hf y => ?_))
  blk_simp
  rw [Gen.after0_6]
  frame_out
  exact congrFun (squares_cast _ _ (Gen.iblk m c 1 t)
    (Gen.iblk m c 3 t)) y

attribute [local instance] Gen.facts Cert.Reference12Ideal.Gen.facts

/-- The call and reference.py's lines end with equal results: each is the same function of the arguments. -/
theorem equal : algebraic_Kernel12Ideal_Reference12Ideal := by
  intro m ρ m' ρ' _ hargs
  refine ⟨fun c => (Gen.dats m 0 c).arrAt 4 cfg0.N, fun c => (Gen.dats m 0 c).arrAt 5 cfg0.N,
    fun c => (Gen.dats m 0 c).arrAt 6 cfg0.N, Value.run_blocks m ρ,
    (θ_run Cert.Reference12Ideal.defs _ _).mono (fun r h c => ?_) (Cert.Reference12Ideal.Value.run m' ρ')⟩
  obtain ⟨d, n, s, rest⟩ := h c
  obtain ⟨e₀, e₁, e₂, e₃⟩ := hargs c
  rw [e₀, e₁, e₂, e₃] at d
  rw [e₁, e₂] at n
  rw [e₁, e₃] at s
  exact ⟨d.trans (arrD m c).symm, n.trans (arrM m c).symm, s.trans (arrV m c).symm, rest⟩

theorem frame : quiescent_Reference12Ideal := fun m ρ _ =>
  (θ_run Cert.Reference12Ideal.defs _ _).mono
    (fun r h => ⟨fun c => (h c).2.2.2, sem_eq_zero_of_no_sems rfl r.2⟩) (Cert.Reference12Ideal.Value.run m ρ)

end Cert.Kernel12Ideal.Norm

end
-- ==== Proof.Adam.Bias.lean ====
module
public import proofs.«01_k».proof.Defs
public import proofs.«01_k».proof.Proof.Gen.Kernel13Ideal.Value
public import proofs.«01_k».proof.Proof.Gen.Reference13Ideal.Run
public import proofs.«01_k».proof.Proof.Adam.Spec
public import Idealize.ShloMosaic.Lib.Quiescent

/-! The optimiser on the bias of the neighbourhood attention: 240 rows of 31 columns, 16 rows a step. -/

@[expose] public section

noncomputable section

namespace Cert.Kernel13Ideal.Bias

open Idealize.ShloMosaic Idealize.ShloMosaic.TcCoe Idealize.ShloMosaic.Tactic
open Idealize.SL.Sem
open Idealize.ShloMosaic.Pipeline (Dat Cfg Window)
open Cert.Adam

variable (m : (ℓ : Loc nD τ sig) → Buf (Elt Ideal) ℓ) (c : Dev nD)

/-- The three arrays after the call: what one step makes of each element. -/
theorem arrD : (Gen.dats m 0 c).arrAt 4 cfg0.N
    = deltas (m ((c : Thread nD τ).loc main_arg0)) (m ((c : Thread nD τ).loc main_arg1))
        (m ((c : Thread nD τ).loc main_arg2)) (m ((c : Thread nD τ).loc main_arg3)) := by
  refine funext ((Gen.dats m 0 c).arrAt_forall_of_covers 4 (fun e v => v = deltas _ _ _ _ e)
    (by decide +kernel) (fun t hf y => ?_))
  blk_simp
  rw [Gen.after0_4]
  frame_out
  exact congrFun (deltas_cast _ _ (Gen.iblk m c 0 t)
    (Gen.iblk m c 1 t) (Gen.iblk m c 2 t) (Gen.iblk m c 3 t)) y

theorem arrM : (Gen.dats m 0 c).arrAt 5 cfg0.N
    = means (m ((c : Thread nD τ).loc main_arg1)) (m ((c : Thread nD τ).loc main_arg2)) := by
  refine funext ((Gen.dats m 0 c).arrAt_forall_of_covers 5 (fun e v => v = means _ _ e) (by decide +kernel)
    (fun t hf y => ?_))
  blk_simp
  rw [Gen.after0_5]
  frame_out
  exact congrFun (means_cast _ _ (Gen.iblk m c 1 t)
    (Gen.iblk m c 2 t)) y

theorem arrV : (Gen.dats m 0 c).arrAt 6 cfg0.N
    = squares (m ((c : Thread nD τ).loc main_arg1)) (m ((c : Thread nD τ).loc main_arg3)) := by
  refine funext ((Gen.dats m 0 c).arrAt_forall_of_covers 6 (fun e v => v = squares _ _ e) (by decide +kernel)
    (fun t hf y => ?_))
  blk_simp
  rw [Gen.after0_6]
  frame_out
  exact congrFun (squares_cast _ _ (Gen.iblk m c 1 t)
    (Gen.iblk m c 3 t)) y

attribute [local instance] Gen.facts Cert.Reference13Ideal.Gen.facts

/-- The call and reference.py's lines end with equal results: each is the same function of the arguments. -/
theorem equal : algebraic_Kernel13Ideal_Reference13Ideal := by
  intro m ρ m' ρ' _ hargs
  refine ⟨fun c => (Gen.dats m 0 c).arrAt 4 cfg0.N, fun c => (Gen.dats m 0 c).arrAt 5 cfg0.N,
    fun c => (Gen.dats m 0 c).arrAt 6 cfg0.N, Value.run_blocks m ρ,
    (θ_run Cert.Reference13Ideal.defs _ _).mono (fun r h c => ?_) (Cert.Reference13Ideal.Value.run m' ρ')⟩
  obtain ⟨d, n, s, rest⟩ := h c
  obtain ⟨e₀, e₁, e₂, e₃⟩ := hargs c
  rw [e₀, e₁, e₂, e₃] at d
  rw [e₁, e₂] at n
  rw [e₁, e₃] at s
  exact ⟨d.trans (arrD m c).symm, n.trans (arrM m c).symm, s.trans (arrV m c).symm, rest⟩

theorem frame : quiescent_Reference13Ideal := fun m ρ _ =>
  (θ_run Cert.Reference13Ideal.defs _ _).mono
    (fun r h => ⟨fun c => (h c).2.2.2, sem_eq_zero_of_no_sems rfl r.2⟩) (Cert.Reference13Ideal.Value.run m ρ)

end Cert.Kernel13Ideal.Bias

end
-- ==== Proof.Adam.Final.lean ====
module
public import proofs.«01_k».proof.Defs
public import proofs.«01_k».proof.Proof.Gen.Kernel14Ideal.Value
public import proofs.«01_k».proof.Proof.Gen.Reference14Ideal.Run
public import proofs.«01_k».proof.Proof.Adam.Spec
public import Idealize.ShloMosaic.Lib.Quiescent

/-! The optimiser on the last gain: one block of 1024 elements. -/

@[expose] public section

noncomputable section

namespace Cert.Kernel14Ideal.Final

open Idealize.ShloMosaic Idealize.ShloMosaic.TcCoe Idealize.ShloMosaic.Tactic
open Idealize.SL.Sem
open Idealize.ShloMosaic.Pipeline (Dat Cfg Window)
open Cert.Adam

variable (m : (ℓ : Loc nD τ sig) → Buf (Elt Ideal) ℓ) (c : Dev nD)

/-- The three arrays after the call: what one step makes of each element. -/
theorem arrD : (Gen.dats m 0 c).arrAt 4 cfg0.N
    = deltas (m ((c : Thread nD τ).loc main_arg0)) (m ((c : Thread nD τ).loc main_arg1))
        (m ((c : Thread nD τ).loc main_arg2)) (m ((c : Thread nD τ).loc main_arg3)) := by
  refine funext ((Gen.dats m 0 c).arrAt_forall_of_covers 4 (fun e v => v = deltas _ _ _ _ e)
    (by decide +kernel) (fun t hf y => ?_))
  blk_simp
  rw [Gen.after0_4]
  frame_out
  exact congrFun (deltas_cast _ _ (Gen.iblk m c 0 t)
    (Gen.iblk m c 1 t) (Gen.iblk m c 2 t) (Gen.iblk m c 3 t)) y

theorem arrM : (Gen.dats m 0 c).arrAt 5 cfg0.N
    = means (m ((c : Thread nD τ).loc main_arg1)) (m ((c : Thread nD τ).loc main_arg2)) := by
  refine funext ((Gen.dats m 0 c).arrAt_forall_of_covers 5 (fun e v => v = means _ _ e) (by decide +kernel)
    (fun t hf y => ?_))
  blk_simp
  rw [Gen.after0_5]
  frame_out
  exact congrFun (means_cast _ _ (Gen.iblk m c 1 t)
    (Gen.iblk m c 2 t)) y

theorem arrV : (Gen.dats m 0 c).arrAt 6 cfg0.N
    = squares (m ((c : Thread nD τ).loc main_arg1)) (m ((c : Thread nD τ).loc main_arg3)) := by
  refine funext ((Gen.dats m 0 c).arrAt_forall_of_covers 6 (fun e v => v = squares _ _ e) (by decide +kernel)
    (fun t hf y => ?_))
  blk_simp
  rw [Gen.after0_6]
  frame_out
  exact congrFun (squares_cast _ _ (Gen.iblk m c 1 t)
    (Gen.iblk m c 3 t)) y

attribute [local instance] Gen.facts Cert.Reference14Ideal.Gen.facts

/-- The call and reference.py's lines end with equal results: each is the same function of the arguments. -/
theorem equal : algebraic_Kernel14Ideal_Reference14Ideal := by
  intro m ρ m' ρ' _ hargs
  refine ⟨fun c => (Gen.dats m 0 c).arrAt 4 cfg0.N, fun c => (Gen.dats m 0 c).arrAt 5 cfg0.N,
    fun c => (Gen.dats m 0 c).arrAt 6 cfg0.N, Value.run_blocks m ρ,
    (θ_run Cert.Reference14Ideal.defs _ _).mono (fun r h c => ?_) (Cert.Reference14Ideal.Value.run m' ρ')⟩
  obtain ⟨d, n, s, rest⟩ := h c
  obtain ⟨e₀, e₁, e₂, e₃⟩ := hargs c
  rw [e₀, e₁, e₂, e₃] at d
  rw [e₁, e₂] at n
  rw [e₁, e₃] at s
  exact ⟨d.trans (arrD m c).symm, n.trans (arrM m c).symm, s.trans (arrV m c).symm, rest⟩

theorem frame : quiescent_Reference14Ideal := fun m ρ _ =>
  (θ_run Cert.Reference14Ideal.defs _ _).mono
    (fun r h => ⟨fun c => (h c).2.2.2, sem_eq_zero_of_no_sems rfl r.2⟩) (Cert.Reference14Ideal.Value.run m ρ)

end Cert.Kernel14Ideal.Final

end
-- ==== Proof.Loss.Spec.lean ====
module
public import proofs.«01_k».proof.Proof.Merge.Spec

/-! The last norm and the loss over the extended reals: no element need be finite. -/

@[expose] public section

noncomputable section

namespace Cert.Loss

open Idealize.ShloMosaic Cert.Merge

/-- The mean square of a row, and the small number that keeps it from zero. -/
def msq {m : ℕ} (X : EMat m 1024) (r : Fin m) : EReal :=
  (∑ k, X r k * X r k) * ((1 / 1024 : ℝ) : EReal) + ((Half.eps : ℝ) : EReal)

def rstd {m : ℕ} (X : EMat m 1024) (r : Fin m) : EReal := Ideal.rsqrt (msq X r)

/-- The normalised rows. -/
def xhat {m : ℕ} (X : EMat m 1024) : EMat m 1024 := fun r j => X r j * rstd X r

/-- The normalised rows times the gain, less the target. -/
def err {m : ℕ} (X : EMat m 1024) (g : Fin 1024 → EReal) (Y : EMat m 1024) : EMat m 1024 :=
  fun r j => xhat X r j * g j - Y r j

/-- The derivative of the loss with respect to the norm's result. -/
def derr {m : ℕ} (X : EMat m 1024) (g : Fin 1024 → EReal) (Y : EMat m 1024) : EMat m 1024 :=
  fun r j => err X g Y r j * ((1 / 1024 : ℝ) : EReal)

/-- The mean square of row `r`'s errors. -/
def mse {m : ℕ} (X : EMat m 1024) (g : Fin 1024 → EReal) (Y : EMat m 1024) (r : Fin m) : EReal :=
  (∑ j, err X g Y r j * err X g Y r j) * ((1 / 1024 : ℝ) : EReal)

/-- The loss: half the sum of the rows' mean squares. -/
def loss {m : ℕ} (X : EMat m 1024) (g : Fin 1024 → EReal) (Y : EMat m 1024) : EReal :=
  ((1 / 2 : ℝ) : EReal) * ∑ r, mse X g Y r

/-- Its derivative with respect to the rows. -/
def dX {m : ℕ} (X : EMat m 1024) (g : Fin 1024 → EReal) (Y : EMat m 1024) : EMat m 1024 := fun r j =>
  rstd X r * (derr X g Y r j * g j
    - xhat X r j * ((∑ k, derr X g Y r k * g k * xhat X r k) * ((1 / 1024 : ℝ) : EReal)))

/-- Its derivative with respect to the gain. -/
def dg {m : ℕ} (X : EMat m 1024) (g : Fin 1024 → EReal) (Y : EMat m 1024) (j : Fin 1024) : EReal :=
  ∑ r, derr X g Y r j * xhat X r j

/-! ## Sums -/

/-- A nonnegative real number distributes over any sum. -/
theorem mul_sum {ι : Type} (s : Finset ι) {c : ℝ} (hc : 0 ≤ c) (f : ι → EReal) :
    ∑ k ∈ s, (c : EReal) * f k = (c : EReal) * ∑ k ∈ s, f k := by
  classical
  induction s using Finset.induction_on with
  | empty => simp
  | insert a s ha ih =>
    rw [Finset.sum_insert ha, Finset.sum_insert ha, ih,
      EReal.left_distrib_of_nonneg_of_ne_top (EReal.coe_nonneg.mpr hc) (EReal.coe_ne_top c)]

/-- The sum of `f` over block `s` of 1024 rows; zero past the last block. -/
def part (f : Fin 4096 → EReal) (s : ℕ) : EReal := if h : s < 4 then ∑ i : Fin 1024, f ⟨s * 1024 + i.val, by omega⟩ else 0

/-- The four blocks' sums are the sum over all rows. -/
theorem sum_parts (f : Fin 4096 → EReal) : ∑ s ∈ Finset.range 4, part f s = ∑ r, f r := by
  rw [Finset.sum_range]
  refine Eq.trans ?_ ((Fintype.sum_prod_type _).symm.trans ((finProdFinEquiv (m := 4) (n := 1024)).sum_comp f))
  refine Finset.sum_congr rfl fun s _ => ?_
  unfold part
  rw [dif_pos s.isLt]
  refine Finset.sum_congr rfl fun i _ => congrArg f (Fin.ext ?_)
  show s.val * 1024 + i.val = i.val + 1024 * s.val
  omega

/-! ## The two forms of the rows' derivative -/

theorem sq_nonneg (x : EReal) : 0 ≤ x * x := by
  rcases le_total 0 x with h | h
  · exact EReal.mul_nonneg h h
  · rw [← neg_mul_neg]
    exact EReal.mul_nonneg (EReal.neg_nonneg.mpr h) (EReal.neg_nonneg.mpr h)

/-- A row that holds an infinity has an infinite mean square. -/
theorem msq_top {m : ℕ} {X : EMat m 1024} {r : Fin m} {k : Fin 1024} (h : X r k * X r k = ⊤) : msq X r = ⊤ := by
  have hs : ∑ l, X r l * X r l = ⊤ := top_le_iff.mp
    (h.ge.trans (Finset.single_le_sum (f := fun l => X r l * X r l) (fun l _ => sq_nonneg _) (Finset.mem_univ k)))
  unfold msq
  rw [hs, EReal.top_mul_coe_of_pos (by norm_num), EReal.top_add_coe]

theorem double (z : EReal) : z + z = ((2 : ℝ) : EReal) * z := by
  have h := EReal.right_distrib_of_nonneg (a := 1) (b := 1) (c := z) zero_le_one zero_le_one
  rw [one_mul] at h
  rw [← h, ← EReal.coe_one, ← EReal.coe_add]
  exact congrArg (fun a : ℝ => (a : EReal) * z) (by norm_num)

/-- The derivative through a norm, with the reciprocal root taken out and as the chain rule writes it. -/
theorem chain {m : ℕ} (X : EMat m 1024) (r : Fin m) (D : Fin 1024 → EReal) (j : Fin 1024) :
    rstd X r * (D j - xhat X r j * ((∑ k, D k * xhat X r k) * ((1 / 1024 : ℝ) : EReal)))
      = D j * rstd X r
        + X r j * ((∑ k, X r k * D k) * (((-(1 / 2) : ℝ) : EReal) * Ideal.div (rstd X r) (msq X r)) * ((1 / 1024 : ℝ) : EReal))
        + (∑ k, X r k * D k) * (((-(1 / 2) : ℝ) : EReal) * Ideal.div (rstd X r) (msq X r)) * ((1 / 1024 : ℝ) : EReal) * X r j := by
  by_cases hf : ∀ k, ∃ a : ℝ, X r k = (a : EReal)
  · choose a ha using hf
    obtain ⟨A, hA⟩ : ∃ A : Half.Mat 1 1024, ∀ k, X r k = ((A 0 k : ℝ) : EReal) := ⟨fun _ => a, ha⟩
    have hm : msq X r = ((Half.msq A 0 : ℝ) : EReal) := by
      unfold msq
      simp only [hA, ← EReal.coe_mul, Half.coe_sum, ← EReal.coe_add]
      rfl
    have hr : rstd X r = ((Half.rstd A 0 : ℝ) : EReal) := by
      unfold rstd; rw [hm]; exact Half.rsqrt_msq A 0
    have hp : 0 ≤ Half.rstd A 0 := by unfold Half.rstd; positivity
    have hd : Ideal.div (rstd X r) (msq X r) = ((Half.rstd A 0 * (Half.msq A 0)⁻¹ : ℝ) : EReal) :=
      Half.real_eq (Half.div_real (Half.msq_pos A 0).ne' hr hm) (by rw [one_div])
    have hsq := Half.rstd_sq A 0
    rw [hd]
    unfold xhat
    rw [hr, ← hsq]
    generalize Half.rstd A 0 = ρ at hp
    have hs : ∑ k, D k * (X r k * (ρ : EReal)) = (ρ : EReal) * ∑ k, X r k * D k := by
      rw [← mul_sum _ hp]
      exact Finset.sum_congr rfl fun k _ => by rw [mul_comm (D k), mul_comm (X r k), mul_assoc]
    rw [hs]
    generalize ∑ k, X r k * D k = S
    rw [hA j]
    generalize A 0 j = x
    have h₁ : ((x : ℝ) : EReal) * (ρ : EReal) * ((ρ : EReal) * S * ((1 / 1024 : ℝ) : EReal))
        = ((x * ρ * ρ * (1 / 1024) : ℝ) : EReal) * S := by
      simp only [EReal.coe_mul]; ac_rfl
    have h₂ : S * (((-(1 / 2) : ℝ) : EReal) * ((ρ * (ρ * ρ) : ℝ) : EReal)) * ((1 / 1024 : ℝ) : EReal) * (x : EReal)
        = ((-(1 / 2) * (ρ * (ρ * ρ)) * (1 / 1024) * x : ℝ) : EReal) * S := by
      simp only [EReal.coe_mul]; ac_rfl
    have h₃ : ((2 : ℝ) : EReal) * (((-(1 / 2) * (ρ * (ρ * ρ)) * (1 / 1024) * x : ℝ) : EReal) * S)
        = (ρ : EReal) * (((-(x * ρ * ρ * (1 / 1024)) : ℝ) : EReal) * S) := by
      rw [← mul_assoc, ← mul_assoc (ρ : EReal), ← EReal.coe_mul, ← EReal.coe_mul]
      exact congrArg (fun a : ℝ => (a : EReal) * S) (by ring)
    rw [h₁, mul_comm (x : EReal), h₂, add_assoc, double, h₃, sub_eq_add_neg, ← EReal.neg_mul, ← EReal.coe_neg,
      EReal.left_distrib_of_nonneg_of_ne_top (EReal.coe_nonneg.mpr hp) (EReal.coe_ne_top ρ), mul_comm (D j)]
  · obtain ⟨k, hk⟩ := not_forall.mp hf
    have ht : X r k * X r k = ⊤ := by
      induction h : X r k using EReal.rec with
      | bot => rfl
      | top => rfl
      | coe a => exact absurd ⟨a, h⟩ hk
    have hm : msq X r = ⊤ := msq_top ht
    have hr : rstd X r = 0 := by unfold rstd; rw [hm]; rfl
    have hd : Ideal.div (rstd X r) (msq X r) = 0 := by
      rw [hr, hm]
      unfold Ideal.div
      rw [if_neg (by simp), zero_mul]
    rw [hd, hr]
    simp

/-! ## The arguments and the constants -/

/-- The arguments of the call: the rows, the gain and the targets. -/
structure Reads (x : FVec Ideal ⟨2, ![4096, 1024]⟩ .f32) (g : FVec Ideal ⟨1, ![1024]⟩ .f32)
    (y : FVec Ideal ⟨3, ![2, 2048, 1024]⟩ .f32) (X : EMat 4096 1024) (b : Fin 1024 → EReal) (Y : EMat 4096 1024) : Prop where
  x : Holds x X
  g : ∀ j, g (ix1 j) = b j
  y : Tokens y Y

theorem reads (x : FVec Ideal ⟨2, ![4096, 1024]⟩ .f32) (g : FVec Ideal ⟨1, ![1024]⟩ .f32)
    (y : FVec Ideal ⟨3, ![2, 2048, 1024]⟩ .f32) : ∃ X b Y, Reads x g y X b Y :=
  ⟨fun r j => x (ix2 r j), fun j => g (ix1 j),
    fun r j => y (ix3 ⟨r.val / 2048, by omega⟩ ⟨r.val % 2048, by omega⟩ j),
    { x := fun _ _ => rfl
      g := fun _ => rfl
      y := fun b s j => congrArg y (Half.at_triple
        (by show b.val = (b.val * 2048 + s.val) / 2048; omega)
        (by show s.val = (b.val * 2048 + s.val) % 2048; omega) rfl) }⟩

theorem thousandth_f32 : Ideal.ofBits .f32 0x3A800000#32 = ((1 / 1024 : ℝ) : EReal) := by
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

end Cert.Loss

end
-- ==== Proof.Loss.Call.lean ====
module
public import proofs.«01_k».proof.Proof.Gen.Kernel15Ideal.Value
public import proofs.«01_k».proof.Proof.Loss.Spec
public import Idealize.ShloMosaic.Lib.Pipeline.ValueKit

/-! The call of the last norm and the loss: four blocks of 1024 rows, the gain's gradient and the loss added up over them. -/

@[expose] public section

noncomputable section

namespace Cert.Kernel15Ideal.Call

open Idealize.ShloMosaic Idealize.ShloMosaic.TcCoe Idealize.ShloMosaic.Tactic
open Idealize.SL.Sem
open Idealize.ShloMosaic.Pipeline (Dat Cfg Window)
open Cert.Half (eps half_f32 n1024_f32 eps_f32 div_n1024 at_pair flat_divMod)
open Cert.Merge Cert.Loss

/-! ## One block -/

section
variable (x y : Vec Ideal S1024x1024 .f32) (g : Vec Ideal S1x1024 .f32) (X Y : EMat 1024 1024) (b : Fin 1024 → EReal)
  (hx : Holds x X) (hg : Holds g (fun _ : Fin 1 => b)) (hy : Holds y Y)

include hx in
theorem payHat : Holds (Gen.k0_pay5 x) (xhat X) := by
  intro i j
  unfold_payloads
  pointwise
  simp only [hx _ _, n1024_f32, eps_f32, div_n1024]
  rfl

include hx hg hy

theorem payErr : Holds (Gen.k0_pay6 x g y) (err X b Y) := by
  intro i j
  unfold_payloads
  pointwise
  simp only [hx _ _, hg _ _, hy _ _, n1024_f32, eps_f32, div_n1024]
  rfl

theorem payDerr : Holds (Gen.k0_pay7 x g y) (derr X b Y) := fun i j =>
  congrArg₂ (· * ·) (payErr x y g X Y b hx hg hy i j) thousandth_f32

theorem payRows : Holds (Gen.k0_pay8 x g y) (dX X b Y) := by
  intro i j
  unfold_payloads
  pointwise
  simp only [hx _ _, hg _ _, hy _ _, n1024_f32, eps_f32, thousandth_f32, div_n1024]
  rfl

end

/-- One step of the gain's gradient: the block's column sums are added to what is there. -/
theorem payGain (h d : FVec Ideal S1024x1024 .f32) (o : Vec Ideal S1x1024 .f32) (H D : EMat 1024 1024)
    (b : Fin 1024 → EReal) (hh : Holds h H) (hd : Holds d D) (ho : Holds o (fun _ : Fin 1 => b)) :
    Holds (Gen.k0_pay1 h d o) (fun _ : Fin 1 => fun j => b j + ∑ r, D r j * H r j) := by
  intro i j
  obtain rfl : i = 0 := Subsingleton.elim _ _
  unfold_payloads
  pointwise
  simp only [hh _ _, hd _ _, ho _ _]

/-- One step of the loss: half the sum of the block's mean squares is added to what is there. -/
theorem payLoss (e : FVec Ideal S1024x1024 .f32) (o : Vec Ideal S1x128 .f32) (E : EMat 1024 1024) (b : EReal)
    (he : Holds e E) (ho : Holds o (fun (_ : Fin 1) (_ : Fin 128) => b)) :
    Holds (Gen.k0_pay2 e o) (fun (_ : Fin 1) (_ : Fin 128) =>
      b + ((1 / 2 : ℝ) : EReal) * ∑ r, (∑ k, E r k * E r k) * ((1 / 1024 : ℝ) : EReal)) := by
  intro i j
  obtain rfl : i = 0 := Subsingleton.elim _ _
  unfold_payloads
  pointwise
  simp only [he _ _, ho _ _, half_f32, n1024_f32, div_n1024]

theorem payZero : Holds (Gen.k0_pay10 (F := Ideal)) (fun _ : Fin 1 => fun _ : Fin 1024 => 0) := by
  intro i j
  unfold_payloads
  pointwise

theorem payZero' : Holds (Gen.k0_pay11 (F := Ideal)) (fun _ : Fin 1 => fun _ : Fin 128 => 0) := by
  intro i j
  unfold_payloads
  pointwise

/-! ## The whole call -/

theorem idx : ∀ t : Fin grid0.N, (win0_0.index t 0 = t.val ∧ win0_0.index t 1 = 0) ∧
    (win0_1.index t 0 = 0 ∧ win0_1.index t 1 = 0) ∧ (win0_2.index t 0 = t.val ∧ win0_2.index t 1 = 0) ∧
    (win0_3.index t 0 = t.val ∧ win0_3.index t 1 = 0) ∧ (win0_4.index t 0 = t.val ∧ win0_4.index t 1 = 0) ∧
    (win0_5.index t 0 = 0 ∧ win0_5.index t 1 = 0) ∧ (win0_6.index t 0 = 0 ∧ win0_6.index t 1 = 0) := by
  decide +kernel

theorem lt4 (t : Fin cfg0.N) : t.val < 4 := t.isLt.trans_eq (by decide +kernel)

/-- The row of the array that row `p` of block `t` is. -/
def row (t : Fin cfg0.N) (p : Fin 1024) : Fin 4096 := ⟨t.val * 1024 + p.val, by have := lt4 t; omega⟩

theorem part_row (f : Fin 4096 → EReal) (t : Fin cfg0.N) : part f t.val = ∑ i, f (row t i) := dif_pos (lt4 t)

/-- Core `c`'s arguments are those named. -/
abbrev Starts (m : (ℓ : Loc nD τ sig) → Buf (Elt Ideal) ℓ) (c : Dev nD) (X : EMat 4096 1024) (b : Fin 1024 → EReal)
    (Y : EMat 4096 1024) : Prop :=
  Loss.Reads (m ((c : Thread nD τ).loc main_arg0)) (m ((c : Thread nD τ).loc main_arg1)) (m ((c : Thread nD τ).loc main_arg2)) X b Y

variable {m : (ℓ : Loc nD τ sig) → Buf (Elt Ideal) ℓ} {c : Dev nD} {X Y : EMat 4096 1024} {b : Fin 1024 → EReal}
  (h : Starts m c X b Y)

include h

theorem gain0 : Holds (Gen.V m c main_v0) (fun _ : Fin 1 => b) := by
  intro i j
  unfold_abbrev_sides
  after_results
  pointwise
  exact h.g j

theorem target0 : Holds (Gen.V m c main_v1) Y := by
  intro i j
  unfold_abbrev_sides
  after_results
  pointwise
  exact (h.y _ _ _).trans (by rw [flat_divMod])

theorem blk0 (t : Fin cfg0.N) : Holds (Gen.iblk m c 0 t) (fun i j => X (row t i) j) := by
  intro i j
  have hi := (idx t).1
  blk_simp [Gen.iblk]
  refine (congrArg (Gen.V m c main_arg0) (at_pair ?_ ?_)).trans ((congrFun (Gen.V_main_arg0 m c) _).trans (h.x _ _)) <;>
    blk_simp <;> simp only [hi.1, hi.2, row] <;> omega

theorem blk1 (t : Fin cfg0.N) : Holds (Gen.iblk m c 1 t) (fun _ : Fin 1 => b) := by
  intro i j
  have hi := (idx t).2.1
  blk_simp [Gen.iblk]
  refine (congrArg (Gen.V m c main_v0) (at_pair (i := i) ?_ ?_)).trans (gain0 h _ _) <;> blk_simp <;>
    simp only [hi.1, hi.2] <;> omega

theorem blk2 (t : Fin cfg0.N) : Holds (Gen.iblk m c 2 t) (fun i j => Y (row t i) j) := by
  intro i j
  have hi := (idx t).2.2.1
  blk_simp [Gen.iblk]
  refine (congrArg (Gen.V m c main_v1) (at_pair ?_ ?_)).trans (target0 h _ _) <;> blk_simp <;>
    simp only [hi.1, hi.2, row] <;> omega

/-- The rows' gradient after the call. -/
theorem arrRows : Holds ((Gen.dats m 0 c).arrAt 3 cfg0.N) (dX X b Y) := by
  intro r f
  refine (Gen.dats m 0 c).arrAt_forall_of_covers 3 (fun i v => v = dX X b Y (i 0) (i 1))
    (by decide +kernel) (fun t hf y => ?_) (ix2 r f)
  blk_simp
  rw [Gen.after0_3]
  obtain ⟨p, q, rfl⟩ : ∃ (p : Fin 1024) (q : Fin 1024), y = ix2 p q := ⟨y 0, y 1, eq_ix2 y⟩
  have e : ((View.whole main_v2_0).slice (win0_3.rect t)).emb (ix2 p q) = ix2 (row t p) q := by
    have hi := (idx t).2.2.2.1
    refine at_pair ?_ ?_ <;> blk_simp <;> simp only [hi.1, hi.2, row] <;> omega
  have hp := payRows _ _ _ _ _ _ (blk0 h t) (blk1 h t) (blk2 h t) p q
  by_cases h0 : t.val % 4 = 0
  · rw [Gen.outsAt0_A m c t h0]
    frame_out
    rw [hp, e]
    rfl
  · rw [Gen.outsAt0_B m c t h0]
    frame_out
    rw [hp, e]
    rfl

/-- The same in the narrower type. -/
theorem arrRows' : Holds ((Gen.dats m 0 c).arrAt 4 cfg0.N) (dX X b Y) := by
  intro r f
  refine (Gen.dats m 0 c).arrAt_forall_of_covers 4 (fun i v => v = dX X b Y (i 0) (i 1))
    (by decide +kernel) (fun t hf y => ?_) (ix2 r f)
  blk_simp
  rw [Gen.after0_4]
  obtain ⟨p, q, rfl⟩ : ∃ (p : Fin 1024) (q : Fin 1024), y = ix2 p q := ⟨y 0, y 1, eq_ix2 y⟩
  have e : ((View.whole main_v2_1).slice (win0_4.rect t)).emb (ix2 p q) = ix2 (row t p) q := by
    have hi := (idx t).2.2.2.2.1
    refine at_pair ?_ ?_ <;> blk_simp <;> simp only [hi.1, hi.2, row] <;> omega
  have hp : Gen.k0_pay9 (F := Ideal) (Gen.iblk m c 0 t) (Gen.iblk m c 1 t) (Gen.iblk m c 2 t) (ix2 p q) = _ :=
    payRows _ _ _ _ _ _ (blk0 h t) (blk1 h t) (blk2 h t) p q
  by_cases h0 : t.val % 4 = 0
  · rw [Gen.outsAt0_A m c t h0]
    frame_out
    rw [hp, e]
    rfl
  · rw [Gen.outsAt0_B m c t h0]
    frame_out
    rw [hp, e]
    rfl

/-- The gain's gradient and the loss after `n + 1` blocks. -/
theorem partial_sum : ∀ (n : ℕ) (hn : n < cfg0.N),
    Holds (Gen.outsAt0 m c n hn).2.2.1
        (fun _ : Fin 1 => fun j => ∑ s ∈ Finset.range (n + 1), part (fun r => derr X b Y r j * xhat X r j) s)
      ∧ Holds (Gen.outsAt0 m c n hn).2.2.2
        (fun (_ : Fin 1) (_ : Fin 128) => ∑ s ∈ Finset.range (n + 1), ((1 / 2 : ℝ) : EReal) * part (mse X b Y) s) := by
  intro n
  induction n with
  | zero =>
    intro hn
    have hh := payHat _ _ (blk0 h ⟨0, hn⟩)
    have he := payErr _ _ _ _ _ _ (blk0 h ⟨0, hn⟩) (blk1 h ⟨0, hn⟩) (blk2 h ⟨0, hn⟩)
    have hd := payDerr _ _ _ _ _ _ (blk0 h ⟨0, hn⟩) (blk1 h ⟨0, hn⟩) (blk2 h ⟨0, hn⟩)
    rw [Gen.outsAt0_A m c ⟨0, hn⟩ rfl]
    refine ⟨fun i j => ?_, fun i j => ?_⟩
    · frame_out
      refine (payGain _ _ _ _ _ _ hh hd payZero i j).trans ?_
      rw [Finset.sum_range_one]
      exact (zero_add _).trans (part_row (fun r => derr X b Y r j * xhat X r j) ⟨0, hn⟩).symm
    · frame_out
      refine (payLoss _ _ _ _ he payZero' i j).trans ?_
      rw [Finset.sum_range_one]
      exact (zero_add _).trans (congrArg (((1 / 2 : ℝ) : EReal) * ·) (part_row (mse X b Y) ⟨0, hn⟩).symm)
  | succ n ih =>
    intro hn
    have hn4 : n + 1 < 4 := lt4 ⟨n + 1, hn⟩
    have hh := payHat _ _ (blk0 h ⟨n + 1, hn⟩)
    have he := payErr _ _ _ _ _ _ (blk0 h ⟨n + 1, hn⟩) (blk1 h ⟨n + 1, hn⟩) (blk2 h ⟨n + 1, hn⟩)
    have hd := payDerr _ _ _ _ _ _ (blk0 h ⟨n + 1, hn⟩) (blk1 h ⟨n + 1, hn⟩) (blk2 h ⟨n + 1, hn⟩)
    rw [Gen.outsAt0_B m c ⟨n + 1, hn⟩ (by simp only; omega)]
    refine ⟨fun i j => ?_, fun i j => ?_⟩
    · frame_out
      refine (payGain _ _ _ _ _ _ hh hd (ih (by omega)).1 i j).trans ?_
      rw [Finset.sum_range_succ _ (n + 1)]
      exact congrArg (_ + ·) (part_row (fun r => derr X b Y r j * xhat X r j) ⟨n + 1, hn⟩).symm
    · frame_out
      refine (payLoss _ _ _ _ he (ih (by omega)).2 i j).trans ?_
      rw [Finset.sum_range_succ _ (n + 1)]
      exact congrArg₂ (· + ·) rfl (congrArg (((1 / 2 : ℝ) : EReal) * ·) (part_row (mse X b Y) ⟨n + 1, hn⟩).symm)

/-- The gain's gradient after the call. -/
theorem arrGain : Holds ((Gen.dats m 0 c).arrAt 5 cfg0.N) (fun _ : Fin 1 => dg X b Y) := by
  intro r f
  refine (Gen.dats m 0 c).arrAt_forall_of_covers 5 (fun i v => v = dg X b Y (i 1))
    (by decide +kernel) (fun t hf y => ?_) (ix2 r f)
  blk_simp
  rw [Gen.after0_5]
  obtain ⟨p, q, rfl⟩ : ∃ (p : Fin 1) (q : Fin 1024), y = ix2 p q := ⟨y 0, y 1, eq_ix2 y⟩
  have e : ((View.whole main_v2_2).slice (win0_5.rect t)).emb (ix2 p q) = ix2 p q := by
    have hi := (idx t).2.2.2.2.2.1
    refine at_pair ?_ ?_ <;> blk_simp <;> simp only [hi.1, hi.2] <;> omega
  have h3 : t.val = 3 := (by decide +kernel : ∀ t : Fin grid0.N, win0_5.flush t = true → t.val = 3) t hf
  rw [e]
  refine ((partial_sum h t.val t.isLt).1 p q).trans ?_
  simp only [h3]
  exact sum_parts _

/-- The loss after the call, in each lane. -/
theorem arrLoss : Holds ((Gen.dats m 0 c).arrAt 6 cfg0.N) (fun (_ : Fin 1) (_ : Fin 128) => loss X b Y) := by
  intro r f
  refine (Gen.dats m 0 c).arrAt_forall_of_covers 6 (fun _ v => v = loss X b Y)
    (by decide +kernel) (fun t hf y => ?_) (ix2 r f)
  blk_simp
  rw [Gen.after0_6]
  obtain ⟨p, q, rfl⟩ : ∃ (p : Fin 1) (q : Fin 128), y = ix2 p q := ⟨y 0, y 1, eq_ix2 y⟩
  have h3 : t.val = 3 := (by decide +kernel : ∀ t : Fin grid0.N, win0_6.flush t = true → t.val = 3) t hf
  refine ((partial_sum h t.val t.isLt).2 p q).trans ?_
  simp only [h3]
  rw [mul_sum _ (by norm_num), sum_parts]
  rfl

end Cert.Kernel15Ideal.Call

end
-- ==== Proof.Loss.Reference.lean ====
module
public import proofs.«01_k».proof.Proof.Gen.Reference15Ideal.Read
public import proofs.«01_k».proof.Proof.Loss.Spec

/-! The reference of the last norm and the loss over the extended reals: each of its arrays holds what the
    specification names. -/

@[expose] public section

noncomputable section

namespace Cert.Reference15Ideal.Real

open Idealize.ShloMosaic Cert.Merge Cert.Loss Cert.Reference15Ideal.Read
open Cert.Half (half_f32 neg_half_f32 n1024_f32 eps_f32 div_n1024 at_pair flat_divMod mul_real div_real one_real)

/-- A sum over the indices of a one-axis array is a sum over its axis. -/
theorem sum_idx (F : S4096.Idx → EReal) : ∑ j, F j = ∑ r : Fin 4096, F (ix1 r) :=
  (Fintype.sum_bijective (fun r : Fin 4096 => (ix1 r : S4096.Idx))
    ⟨fun _ _ e => congrFun e 0, fun i => ⟨i 0, (eq_ix1 i).symm⟩⟩ _ _ fun _ => rfl).symm

/-- What each element of row `r` is multiplied by in the derivative through the mean square. -/
def through (X : EMat 4096 1024) (b : Fin 1024 → EReal) (Y : EMat 4096 1024) (r : Fin 4096) : EReal :=
  (∑ k, X r k * (derr X b Y r k * b k)) * (((-(1 / 2) : ℝ) : EReal) * Ideal.div (rstd X r) (msq X r)) * ((1 / 1024 : ℝ) : EReal)

variable {x : FVec Ideal S4096x1024 .f32} {g : FVec Ideal S1024 .f32} {y : FVec Ideal S2x2048x1024 .f32}
  {X Y : EMat 4096 1024} {b : Fin 1024 → EReal} (h : Loss.Reads x g y X b Y)
include h

theorem msq_at (r : Fin 4096) : val_main_v6 (F := Ideal) x (ix2 r 0) = msq X r := by
  have h₁ : val_main_v1 (F := Ideal) x (ix1 r) = ∑ k, X r k * X r k := by
    rw [val_main_v1_apply]
    refine (congrArg₂ (· + ·) (show val_main_cst (F := Ideal) _ = 0 from Ideal.ofBits_zero_f32)
      (Finset.sum_congr rfl fun k _ => ?_)).trans (zero_add _)
    have hk : idx_main_v1 (ix1 r) k = ix2 r k := at_pair rfl rfl
    rw [hk]
    exact congrArg₂ (· * ·) (h.x r k) (h.x r k)
  have h₂ : val_main_v2 (F := Ideal) x (ix2 r 0) = ∑ k, X r k * X r k := by
    rw [val_main_v2_apply]
    refine (congrArg _ ?_).trans h₁
    funext c
    match c with
    | ⟨0, _⟩ => rfl
  have h₃ : val_main_v3 (F := Ideal) (ix2 r 0) = ((1024 : ℝ) : EReal) := by
    rw [val_main_v3_apply]; exact n1024_f32
  have h₅ : val_main_v5 (F := Ideal) (ix2 r 0) = ((Half.eps : ℝ) : EReal) := by
    rw [val_main_v5_apply]; exact eps_f32
  exact congrArg₂ (· + ·) ((congrArg₂ Ideal.div h₂ h₃).trans (div_n1024 _)) h₅

theorem rstd_at (r : Fin 4096) : val_main_v7 (F := Ideal) x (ix2 r 0) = rstd X r := by
  rw [val_main_v7_apply, msq_at h r]
  rfl

/-- The derivative of the reciprocal root. -/
theorem slope_at (r : Fin 4096) :
    val_main_v10 (F := Ideal) x (ix2 r 0) = ((-(1 / 2) : ℝ) : EReal) * Ideal.div (rstd X r) (msq X r) := by
  have h₉ : val_main_v9 (F := Ideal) (ix2 r 0) = ((-(1 / 2) : ℝ) : EReal) := by
    rw [val_main_v9_apply]; exact neg_half_f32
  exact congrArg₂ (· * ·) h₉ (congrArg₂ Ideal.div (rstd_at h r) (msq_at h r))

theorem xhat_at : Holds (val_main_v12 (F := Ideal) x) (xhat X) := fun r j => by
  have h₁ : val_main_v11 (F := Ideal) x (ix2 r j) = rstd X r := by
    rw [val_main_v11_apply]
    exact (congrArg _ (at_pair (i := r) (j := (0 : Fin 1)) rfl rfl)).trans (rstd_at h r)
  exact congrArg₂ (· * ·) (h.x r j) h₁

theorem gain_at (r : Fin 4096) (j : Fin 1024) : val_main_v14 (F := Ideal) g (ix2 r j) = b j := by
  rw [val_main_v14_apply, val_main_v13_apply]
  refine (congrArg g ?_).trans (h.g j)
  funext c
  match c with
  | ⟨0, _⟩ => rfl

theorem gain_at' (r : Fin 4096) (j : Fin 1024) : val_main_v35 (F := Ideal) g (ix2 r j) = b j := by
  rw [val_main_v35_apply, val_main_v13_apply]
  refine (congrArg g ?_).trans (h.g j)
  funext c
  match c with
  | ⟨0, _⟩ => rfl

theorem target_at : Holds (val_main_v16 (F := Ideal) y) Y := fun r j => by
  unfold val_main_v16
  pointwise
  exact (h.y _ _ _).trans (by rw [flat_divMod])

theorem err_at : Holds (val_main_v17 (F := Ideal) x g y) (err X b Y) := fun r j =>
  congrArg₂ (· - ·) (congrArg₂ (· * ·) (xhat_at h r j) (gain_at h r j)) (target_at h r j)

theorem mse_at (r : Fin 4096) : val_main_v23 (F := Ideal) x g y (ix1 r) = mse X b Y r := by
  have h₁ : val_main_v21 (F := Ideal) x g y (ix1 r) = ∑ k, err X b Y r k * err X b Y r k := by
    rw [val_main_v21_apply]
    refine (congrArg₂ (· + ·) (show val_main_cst_4 (F := Ideal) _ = 0 from Ideal.ofBits_zero_f32)
      (Finset.sum_congr rfl fun k _ => ?_)).trans (zero_add _)
    have hk : idx_main_v21 (ix1 r) k = ix2 r k := at_pair rfl rfl
    rw [hk]
    exact congrArg₂ (· * ·) (err_at h r k) (err_at h r k)
  have h₂ : val_main_v22 (F := Ideal) (ix1 r) = ((1024 : ℝ) : EReal) := by
    rw [val_main_v22_apply]; exact n1024_f32
  exact (congrArg₂ Ideal.div h₁ h₂).trans (div_n1024 _)

theorem loss_at : Holds (val_main_v54 (F := Ideal) x g y) (fun (_ : Fin 1) (_ : Fin 128) => loss X b Y) := fun i j => by
  rw [val_main_v54_apply]
  refine congrArg₂ (· * ·) half_f32 ?_
  rw [val_main_v24_apply]
  refine (congrArg₂ (· + ·) (show val_main_cst_6 (F := Ideal) _ = 0 from Ideal.ofBits_zero_f32) ?_).trans (zero_add _)
  rw [sum_idx]
  exact Finset.sum_congr rfl fun r _ => mse_at h r

/-- The derivative with respect to the norm's result: half of twice the error, divided by the row length. -/
theorem derr_at : Holds (val_main_v31 (F := Ideal) x g y) (derr X b Y) := fun r j => by
  have h₁ : val_main_v29 (F := Ideal) (ix1 r) = ((1 / 2 * 1 * (1 / 1024) : ℝ) : EReal) := by
    have h₂ : val_main_v27 (F := Ideal) (ix1 r) = ((1 / 2 * 1 : ℝ) : EReal) := by
      rw [val_main_v27_apply]
      exact mul_real half_f32 (one_real Ideal.ofBits_one_f32)
    have h₃ : val_main_v28 (F := Ideal) (ix1 r) = ((1024 : ℝ) : EReal) := by
      rw [val_main_v28_apply]; exact n1024_f32
    exact div_real (by norm_num) h₂ h₃
  have h₄ : val_main_v30 (F := Ideal) (ix2 r j) = ((1 / 2 * 1 * (1 / 1024) : ℝ) : EReal) := by
    rw [val_main_v30_apply]
    refine (congrArg _ ?_).trans h₁
    funext c
    match c with
    | ⟨0, _⟩ => rfl
  have h₅ : val_main_v19 (F := Ideal) (ix2 r j) = ((2 : ℝ) : EReal) := by
    rw [val_main_v19_apply]; exact two_f32
  refine (congrArg₂ (· * ·) h₄ (congrArg₂ (· * ·) h₅ (err_at h r j))).trans ?_
  show ((1 / 2 * 1 * (1 / 1024) : ℝ) : EReal) * (((2 : ℝ) : EReal) * err X b Y r j) = err X b Y r j * ((1 / 1024 : ℝ) : EReal)
  rw [← mul_assoc, ← EReal.coe_mul, mul_comm (err X b Y r j)]
  exact congrArg (fun a : ℝ => (a : EReal) * err X b Y r j) (by norm_num)

theorem dgain_at : Holds (val_main_v53 (F := Ideal) x g y) (fun _ : Fin 1 => dg X b Y) := fun i j => by
  obtain rfl : i = 0 := Subsingleton.elim _ _
  have h₁ : val_main_v33 (F := Ideal) x g y (ix1 j) = dg X b Y j := by
    rw [val_main_v33_apply]
    refine (congrArg₂ (· + ·) (show val_main_cst_11 (F := Ideal) _ = 0 from Ideal.ofBits_zero_f32)
      (Finset.sum_congr rfl fun r _ => ?_)).trans (zero_add _)
    have hk : idx_main_v33 (ix1 j) r = ix2 r j := at_pair rfl rfl
    rw [hk]
    exact (congrArg₂ (· * ·) (xhat_at h r j) (derr_at h r j)).trans (mul_comm _ _)
  have h₂ : val_main_v34 (F := Ideal) x g y (ix2 0 j) = dg X b Y j := by
    unfold val_main_v34
    pointwise
    exact h₁
  have h₃ : val_main_v37 (F := Ideal) x g y (ix1 j) = dg X b Y j := by
    rw [val_main_v37_apply]
    refine (congrArg₂ (· + ·) (show val_main_cst_12 (F := Ideal) _ = 0 from Ideal.ofBits_zero_f32) ?_).trans (zero_add _)
    simp only [Fin.sum_univ_one]
    have hk : idx_main_v37 (ix1 j) 0 = ix2 0 j := at_pair rfl rfl
    rw [hk]
    exact h₂
  unfold val_main_v53
  pointwise
  exact h₃

theorem through_at : Holds (val_main_v36 (F := Ideal) x g y) (fun r j => derr X b Y r j * b j) :=
  fun r j => congrArg₂ (· * ·) (derr_at h r j) (gain_at' h r j)

/-- The part of the derivative through the mean square. -/
theorem mean_at (r : Fin 4096) (j : Fin 1024) : val_main_v47 (F := Ideal) x g y (ix2 r j)
    = through X b Y r := by
  have h₁ : val_main_v39 (F := Ideal) x g y (ix1 r) = ∑ k, X r k * (derr X b Y r k * b k) := by
    rw [val_main_v39_apply]
    refine (congrArg₂ (· + ·) (show val_main_cst_13 (F := Ideal) _ = 0 from Ideal.ofBits_zero_f32)
      (Finset.sum_congr rfl fun k _ => ?_)).trans (zero_add _)
    have hk : idx_main_v39 (ix1 r) k = ix2 r k := at_pair rfl rfl
    rw [hk]
    exact congrArg₂ (· * ·) (h.x r k) (through_at h r k)
  have h₂ : val_main_v40 (F := Ideal) x g y (ix2 r 0) = ∑ k, X r k * (derr X b Y r k * b k) := by
    unfold val_main_v40
    pointwise
    exact h₁
  have h₃ : val_main_v44 (F := Ideal) (ix2 r 0) = ((1024 : ℝ) : EReal) := by
    rw [val_main_v44_apply]; exact n1024_f32
  have h₄ : val_main_v46 (F := Ideal) x g y (ix1 r)
      = through X b Y r := by
    rw [val_main_v46_apply]
    refine (congrArg₂ (· + ·) (show val_main_cst_15 (F := Ideal) _ = 0 from Ideal.ofBits_zero_f32) ?_).trans (zero_add _)
    simp only [Fin.sum_univ_one]
    have hk : idx_main_v46 (ix1 r) 0 = ix2 r 0 := at_pair rfl rfl
    rw [hk]
    exact (congrArg₂ Ideal.div (congrArg₂ (· * ·) h₂ (slope_at h r)) h₃).trans (div_n1024 _)
  rw [val_main_v47_apply]
  refine (congrArg _ ?_).trans h₄
  funext c
  match c with
  | ⟨0, _⟩ => rfl

theorem rows_at : Holds (val_main_v51 (F := Ideal) x g y) (dX X b Y) := fun r j => by
  have h₁ : val_main_v41 (F := Ideal) x (ix2 r j) = rstd X r := by
    rw [val_main_v41_apply]
    exact (congrArg _ (at_pair (i := r) (j := (0 : Fin 1)) rfl rfl)).trans (rstd_at h r)
  refine (congrArg₂ (· + ·) (congrArg₂ (· + ·) (congrArg₂ (· * ·) (through_at h r j) h₁)
    (congrArg₂ (· * ·) (h.x r j) (mean_at h r j))) (congrArg₂ (· * ·) (mean_at h r j) (h.x r j))).trans ?_
  exact (chain X r (fun k => derr X b Y r k * b k) j).symm

theorem rows_at' : Holds (val_main_v52 (F := Ideal) x g y) (dX X b Y) := fun r j => rows_at h r j

end Cert.Reference15Ideal.Real

end
-- ==== Proof.Loss.Ends.lean ====
module
public import Idealize.ShloMosaic.Lib.Quiescent
public import proofs.«01_k».proof.Defs
public import proofs.«01_k».proof.Proof.Loss.Call
public import proofs.«01_k».proof.Proof.Loss.Reference

/-! The last norm and the loss: the call and its reference end with equal results. -/

@[expose] public section

noncomputable section

namespace Cert.Loss

open Idealize.ShloMosaic Idealize.ShloMosaic.TcCoe Idealize.SL.Sem Cert.Merge

attribute [local instance] Cert.Kernel15Ideal.Gen.facts Cert.Reference15Ideal.Gen.facts

theorem equal : algebraic_Kernel15Ideal_Reference15Ideal := by
  intro m ρ m' ρ' _ hargs
  refine ⟨fun c => (Cert.Kernel15Ideal.Gen.dats m 0 c).arrAt 3 Cert.Kernel15Ideal.cfg0.N,
    fun c => (Cert.Kernel15Ideal.Gen.dats m 0 c).arrAt 4 Cert.Kernel15Ideal.cfg0.N,
    fun c => (Cert.Kernel15Ideal.Gen.dats m 0 c).arrAt 5 Cert.Kernel15Ideal.cfg0.N,
    fun c => (Cert.Kernel15Ideal.Gen.dats m 0 c).arrAt 6 Cert.Kernel15Ideal.cfg0.N,
    Cert.Kernel15Ideal.Value.run_blocks m ρ,
    (θ_run Cert.Reference15Ideal.defs _ _).mono (fun r h c => ?_) (Cert.Reference15Ideal.Value.run m' ρ')⟩
  obtain ⟨r51, r52, r53, r54, rest⟩ := h c
  obtain ⟨e₀, e₁, e₂⟩ := hargs c
  obtain ⟨X, b, Y, start⟩ : ∃ X b Y, Cert.Kernel15Ideal.Call.Starts m c X b Y := reads _ _ _
  have start' := start
  unfold Cert.Kernel15Ideal.Call.Starts at start'
  rw [← e₀, ← e₁, ← e₂] at start'
  refine ⟨r51.trans ?_, r52.trans ?_, r53.trans ?_, r54.trans ?_, rest⟩
  · exact (Cert.Reference15Ideal.Read.val_main_v51_eq m' c).trans
      ((Cert.Reference15Ideal.Real.rows_at start').unique (Cert.Kernel15Ideal.Call.arrRows start))
  · exact (Cert.Reference15Ideal.Read.val_main_v52_eq m' c).trans
      ((Cert.Reference15Ideal.Real.rows_at' start').unique (Cert.Kernel15Ideal.Call.arrRows' start))
  · exact (Cert.Reference15Ideal.Read.val_main_v53_eq _ _ _).trans
      ((Cert.Reference15Ideal.Real.dgain_at start').unique (Cert.Kernel15Ideal.Call.arrGain start))
  · exact (Cert.Reference15Ideal.Read.val_main_v54_eq _ _ _).trans
      ((Cert.Reference15Ideal.Real.loss_at start').unique (Cert.Kernel15Ideal.Call.arrLoss start))

theorem frame : quiescent_Reference15Ideal := fun m ρ _ =>
  (θ_run Cert.Reference15Ideal.defs _ _).mono
    (fun r h => ⟨fun c => (h c).2.2.2.2, sem_eq_zero_of_no_sems rfl r.2⟩) (Cert.Reference15Ideal.Value.run m ρ)

end Cert.Loss

end
-- ==== Proof.Pull.Spec.lean ====
module
public import proofs.«01_k».proof.Proof.Loss.Spec

/-! The gradient of the mixer's norm over the extended reals: no element need be finite. -/

@[expose] public section

noncomputable section

namespace Cert.Pull

open Idealize.ShloMosaic Cert.Merge Cert.Loss

/-- The gradient of the rows, added to the residual's: `H` is the cotangent of the norm's result. -/
def dX {m : ℕ} (H X : EMat m 1024) (g : Fin 1024 → EReal) (R : EMat m 1024) : EMat m 1024 := fun r j =>
  R r j + rstd X r * (H r j * g j - xhat X r j * ((∑ k, H r k * g k * xhat X r k) * ((1 / 1024 : ℝ) : EReal)))

/-- The gradient of the gain. -/
def dg {m : ℕ} (H X : EMat m 1024) (j : Fin 1024) : EReal := ∑ r, H r j * xhat X r j

/-- The arguments of the call: the cotangent, the rows, the gain and the residual's gradient. -/
structure Reads (d x : FVec Ideal ⟨2, ![4096, 1024]⟩ .f32) (g : FVec Ideal ⟨1, ![1024]⟩ .f32)
    (s : FVec Ideal ⟨2, ![4096, 1024]⟩ .f32) (H X : EMat 4096 1024) (b : Fin 1024 → EReal) (R : EMat 4096 1024) : Prop where
  d : Holds d H
  x : Holds x X
  g : ∀ j, g (ix1 j) = b j
  s : Holds s R

theorem reads (d x : FVec Ideal ⟨2, ![4096, 1024]⟩ .f32) (g : FVec Ideal ⟨1, ![1024]⟩ .f32)
    (s : FVec Ideal ⟨2, ![4096, 1024]⟩ .f32) : ∃ H X b R, Reads d x g s H X b R :=
  ⟨fun r j => d (ix2 r j), fun r j => x (ix2 r j), fun j => g (ix1 j), fun r j => s (ix2 r j),
    { d := fun _ _ => rfl
      x := fun _ _ => rfl
      g := fun _ => rfl
      s := fun _ _ => rfl }⟩

end Cert.Pull

end
-- ==== Proof.Pull.Call.lean ====
module
public import proofs.«01_k».proof.Proof.Gen.Kernel16Ideal.Value
public import proofs.«01_k».proof.Proof.Pull.Spec
public import Idealize.ShloMosaic.Lib.Pipeline.ValueKit

/-! The call of the mixer's norm gradient: four blocks of 1024 rows, the gain's gradient added up over them. -/

@[expose] public section

noncomputable section

namespace Cert.Kernel16Ideal.Call

open Idealize.ShloMosaic Idealize.ShloMosaic.TcCoe Idealize.ShloMosaic.Tactic
open Idealize.SL.Sem
open Idealize.ShloMosaic.Pipeline (Dat Cfg Window)
open Cert.Half (eps n1024_f32 eps_f32 div_n1024 at_pair)
open Cert.Merge Cert.Loss Cert.Pull

/-! ## One block -/

theorem payHat (x : Vec Ideal S1024x1024 .f32) (X : EMat 1024 1024) (hx : Holds x X) : Holds (Gen.k0_pay3 x) (xhat X) := by
  intro i j
  unfold_payloads
  pointwise
  simp only [hx _ _, n1024_f32, eps_f32, div_n1024]
  rfl

theorem payRows (d x : Vec Ideal S1024x1024 .f32) (g : Vec Ideal S1x1024 .f32) (s : Vec Ideal S1024x1024 .f32)
    (H X R : EMat 1024 1024) (b : Fin 1024 → EReal) (hd : Holds d H) (hx : Holds x X) (hg : Holds g (fun _ : Fin 1 => b))
    (hs : Holds s R) : Holds (Gen.k0_pay4 x d g s) (Pull.dX H X b R) := by
  intro i j
  unfold_payloads
  pointwise
  simp only [hd _ _, hx _ _, hg _ _, hs _ _, n1024_f32, eps_f32, div_n1024]
  rfl

/-- One step of the gain's gradient: the block's column sums are added to what is there. -/
theorem payGain (h d : FVec Ideal S1024x1024 .f32) (o : Vec Ideal S1x1024 .f32) (A D : EMat 1024 1024)
    (b : Fin 1024 → EReal) (hh : Holds h A) (hd : Holds d D) (ho : Holds o (fun _ : Fin 1 => b)) :
    Holds (Gen.k0_pay1 h d o) (fun _ : Fin 1 => fun j => b j + ∑ r, D r j * A r j) := by
  intro i j
  obtain rfl : i = 0 := Subsingleton.elim _ _
  unfold_payloads
  pointwise
  simp only [hh _ _, hd _ _, ho _ _]

theorem payZero : Holds (Gen.k0_pay6 (F := Ideal)) (fun _ : Fin 1 => fun _ : Fin 1024 => 0) := by
  intro i j
  unfold_payloads
  pointwise

/-! ## The whole call -/

theorem idx : ∀ t : Fin grid0.N, (win0_0.index t 0 = t.val ∧ win0_0.index t 1 = 0) ∧
    (win0_1.index t 0 = t.val ∧ win0_1.index t 1 = 0) ∧ (win0_2.index t 0 = 0 ∧ win0_2.index t 1 = 0) ∧
    (win0_3.index t 0 = t.val ∧ win0_3.index t 1 = 0) ∧ (win0_4.index t 0 = t.val ∧ win0_4.index t 1 = 0) ∧
    (win0_5.index t 0 = t.val ∧ win0_5.index t 1 = 0) ∧ (win0_6.index t 0 = 0 ∧ win0_6.index t 1 = 0) := by
  decide +kernel

theorem lt4 (t : Fin cfg0.N) : t.val < 4 := t.isLt.trans_eq (by decide +kernel)

/-- The row of the array that row `p` of block `t` is. -/
def row (t : Fin cfg0.N) (p : Fin 1024) : Fin 4096 := ⟨t.val * 1024 + p.val, by have := lt4 t; omega⟩

theorem part_row (f : Fin 4096 → EReal) (t : Fin cfg0.N) : part f t.val = ∑ i, f (row t i) := dif_pos (lt4 t)

/-- Core `c`'s arguments are those named. -/
abbrev Starts (m : (ℓ : Loc nD τ sig) → Buf (Elt Ideal) ℓ) (c : Dev nD) (H X : EMat 4096 1024) (b : Fin 1024 → EReal)
    (R : EMat 4096 1024) : Prop :=
  Pull.Reads (m ((c : Thread nD τ).loc main_arg0)) (m ((c : Thread nD τ).loc main_arg1)) (m ((c : Thread nD τ).loc main_arg2))
    (m ((c : Thread nD τ).loc main_arg3)) H X b R

variable {m : (ℓ : Loc nD τ sig) → Buf (Elt Ideal) ℓ} {c : Dev nD} {H X R : EMat 4096 1024} {b : Fin 1024 → EReal}
  (h : Starts m c H X b R)

include h

theorem gain0 : Holds (Gen.V m c main_v0) (fun _ : Fin 1 => b) := by
  intro i j
  unfold_abbrev_sides
  after_results
  pointwise
  exact h.g j

theorem blk0 (t : Fin cfg0.N) : Holds (Gen.iblk m c 0 t) (fun i j => H (row t i) j) := by
  intro i j
  have hi := (idx t).1
  blk_simp [Gen.iblk]
  refine (congrArg (Gen.V m c main_arg0) (at_pair ?_ ?_)).trans ((congrFun (Gen.V_main_arg0 m c) _).trans (h.d _ _)) <;>
    blk_simp <;> simp only [hi.1, hi.2, row] <;> omega

theorem blk1 (t : Fin cfg0.N) : Holds (Gen.iblk m c 1 t) (fun i j => X (row t i) j) := by
  intro i j
  have hi := (idx t).2.1
  blk_simp [Gen.iblk]
  refine (congrArg (Gen.V m c main_arg1) (at_pair ?_ ?_)).trans ((congrFun (Gen.V_main_arg1 m c) _).trans (h.x _ _)) <;>
    blk_simp <;> simp only [hi.1, hi.2, row] <;> omega

theorem blk2 (t : Fin cfg0.N) : Holds (Gen.iblk m c 2 t) (fun _ : Fin 1 => b) := by
  intro i j
  have hi := (idx t).2.2.1
  blk_simp [Gen.iblk]
  refine (congrArg (Gen.V m c main_v0) (at_pair (i := i) ?_ ?_)).trans (gain0 h _ _) <;> blk_simp <;>
    simp only [hi.1, hi.2] <;> omega

theorem blk3 (t : Fin cfg0.N) : Holds (Gen.iblk m c 3 t) (fun i j => R (row t i) j) := by
  intro i j
  have hi := (idx t).2.2.2.1
  blk_simp [Gen.iblk]
  refine (congrArg (Gen.V m c main_arg3) (at_pair ?_ ?_)).trans ((congrFun (Gen.V_main_arg3 m c) _).trans (h.s _ _)) <;>
    blk_simp <;> simp only [hi.1, hi.2, row] <;> omega

/-- The rows' gradient after the call. -/
theorem arrRows : Holds ((Gen.dats m 0 c).arrAt 4 cfg0.N) (Pull.dX H X b R) := by
  intro r f
  refine (Gen.dats m 0 c).arrAt_forall_of_covers 4 (fun i v => v = Pull.dX H X b R (i 0) (i 1))
    (by decide +kernel) (fun t hf y => ?_) (ix2 r f)
  blk_simp
  rw [Gen.after0_4]
  obtain ⟨p, q, rfl⟩ : ∃ (p : Fin 1024) (q : Fin 1024), y = ix2 p q := ⟨y 0, y 1, eq_ix2 y⟩
  have e : ((View.whole main_v1_0).slice (win0_4.rect t)).emb (ix2 p q) = ix2 (row t p) q := by
    have hi := (idx t).2.2.2.2.1
    refine at_pair ?_ ?_ <;> blk_simp <;> simp only [hi.1, hi.2, row] <;> omega
  have hp := payRows _ _ _ _ _ _ _ _ (blk0 h t) (blk1 h t) (blk2 h t) (blk3 h t) p q
  by_cases h0 : t.val % 4 = 0
  · rw [Gen.outsAt0_A m c t h0]
    frame_out
    rw [hp, e]
    rfl
  · rw [Gen.outsAt0_B m c t h0]
    frame_out
    rw [hp, e]
    rfl

/-- The same in the narrower type. -/
theorem arrRows' : Holds ((Gen.dats m 0 c).arrAt 5 cfg0.N) (Pull.dX H X b R) := by
  intro r f
  refine (Gen.dats m 0 c).arrAt_forall_of_covers 5 (fun i v => v = Pull.dX H X b R (i 0) (i 1))
    (by decide +kernel) (fun t hf y => ?_) (ix2 r f)
  blk_simp
  rw [Gen.after0_5]
  obtain ⟨p, q, rfl⟩ : ∃ (p : Fin 1024) (q : Fin 1024), y = ix2 p q := ⟨y 0, y 1, eq_ix2 y⟩
  have e : ((View.whole main_v1_1).slice (win0_5.rect t)).emb (ix2 p q) = ix2 (row t p) q := by
    have hi := (idx t).2.2.2.2.2.1
    refine at_pair ?_ ?_ <;> blk_simp <;> simp only [hi.1, hi.2, row] <;> omega
  have hp : Gen.k0_pay5 (F := Ideal) (Gen.iblk m c 1 t) (Gen.iblk m c 0 t) (Gen.iblk m c 2 t) (Gen.iblk m c 3 t) (ix2 p q) = _ :=
    payRows _ _ _ _ _ _ _ _ (blk0 h t) (blk1 h t) (blk2 h t) (blk3 h t) p q
  by_cases h0 : t.val % 4 = 0
  · rw [Gen.outsAt0_A m c t h0]
    frame_out
    rw [hp, e]
    rfl
  · rw [Gen.outsAt0_B m c t h0]
    frame_out
    rw [hp, e]
    rfl

/-- The gain's gradient after `n + 1` blocks. -/
theorem partial_sum : ∀ (n : ℕ) (hn : n < cfg0.N), Holds (Gen.outsAt0 m c n hn).2.2
    (fun _ : Fin 1 => fun j => ∑ s ∈ Finset.range (n + 1), part (fun r => H r j * xhat X r j) s) := by
  intro n
  induction n with
  | zero =>
    intro hn i j
    have hh := payHat _ _ (blk1 h ⟨0, hn⟩)
    rw [Gen.outsAt0_A m c ⟨0, hn⟩ rfl]
    frame_out
    refine (payGain _ _ _ _ _ _ hh (blk0 h ⟨0, hn⟩) payZero i j).trans ?_
    rw [Finset.sum_range_one]
    exact (zero_add _).trans (part_row (fun r => H r j * xhat X r j) ⟨0, hn⟩).symm
  | succ n ih =>
    intro hn i j
    have hn4 : n + 1 < 4 := lt4 ⟨n + 1, hn⟩
    have hh := payHat _ _ (blk1 h ⟨n + 1, hn⟩)
    rw [Gen.outsAt0_B m c ⟨n + 1, hn⟩ (by simp only; omega)]
    frame_out
    refine (payGain _ _ _ _ _ _ hh (blk0 h ⟨n + 1, hn⟩) (ih (by omega)) i j).trans ?_
    rw [Finset.sum_range_succ _ (n + 1)]
    exact congrArg (_ + ·) (part_row (fun r => H r j * xhat X r j) ⟨n + 1, hn⟩).symm

/-- The gain's gradient after the call. -/
theorem arrGain : Holds ((Gen.dats m 0 c).arrAt 6 cfg0.N) (fun _ : Fin 1 => Pull.dg H X) := by
  intro r f
  refine (Gen.dats m 0 c).arrAt_forall_of_covers 6 (fun i v => v = Pull.dg H X (i 1))
    (by decide +kernel) (fun t hf y => ?_) (ix2 r f)
  blk_simp
  rw [Gen.after0_6]
  obtain ⟨p, q, rfl⟩ : ∃ (p : Fin 1) (q : Fin 1024), y = ix2 p q := ⟨y 0, y 1, eq_ix2 y⟩
  have e : ((View.whole main_v1_2).slice (win0_6.rect t)).emb (ix2 p q) = ix2 p q := by
    have hi := (idx t).2.2.2.2.2.2
    refine at_pair ?_ ?_ <;> blk_simp <;> simp only [hi.1, hi.2] <;> omega
  have h3 : t.val = 3 := (by decide +kernel : ∀ t : Fin grid0.N, win0_6.flush t = true → t.val = 3) t hf
  rw [e]
  refine (partial_sum h t.val t.isLt p q).trans ?_
  simp only [h3]
  exact sum_parts _

end Cert.Kernel16Ideal.Call

end
-- ==== Proof.Pull.Reference.lean ====
module
public import proofs.«01_k».proof.Proof.Gen.Reference16Ideal.Read
public import proofs.«01_k».proof.Proof.Pull.Spec

/-! The reference of the mixer's norm gradient over the extended reals: each of its arrays holds what the
    specification names. -/

@[expose] public section

noncomputable section

namespace Cert.Reference16Ideal.Real

open Idealize.ShloMosaic Cert.Merge Cert.Loss Cert.Pull Cert.Reference16Ideal.Read
open Cert.Half (neg_half_f32 n1024_f32 eps_f32 div_n1024 at_pair)

/-- What each element of row `r` is multiplied by in the derivative through the mean square. -/
def through (H X : EMat 4096 1024) (b : Fin 1024 → EReal) (r : Fin 4096) : EReal :=
  (∑ k, X r k * (H r k * b k)) * (((-(1 / 2) : ℝ) : EReal) * Ideal.div (rstd X r) (msq X r)) * ((1 / 1024 : ℝ) : EReal)

variable {d x : FVec Ideal S4096x1024 .f32} {g : FVec Ideal S1024 .f32} {s : FVec Ideal S4096x1024 .f32}
  {H X R : EMat 4096 1024} {b : Fin 1024 → EReal} (h : Pull.Reads d x g s H X b R)
include h

theorem msq_at (r : Fin 4096) : val_main_v6 (F := Ideal) x (ix2 r 0) = msq X r := by
  have h₁ : val_main_v1 (F := Ideal) x (ix1 r) = ∑ k, X r k * X r k := by
    rw [val_main_v1_apply]
    refine (congrArg₂ (· + ·) (show val_main_cst (F := Ideal) _ = 0 from Ideal.ofBits_zero_f32)
      (Finset.sum_congr rfl fun k _ => ?_)).trans (zero_add _)
    have hk : idx_main_v1 (ix1 r) k = ix2 r k := at_pair rfl rfl
    rw [hk]
    exact congrArg₂ (· * ·) (h.x r k) (h.x r k)
  have h₂ : val_main_v2 (F := Ideal) x (ix2 r 0) = ∑ k, X r k * X r k := by
    rw [val_main_v2_apply]
    refine (congrArg _ ?_).trans h₁
    funext c
    match c with
    | ⟨0, _⟩ => rfl
  have h₃ : val_main_v3 (F := Ideal) (ix2 r 0) = ((1024 : ℝ) : EReal) := by
    rw [val_main_v3_apply]; exact n1024_f32
  have h₅ : val_main_v5 (F := Ideal) (ix2 r 0) = ((Half.eps : ℝ) : EReal) := by
    rw [val_main_v5_apply]; exact eps_f32
  exact congrArg₂ (· + ·) ((congrArg₂ Ideal.div h₂ h₃).trans (div_n1024 _)) h₅

theorem rstd_at (r : Fin 4096) : val_main_v7 (F := Ideal) x (ix2 r 0) = rstd X r := by
  rw [val_main_v7_apply, msq_at h r]
  rfl

/-- The derivative of the reciprocal root. -/
theorem slope_at (r : Fin 4096) :
    val_main_v10 (F := Ideal) x (ix2 r 0) = ((-(1 / 2) : ℝ) : EReal) * Ideal.div (rstd X r) (msq X r) := by
  have h₉ : val_main_v9 (F := Ideal) (ix2 r 0) = ((-(1 / 2) : ℝ) : EReal) := by
    rw [val_main_v9_apply]; exact neg_half_f32
  exact congrArg₂ (· * ·) h₉ (congrArg₂ Ideal.div (rstd_at h r) (msq_at h r))

theorem xhat_at : Holds (val_main_v12 (F := Ideal) x) (xhat X) := fun r j => by
  have h₁ : val_main_v11 (F := Ideal) x (ix2 r j) = rstd X r := by
    rw [val_main_v11_apply]
    exact (congrArg _ (at_pair (i := r) (j := (0 : Fin 1)) rfl rfl)).trans (rstd_at h r)
  exact congrArg₂ (· * ·) (h.x r j) h₁

theorem gain_at (r : Fin 4096) (j : Fin 1024) : val_main_v19 (F := Ideal) g (ix2 r j) = b j := by
  rw [val_main_v19_apply, val_main_v13_apply]
  refine (congrArg g ?_).trans (h.g j)
  funext c
  match c with
  | ⟨0, _⟩ => rfl

theorem dgain_at : Holds (val_main_v38 (F := Ideal) d x) (fun _ : Fin 1 => Pull.dg H X) := fun i j => by
  obtain rfl : i = 0 := Subsingleton.elim _ _
  have h₁ : val_main_v17 (F := Ideal) d x (ix1 j) = Pull.dg H X j := by
    rw [val_main_v17_apply]
    refine (congrArg₂ (· + ·) (show val_main_cst_3 (F := Ideal) _ = 0 from Ideal.ofBits_zero_f32)
      (Finset.sum_congr rfl fun r _ => ?_)).trans (zero_add _)
    have hk : idx_main_v17 (ix1 j) r = ix2 r j := at_pair rfl rfl
    rw [hk]
    exact (congrArg₂ (· * ·) (xhat_at h r j) (h.d r j)).trans (mul_comm _ _)
  have h₂ : val_main_v18 (F := Ideal) d x (ix2 0 j) = Pull.dg H X j := by
    unfold val_main_v18
    pointwise
    exact h₁
  have h₃ : val_main_v21 (F := Ideal) d x (ix1 j) = Pull.dg H X j := by
    rw [val_main_v21_apply]
    refine (congrArg₂ (· + ·) (show val_main_cst_4 (F := Ideal) _ = 0 from Ideal.ofBits_zero_f32) ?_).trans (zero_add _)
    simp only [Fin.sum_univ_one]
    have hk : idx_main_v21 (ix1 j) 0 = ix2 0 j := at_pair rfl rfl
    rw [hk]
    exact h₂
  unfold val_main_v38
  pointwise
  exact h₃

theorem through_at : Holds (val_main_v20 (F := Ideal) d g) (fun r j => H r j * b j) :=
  fun r j => congrArg₂ (· * ·) (h.d r j) (gain_at h r j)

/-- The part of the derivative through the mean square. -/
theorem mean_at (r : Fin 4096) (j : Fin 1024) : val_main_v31 (F := Ideal) d x g (ix2 r j) = through H X b r := by
  have h₁ : val_main_v23 (F := Ideal) d x g (ix1 r) = ∑ k, X r k * (H r k * b k) := by
    rw [val_main_v23_apply]
    refine (congrArg₂ (· + ·) (show val_main_cst_5 (F := Ideal) _ = 0 from Ideal.ofBits_zero_f32)
      (Finset.sum_congr rfl fun k _ => ?_)).trans (zero_add _)
    have hk : idx_main_v23 (ix1 r) k = ix2 r k := at_pair rfl rfl
    rw [hk]
    exact congrArg₂ (· * ·) (h.x r k) (through_at h r k)
  have h₂ : val_main_v24 (F := Ideal) d x g (ix2 r 0) = ∑ k, X r k * (H r k * b k) := by
    unfold val_main_v24
    pointwise
    exact h₁
  have h₃ : val_main_v28 (F := Ideal) (ix2 r 0) = ((1024 : ℝ) : EReal) := by
    rw [val_main_v28_apply]; exact n1024_f32
  have h₄ : val_main_v30 (F := Ideal) d x g (ix1 r) = through H X b r := by
    rw [val_main_v30_apply]
    refine (congrArg₂ (· + ·) (show val_main_cst_7 (F := Ideal) _ = 0 from Ideal.ofBits_zero_f32) ?_).trans (zero_add _)
    simp only [Fin.sum_univ_one]
    have hk : idx_main_v30 (ix1 r) 0 = ix2 r 0 := at_pair rfl rfl
    rw [hk]
    exact (congrArg₂ Ideal.div (congrArg₂ (· * ·) h₂ (slope_at h r)) h₃).trans (div_n1024 _)
  rw [val_main_v31_apply]
  refine (congrArg _ ?_).trans h₄
  funext c
  match c with
  | ⟨0, _⟩ => rfl

theorem rows_at : Holds (val_main_v36 (F := Ideal) d x g s) (Pull.dX H X b R) := fun r j => by
  have h₁ : val_main_v25 (F := Ideal) x (ix2 r j) = rstd X r := by
    rw [val_main_v25_apply]
    exact (congrArg _ (at_pair (i := r) (j := (0 : Fin 1)) rfl rfl)).trans (rstd_at h r)
  refine congrArg₂ (· + ·) (h.s r j) ?_
  refine (congrArg₂ (· + ·) (congrArg₂ (· + ·) (congrArg₂ (· * ·) (through_at h r j) h₁)
    (congrArg₂ (· * ·) (h.x r j) (mean_at h r j))) (congrArg₂ (· * ·) (mean_at h r j) (h.x r j))).trans ?_
  exact (chain X r (fun k => H r k * b k) j).symm

theorem rows_at' : Holds (val_main_v37 (F := Ideal) d x g s) (Pull.dX H X b R) := fun r j => rows_at h r j

end Cert.Reference16Ideal.Real

end
-- ==== Proof.Pull.Ends.lean ====
module
public import Idealize.ShloMosaic.Lib.Quiescent
public import proofs.«01_k».proof.Defs
public import proofs.«01_k».proof.Proof.Pull.Call
public import proofs.«01_k».proof.Proof.Pull.Reference

/-! The mixer's norm gradient: the call and its reference end with equal results. -/

@[expose] public section

noncomputable section

namespace Cert.Pull

open Idealize.ShloMosaic Idealize.ShloMosaic.TcCoe Idealize.SL.Sem Cert.Merge

attribute [local instance] Cert.Kernel16Ideal.Gen.facts Cert.Reference16Ideal.Gen.facts

theorem equal : algebraic_Kernel16Ideal_Reference16Ideal := by
  intro m ρ m' ρ' _ hargs
  refine ⟨fun c => (Cert.Kernel16Ideal.Gen.dats m 0 c).arrAt 4 Cert.Kernel16Ideal.cfg0.N,
    fun c => (Cert.Kernel16Ideal.Gen.dats m 0 c).arrAt 5 Cert.Kernel16Ideal.cfg0.N,
    fun c => (Cert.Kernel16Ideal.Gen.dats m 0 c).arrAt 6 Cert.Kernel16Ideal.cfg0.N,
    Cert.Kernel16Ideal.Value.run_blocks m ρ,
    (θ_run Cert.Reference16Ideal.defs _ _).mono (fun r h c => ?_) (Cert.Reference16Ideal.Value.run m' ρ')⟩
  obtain ⟨r36, r37, r38, rest⟩ := h c
  obtain ⟨e₀, e₁, e₂, e₃⟩ := hargs c
  obtain ⟨H, X, b, R, start⟩ : ∃ H X b R, Cert.Kernel16Ideal.Call.Starts m c H X b R := reads _ _ _ _
  have start' := start
  unfold Cert.Kernel16Ideal.Call.Starts at start'
  rw [← e₀, ← e₁, ← e₂, ← e₃] at start'
  refine ⟨r36.trans ?_, r37.trans ?_, r38.trans ?_, rest⟩
  · exact (Cert.Reference16Ideal.Read.val_main_v36_eq _ _ _ _).trans
      ((Cert.Reference16Ideal.Real.rows_at start').unique (Cert.Kernel16Ideal.Call.arrRows start))
  · exact (Cert.Reference16Ideal.Read.val_main_v37_eq _ _ _ _).trans
      ((Cert.Reference16Ideal.Real.rows_at' start').unique (Cert.Kernel16Ideal.Call.arrRows' start))
  · exact (Cert.Reference16Ideal.Read.val_main_v38_eq _ _).trans
      ((Cert.Reference16Ideal.Real.dgain_at start').unique (Cert.Kernel16Ideal.Call.arrGain start))

theorem frame : quiescent_Reference16Ideal := fun m ρ _ =>
  (θ_run Cert.Reference16Ideal.defs _ _).mono
    (fun r h => ⟨fun c => (h c).2.2.2, sem_eq_zero_of_no_sems rfl r.2⟩) (Cert.Reference16Ideal.Value.run m ρ)

end Cert.Pull

end
-- ==== Proof.Heads.Spec.lean ====
module
public import proofs.«01_k».proof.Proof.Merge.Spec

/-! The heads the attentions read, over the extended reals: the projection's columns split into 60 heads, the queries and
    keys of the dilated attention rotated, the queries scaled, and the rows of the dilated heads in the order of their
    interleaved sequences. No element need be finite. -/

@[expose] public section

noncomputable section

namespace Cert.Heads

open Idealize.ShloMosaic Cert.Merge

/-- Row `r` of the `d` interleaved sequences laid one after the other is this token. -/
def token (d : ℕ) (r : Fin 2048) : Fin 2048 := ⟨(r.val % (2048 / d) * d + r.val / (2048 / d)) % 2048, Nat.mod_lt _ (by decide)⟩

theorem token_eq {d n : ℕ} {a i : Fin 2048} (hn : 2048 / d = n) (h : a.val = i.val % n * d + i.val / n) : a = token d i := by
  refine Fin.ext ?_
  simp only [token, hn, ← h]
  exact (Nat.mod_eq_of_lt a.isLt).symm

theorem token_one (r : Fin 2048) : token 1 r = r := Fin.ext (by simp only [token]; omega)

/-- The feature the rotation pairs with `f`. -/
def other (f : Fin 64) : Fin 64 := ⟨(f.val + 32) % 64, Nat.mod_lt _ (by decide)⟩

/-- The angle of pair `g` of features at position `p`. -/
def angle (p : Fin 2048) (g : ℕ) : EReal :=
  FloatOps.sitofp (F := Ideal) .f32 (BitVec.ofNat 32 p.val)
    * Ideal.pow (Ideal.ofBits .f32 1176256512#32)
      (Ideal.div (-FloatOps.sitofp (F := Ideal) .f32 (BitVec.ofNat 32 g)) (Ideal.ofBits .f32 1107296256#32))

/-- What a feature is multiplied by in its rotation. -/
def cosAt (p : Fin 2048) (l : ℕ) : EReal := Ideal.cos (angle p (l % 32))

/-- What the feature paired with it is multiplied by. -/
def sinAt (p : Fin 2048) (l : ℕ) : EReal := if l % 64 < 32 then -Ideal.sin (angle p (l % 32)) else Ideal.sin (angle p (l % 32))

theorem sinAt_low {p : Fin 2048} {l k : ℕ} (h : l % 64 < 32) (hk : k = l % 32) : -Ideal.sin (angle p k) = sinAt p l := by
  rw [sinAt, if_pos h, hk]

theorem sinAt_high {p : Fin 2048} {l k : ℕ} (h : ¬ l % 64 < 32) (hk : k = l % 32) : Ideal.sin (angle p k) = sinAt p l := by
  rw [sinAt, if_neg h, hk]

/-- A token's features, rotated. -/
def turn (p : Fin 2048) (X : Fin 64 → EReal) (f : Fin 64) : EReal := X f * cosAt p f.val + X (other f) * sinAt p f.val

theorem turn_low {p : Fin 2048} {X : Fin 64 → EReal} {f : Fin 64} (hf : f.val < 32) :
    turn p X f = X f * Ideal.cos (angle p f.val) - X (other f) * Ideal.sin (angle p f.val) := by
  have hm : f.val % 32 = f.val := by omega
  rw [turn, cosAt, sinAt, if_pos (by omega), hm, mul_neg, ← sub_eq_add_neg]

theorem turn_high {p : Fin 2048} {X : Fin 64 → EReal} {f : Fin 64} (hf : ¬ f.val < 32) :
    turn p X f = X f * Ideal.cos (angle p (f.val - 32)) + X (other f) * Ideal.sin (angle p (f.val - 32)) := by
  have hm : f.val % 32 = f.val - 32 := by omega
  rw [turn, cosAt, sinAt, if_neg (by omega), hm]

/-- Head `h` of the projection at token `r` of sequence `b`. -/
def head (P : EMat 4096 5888) (b : Fin 2) (h : Fin 60) (r : Fin 2048) (f : Fin 64) : EReal :=
  P ⟨b.val * 2048 + r.val, by omega⟩ ⟨64 * h.val + f.val, by omega⟩

/-- How many interleaved sequences head `h` attends within. -/
def dil (h : ℕ) : ℕ := if h < 36 then (if h / 4 % 3 = 0 then 1 else if h / 4 % 3 = 1 then 4 else 16) else 1

theorem dil_one {h : ℕ} (hh : h < 36 → h / 4 % 3 = 0) : dil h = 1 := by
  by_cases h36 : h < 36
  · rw [dil, if_pos h36, if_pos (hh h36)]
  · rw [dil, if_neg h36]

theorem dil_four {h : ℕ} (h36 : h < 36) (hh : h / 4 % 3 = 1) : dil h = 4 := by
  rw [dil, if_pos h36, if_neg (by omega), if_pos hh]

theorem dil_sixteen {h : ℕ} (h36 : h < 36) (hh : h / 4 % 3 = 2) : dil h = 16 := by
  rw [dil, if_pos h36, if_neg (by omega), if_neg (by omega)]

/-- The factor of the queries. -/
def eighth : EReal := Ideal.ofBits .f32 0x3E000000#32

/-- Heads 0 to 11 and 36 to 43 are queries. -/
def scale (h : ℕ) : EReal := if h < 12 ∨ (36 ≤ h ∧ h < 44) then eighth else 1

/-- Head `h` at a token as the attentions read it. -/
def base (P : EMat 4096 5888) (b : Fin 2) (h : Fin 60) (r : Fin 2048) (f : Fin 64) : EReal :=
  (if h.val < 24 then turn r (head P b h r) f else head P b h r f) * scale h.val

section
variable {P : EMat 4096 5888} {b : Fin 2} {h : Fin 60} {r : Fin 2048} {f : Fin 64}

theorem base_rotated_query (hh : h.val < 12) : base P b h r f = turn r (head P b h r) f * eighth := by
  rw [base, if_pos (by omega), scale, if_pos (by omega)]

theorem base_rotated_key (h12 : 12 ≤ h.val) (h24 : h.val < 24) : base P b h r f = turn r (head P b h r) f := by
  rw [base, if_pos h24, scale, if_neg (by omega), mul_one]

theorem base_query (h36 : 36 ≤ h.val) (h44 : h.val < 44) : base P b h r f = head P b h r f * eighth := by
  rw [base, if_neg (by omega), scale, if_pos (by omega)]

theorem base_other (h24 : 24 ≤ h.val) (hh : h.val < 36 ∨ 44 ≤ h.val) : base P b h r f = head P b h r f := by
  rw [base, if_neg (by omega), scale, if_neg (by omega), mul_one]

end

/-- One entry of head `h`: row `r` in the order of its interleaved sequences. -/
def entry (P : EMat 4096 5888) (b : Fin 2) (h : Fin 60) (r : Fin 2048) (f : Fin 64) : EReal :=
  base P b h (token (dil h.val) r) f

theorem entry_one {P : EMat 4096 5888} {b : Fin 2} {h : Fin 60} {r : Fin 2048} {f : Fin 64} (hh : 36 ≤ h.val) :
    entry P b h r f = base P b h r f := by
  rw [entry, dil_one (by omega), token_one]

end Cert.Heads

end
-- ==== Proof.Heads.Block.lean ====
module
public import proofs.«01_k».proof.Proof.Gen.Kernel17Ideal.Frame
public import proofs.«01_k».proof.Proof.Heads.Spec
public import Idealize.ShloMosaic.Lib.Pipeline.ValueKit
public import Idealize.ShloMosaic.Lib.WholeRead

/-! One pair of heads: what each of the call's six cases stores, from the block's rows and the two tables. -/

@[expose] public section

noncomputable section

namespace Cert.Kernel17Ideal.Call

open Idealize.ShloMosaic Idealize.ShloMosaic.TcCoe Idealize.ShloMosaic.Tactic
open Idealize.SL.Sem
open Idealize.ShloMosaic.Pipeline (Dat Cfg Window)
open Cert.Heads

variable {m : (ℓ : Loc nD τ sig) → Buf (Elt Ideal) ℓ} {c : Dev nD}

/-- The pieces of `n` rows are, from row `o` on, the rows of `Y`. -/
def Lays (n : ℕ) (Y : Fin 2048 → Fin 128 → EReal) : List ((s : Shape) × (s.Idx → EReal)) → ℕ → Prop
  | [], _ => True
  | p :: L, o => (∃ x : (⟨2, ![n, 128]⟩ : Shape).Idx → EReal, p = ⟨⟨2, ![n, 128]⟩, x⟩ ∧
      ∀ (i : Fin n) (l : Fin 128) (h : o + i.val < 2048), x (ix2 i l) = Y ⟨o + i.val, h⟩ l) ∧ Lays n Y L (o + n)

theorem lays_cons {n o : ℕ} {Y : Fin 2048 → Fin 128 → EReal} {L : List ((s : Shape) × (s.Idx → EReal))}
    {x : (⟨2, ![n, 128]⟩ : Shape).Idx → EReal}
    (hx : ∀ (i : Fin n) (l : Fin 128) (h : o + i.val < 2048), x (ix2 i l) = Y ⟨o + i.val, h⟩ l) (hL : Lays n Y L (o + n)) :
    Lays n Y (⟨⟨2, ![n, 128]⟩, x⟩ :: L) o := ⟨⟨x, rfl, hx⟩, hL⟩

theorem lays_at {n : ℕ} {Y : Fin 2048 → Fin 128 → EReal} (r : Fin 2048) (f : Fin 128) :
    ∀ (L : List ((s : Shape) × (s.Idx → EReal))) (o c : ℕ) (hs) (hc), o + c = r.val → Lays n Y L o →
      concatenateAt S2048x128 0 (ix2 r f) L hs c hc = Y r f
  | [], _, _, _, hc, _, _ => absurd hc (Nat.not_lt_zero _)
  | [p], o, c, hs, hc, ho, h => by
    obtain ⟨⟨x, rfl, hx⟩, -⟩ := h
    have hcn : c < n := by simpa [axisSizes] using hc
    rw [concatenateAt_singleton]
    refine (congrArg x (a₂ := ix2 ⟨c, hcn⟩ f) ?_).trans ((hx ⟨c, hcn⟩ f (by show o + c < 2048; omega)).trans ?_)
    · funext b; refine Fin.cases ?_ (fun b => ?_) b
      · exact Fin.ext rfl
      · obtain rfl : b = 0 := Subsingleton.elim _ _
        exact Fin.ext rfl
    · exact congrArg (fun k => Y k f) (Fin.ext ho)
  | p :: q :: L, o, c, hs, hc, ho, h => by
    obtain ⟨⟨x, rfl, hx⟩, h⟩ := h
    rw [concatenateAt_cons]
    refine ValueKit.dite_eq_of (fun hcn => ?_) (fun hcn => ?_)
    · refine (congrArg x (a₂ := ix2 ⟨c, hcn⟩ f) ?_).trans ((hx ⟨c, hcn⟩ f (by show o + c < 2048; omega)).trans ?_)
      · funext b; refine Fin.cases ?_ (fun b => ?_) b
        · exact Fin.ext rfl
        · obtain rfl : b = 0 := Subsingleton.elim _ _
          exact Fin.ext rfl
      · exact congrArg (fun k => Y k f) (Fin.ext ho)
    · refine lays_at r f (q :: L) (o + n) _ _ _ ?_ h
      have : n ≤ c := Nat.le_of_not_lt hcn
      show o + n + (c - n) = r.val
      omega

/-- The two heads of a block: each is stored on its own. -/
theorem stored (a b : FVec Ideal S1x1x2048x64 .bf16) (e : Fin 2) (r : Fin 2048) (f : Fin 64) (v : EReal)
    (ha : e = 0 → a (ix4 0 0 r f) = v) (hb : e = 1 → b (ix4 0 0 r f) = v) :
    View.canon (Val := Elt Ideal) (e := .bf16) (s := S1x2x2048x64)
      [⟨Rect.unit ![0, 1, 0, 0] ![1, 1, 2048, 64] Gen.inb_S1x2x2048x64_S1x1x2048x64_0_1_0_0, b⟩,
        ⟨Rect.unit ![0, 0, 0, 0] ![1, 1, 2048, 64] Gen.inb_S1x2x2048x64_S1x1x2048x64_0_0_0_0, a⟩] (ix4 0 e r f) = v := by
  canon_tiles x h
  · obtain ⟨x0, x1, x2, x3, rfl⟩ : ∃ a b c d, x = ix4 a b c d := ⟨x 0, x 1, x 2, x 3, eq_ix4 x⟩
    obtain rfl : x0 = 0 := Subsingleton.elim _ _
    obtain rfl : x1 = 0 := Subsingleton.elim _ _
    obtain rfl : r = x2 := Fin.ext h2
    obtain rfl : f = x3 := Fin.ext h3
    exact hb (Fin.ext h1)
  · obtain ⟨x0, x1, x2, x3, rfl⟩ : ∃ a b c d, x = ix4 a b c d := ⟨x 0, x 1, x 2, x 3, eq_ix4 x⟩
    obtain rfl : x0 = 0 := Subsingleton.elim _ _
    obtain rfl : x1 = 0 := Subsingleton.elim _ _
    obtain rfl : r = x2 := Fin.ext h2
    obtain rfl : f = x3 := Fin.ext h3
    exact ha (Fin.ext h1)

/-- Rows laid so, read back. -/
theorem joined {n d : ℕ} {L : List ((s : Shape) × (s.Idx → EReal))} {h} (X : Fin 2048 → Fin 128 → EReal)
    (hL : Lays n (fun r l => X (token d r) l) L 0) :
    concatenate S2048x128 0 L h = fun y => X (token d (y 0)) (y 1) := by
  funext y
  obtain ⟨i, j, rfl⟩ : ∃ (i : Fin 2048) (j : Fin 128), y = ix2 i j := ⟨y 0, y 1, eq_ix2 y⟩
  rw [concatenate_apply]
  exact lays_at i j L 0 _ _ _ (Nat.zero_add _) hL

/-- The lane of a pair of heads that holds feature `f` of head `e`. -/
def lane (e : Fin 2) (f : Fin 64) : Fin 128 := ⟨64 * e.val + f.val, by omega⟩

/-- One entry of a rotated head, from the block's rows and the two tables. -/
def turned (x : Vec Ideal S1x2048x128 .f32) (u v : Vec Ideal S2048x128 .f32) (d : ℕ) (s : EReal) (e : Fin 2) (r : Fin 2048)
    (f : Fin 64) : EReal :=
  (x (ix3 0 (token d r) (lane e f)) * u (ix2 (token d r) (lane e f))
    + x (ix3 0 (token d r) (lane e (other f))) * v (ix2 (token d r) (lane e f))) * s

/-- One entry of a head that is not rotated. -/
def plain (x : Vec Ideal S1x2048x128 .f32) (d : ℕ) (s : EReal) (e : Fin 2) (r : Fin 2048) (f : Fin 64) : EReal :=
  x (ix3 0 (token d r) (lane e f)) * s

theorem choose {α : Type} {w : BitVec 1} (b : Bool) {x y : α} (h : w = BitVec.ofBool b) :
    Scalar.select w x y = if b then x else y := by
  subst h; cases b <;> rfl

theorem low0 (f : Fin 64) : lane 0 f = ⟨f.val, by omega⟩ := Fin.ext (by simp [lane])
theorem low1 (f : Fin 64) : lane 1 f = ⟨64 + f.val, by omega⟩ := Fin.ext (by simp [lane])

theorem swap0 {α : Type} (g : Fin 128 → α) (f : Fin 64) (ha hb) :
    (if decide (f.val < 32) = true then g ⟨(f.val + 128 - 96) % 128, ha⟩ else g ⟨(f.val + 128 - 32) % 128, hb⟩) = g (lane 0 (other f)) := by
  by_cases h : f.val < 32
  · rw [if_pos (decide_eq_true h)]
    exact congrArg g (Fin.ext (by simp only [lane, other]; omega))
  · rw [if_neg (by simpa using h)]
    exact congrArg g (Fin.ext (by simp only [lane, other]; omega))

theorem swap1 {α : Type} (g : Fin 128 → α) (f : Fin 64) (ha hb) :
    (if decide (f.val < 32) = true then g ⟨(64 + f.val + 128 - 96) % 128, ha⟩ else g ⟨(64 + f.val + 128 - 32) % 128, hb⟩) = g (lane 1 (other f)) := by
  by_cases h : f.val < 32
  · rw [if_pos (decide_eq_true h)]
    exact congrArg g (Fin.ext (by simp only [lane, other]; omega))
  · rw [if_neg (by simpa using h)]
    exact congrArg g (Fin.ext (by simp only [lane, other]; omega))

theorem caseA (t : Fin cfg0.N) {x : Vec Ideal S1x2048x128 .f32} {u v : Vec Ideal S2048x128 .f32}
    (hx : Gen.iblk m c 0 t = x) (hu : Gen.iblk m c 1 t = u) (hv : Gen.iblk m c 2 t = v) (e : Fin 2) (r : Fin 2048) (f : Fin 64)
    (ht : t.val % 30 = 0 ∨ t.val % 30 = 1 ∨ t.val % 30 = 6 ∨ t.val % 30 = 7) :
    Gen.outsAt0 m c t.val t.isLt (ix4 0 e r f) = turned x u v 1 (Gen.k0_pay77 (F := Ideal) (grid0.coords t)) e r f := by
  rw [Gen.outsAt0_A m c t ht (by omega) (by omega) (by omega) (by omega) (by omega), hx, hu, hv]
  frame_out
  generalize Gen.k0_pay77 (F := Ideal) (grid0.coords t) = s
  unfold_payloads
  dsimp -failIfUnchanged only
  refine stored _ _ e r f _ (fun he => ?_) (fun he => ?_)
  · subst he
    pointwise
    rw [choose (decide (f.val < 32)) (by revert f; decide +kernel), swap0 (fun l => x (ix3 0 _ l)) f]
    simp only [turned, token_one, low0 f]
  · subst he
    pointwise
    rw [choose (decide (f.val < 32)) (by revert f; decide +kernel), swap1 (fun l => x (ix3 0 _ l)) f]
    simp only [turned, token_one, low1 f]

theorem caseB (t : Fin cfg0.N) {x : Vec Ideal S1x2048x128 .f32} {u v : Vec Ideal S2048x128 .f32}
    (hx : Gen.iblk m c 0 t = x) (hu : Gen.iblk m c 1 t = u) (hv : Gen.iblk m c 2 t = v) (e : Fin 2) (r : Fin 2048) (f : Fin 64)
    (ht : t.val % 30 = 2 ∨ t.val % 30 = 3 ∨ t.val % 30 = 8 ∨ t.val % 30 = 9) :
    Gen.outsAt0 m c t.val t.isLt (ix4 0 e r f) = turned x u v 4 (Gen.k0_pay77 (F := Ideal) (grid0.coords t)) e r f := by
  rw [Gen.outsAt0_B m c t (by omega) (by omega) ht (by omega) (by omega) (by omega), hx, hu, hv]
  frame_out
  generalize Gen.k0_pay77 (F := Ideal) (grid0.coords t) = s
  unfold_payloads
  dsimp -failIfUnchanged only
  rw [joined (n := 512) (d := 4) (fun r l => x (ix3 0 r l)) ?rowsX,
    joined (n := 512) (d := 4) (fun r l => u (ix2 r l)) ?rowsU,
    joined (n := 512) (d := 4) (fun r l => v (ix2 r l)) ?rowsV]
  case rowsX | rowsU | rowsV =>
    repeat' first | exact trivial | refine lays_cons (fun i l h => ?_) ?_
    all_goals
      beta_reduce
      pointwise
      simp only [Memref.IsWhole.readAt_unread]
      pointwise
      first
        | refine congrArg (fun a => x (ix3 0 a l)) ?_
        | refine congrArg (fun a => u (ix2 a l)) ?_
        | refine congrArg (fun a => v (ix2 a l)) ?_
      exact token_eq (n := 512) (by decide) (by dsimp only; omega)
  refine stored _ _ e r f _ (fun he => ?_) (fun he => ?_)
  · subst he
    pointwise
    rw [choose (decide (f.val < 32)) (by revert f; decide +kernel), swap0 (fun l => x (ix3 0 _ l)) f]
    simp only [turned, low0 f]
  · subst he
    pointwise
    rw [choose (decide (f.val < 32)) (by revert f; decide +kernel), swap1 (fun l => x (ix3 0 _ l)) f]
    simp only [turned, low1 f]

theorem caseC (t : Fin cfg0.N) {x : Vec Ideal S1x2048x128 .f32} {u v : Vec Ideal S2048x128 .f32}
    (hx : Gen.iblk m c 0 t = x) (hu : Gen.iblk m c 1 t = u) (hv : Gen.iblk m c 2 t = v) (e : Fin 2) (r : Fin 2048) (f : Fin 64)
    (ht : t.val % 30 = 4 ∨ t.val % 30 = 5 ∨ t.val % 30 = 10 ∨ t.val % 30 = 11) :
    Gen.outsAt0 m c t.val t.isLt (ix4 0 e r f) = turned x u v 16 (Gen.k0_pay77 (F := Ideal) (grid0.coords t)) e r f := by
  rw [Gen.outsAt0_C m c t (by omega) (by omega) (by omega) (by omega) ht (by omega), hx, hu, hv]
  frame_out
  generalize Gen.k0_pay77 (F := Ideal) (grid0.coords t) = s
  unfold_payloads
  dsimp -failIfUnchanged only
  rw [joined (n := 128) (d := 16) (fun r l => x (ix3 0 r l)) ?rowsX,
    joined (n := 128) (d := 16) (fun r l => u (ix2 r l)) ?rowsU,
    joined (n := 128) (d := 16) (fun r l => v (ix2 r l)) ?rowsV]
  case rowsX | rowsU | rowsV =>
    repeat' first | exact trivial | refine lays_cons (fun i l h => ?_) ?_
    all_goals
      beta_reduce
      pointwise
      simp only [Memref.IsWhole.readAt_unread]
      pointwise
      first
        | refine congrArg (fun a => x (ix3 0 a l)) ?_
        | refine congrArg (fun a => u (ix2 a l)) ?_
        | refine congrArg (fun a => v (ix2 a l)) ?_
      exact token_eq (n := 128) (by decide) (by dsimp only; omega)
  refine stored _ _ e r f _ (fun he => ?_) (fun he => ?_)
  · subst he
    pointwise
    rw [choose (decide (f.val < 32)) (by revert f; decide +kernel), swap0 (fun l => x (ix3 0 _ l)) f]
    simp only [turned, low0 f]
  · subst he
    pointwise
    rw [choose (decide (f.val < 32)) (by revert f; decide +kernel), swap1 (fun l => x (ix3 0 _ l)) f]
    simp only [turned, low1 f]

theorem caseD (t : Fin cfg0.N) {x : Vec Ideal S1x2048x128 .f32} {u v : Vec Ideal S2048x128 .f32}
    (hx : Gen.iblk m c 0 t = x) (hu : Gen.iblk m c 1 t = u) (hv : Gen.iblk m c 2 t = v) (e : Fin 2) (r : Fin 2048) (f : Fin 64)
    (ht : t.val % 30 = 12 ∨ t.val % 30 = 13 ∨ t.val % 30 = 18 ∨ t.val % 30 = 19 ∨ t.val % 30 = 20 ∨ t.val % 30 = 21 ∨
      t.val % 30 = 22 ∨ t.val % 30 = 23 ∨ t.val % 30 = 24 ∨ t.val % 30 = 25 ∨ t.val % 30 = 26 ∨ t.val % 30 = 27 ∨
      t.val % 30 = 28 ∨ t.val % 30 = 29) :
    Gen.outsAt0 m c t.val t.isLt (ix4 0 e r f) = plain x 1 (Gen.k0_pay77 (F := Ideal) (grid0.coords t)) e r f := by
  rw [Gen.outsAt0_D m c t (by omega) ht (by omega) (by omega) (by omega) (by omega), hx, hu, hv]
  frame_out
  generalize Gen.k0_pay77 (F := Ideal) (grid0.coords t) = s
  unfold_payloads
  dsimp -failIfUnchanged only
  refine stored _ _ e r f _ (fun he => ?_) (fun he => ?_)
  · subst he
    pointwise
    simp only [plain, token_one, low0 f]
  · subst he
    pointwise
    simp only [plain, token_one, low1 f]

theorem caseE (t : Fin cfg0.N) {x : Vec Ideal S1x2048x128 .f32} {u v : Vec Ideal S2048x128 .f32}
    (hx : Gen.iblk m c 0 t = x) (hu : Gen.iblk m c 1 t = u) (hv : Gen.iblk m c 2 t = v) (e : Fin 2) (r : Fin 2048) (f : Fin 64)
    (ht : 14 ≤ t.val % 30 ∧ t.val % 30 ≤ 15) :
    Gen.outsAt0 m c t.val t.isLt (ix4 0 e r f) = plain x 4 (Gen.k0_pay77 (F := Ideal) (grid0.coords t)) e r f := by
  rw [Gen.outsAt0_E m c t (by omega) (by omega) (by omega) ht (by omega) (by omega), hx, hu, hv]
  frame_out
  generalize Gen.k0_pay77 (F := Ideal) (grid0.coords t) = s
  unfold_payloads
  dsimp -failIfUnchanged only
  rw [joined (n := 512) (d := 4) (fun r l => x (ix3 0 r l)) ?rowsX]
  case rowsX =>
    repeat' first | exact trivial | refine lays_cons (fun i l h => ?_) ?_
    all_goals
      beta_reduce
      pointwise
      simp only [Memref.IsWhole.readAt_unread]
      pointwise
      exact congrArg (fun a => x (ix3 0 a l)) (token_eq (n := 512) (by decide) (by dsimp only; omega))
  refine stored _ _ e r f _ (fun he => ?_) (fun he => ?_)
  · subst he
    pointwise
    simp only [plain, low0 f]
  · subst he
    pointwise
    simp only [plain, low1 f]

theorem caseF (t : Fin cfg0.N) {x : Vec Ideal S1x2048x128 .f32} {u v : Vec Ideal S2048x128 .f32}
    (hx : Gen.iblk m c 0 t = x) (hu : Gen.iblk m c 1 t = u) (hv : Gen.iblk m c 2 t = v) (e : Fin 2) (r : Fin 2048) (f : Fin 64)
    (ht : 16 ≤ t.val % 30 ∧ t.val % 30 ≤ 17) :
    Gen.outsAt0 m c t.val t.isLt (ix4 0 e r f) = plain x 16 (Gen.k0_pay77 (F := Ideal) (grid0.coords t)) e r f := by
  rw [Gen.outsAt0_F m c t (by omega) (by omega) (by omega) (by omega) (by omega) ht, hx, hu, hv]
  frame_out
  generalize Gen.k0_pay77 (F := Ideal) (grid0.coords t) = s
  unfold_payloads
  dsimp -failIfUnchanged only
  rw [joined (n := 128) (d := 16) (fun r l => x (ix3 0 r l)) ?rowsX]
  case rowsX =>
    repeat' first | exact trivial | refine lays_cons (fun i l h => ?_) ?_
    all_goals
      beta_reduce
      pointwise
      simp only [Memref.IsWhole.readAt_unread]
      pointwise
      exact congrArg (fun a => x (ix3 0 a l)) (token_eq (n := 128) (by decide) (by dsimp only; omega))
  refine stored _ _ e r f _ (fun he => ?_) (fun he => ?_)
  · subst he
    pointwise
    simp only [plain, low0 f]
  · subst he
    pointwise
    simp only [plain, low1 f]

end Cert.Kernel17Ideal.Call

end
-- ==== Proof.Heads.Call.lean ====
module
public import proofs.«01_k».proof.Proof.Gen.Kernel17Ideal.Value
public import proofs.«01_k».proof.Proof.Heads.Block

/-! The call of the head layout: one block for each sequence and pair of heads. -/

@[expose] public section

noncomputable section

namespace Cert.Kernel17Ideal.Call

open Idealize.ShloMosaic Idealize.ShloMosaic.TcCoe Idealize.ShloMosaic.Tactic
open Idealize.SL.Sem
open Idealize.ShloMosaic.Pipeline (Dat Cfg Window)
open Cert.Heads Cert.Merge
open Cert.Half (at_pair)

variable {m : (ℓ : Loc nD τ sig) → Buf (Elt Ideal) ℓ} {c : Dev nD}

/-! ## The arrays the call reads -/

theorem cos_table (r : Fin 2048) (l : Fin 128) : Gen.V m c main_v18 (ix2 r l) = cosAt r l.val := by
  unfold_abbrev_sides
  after_results
  pointwise
  rfl

theorem sin_table (r : Fin 2048) (l : Fin 32) : Gen.V m c main_v15 (ix2 r l) = Ideal.sin (angle r l.val) := by
  unfold_abbrev_sides
  after_results
  pointwise
  rfl

theorem neg_table (r : Fin 2048) (l : Fin 32) : Gen.V m c main_v19 (ix2 r l) = -Ideal.sin (angle r l.val) := by
  unfold_abbrev_sides
  after_results
  pointwise
  rfl

theorem neg_table' (r : Fin 2048) (l : Fin 32) : Gen.V m c main_v20 (ix2 r l) = -Ideal.sin (angle r l.val) := by
  unfold_abbrev_sides
  after_results
  pointwise
  rfl

theorem signed : (Gen.V m c main_v21 : S2048x128.Idx → EReal) = concatenate S2048x128 1
    [⟨S2048x32, Gen.V m c main_v19⟩, ⟨S2048x32, Gen.V m c main_v15⟩, ⟨S2048x32, Gen.V m c main_v20⟩,
      ⟨S2048x32, Gen.V m c main_v15⟩] Gen.concatenates_S2048x32_S2048x32_S2048x32_S2048x32_S2048x128_d1 := by
  unfold_abbrev_sides
  after_results
  rfl

theorem signed_table (r : Fin 2048) (l : Fin 128) : Gen.V m c main_v21 (ix2 r l) = sinAt r l.val := by
  refine (congrFun signed _).trans ?_
  pointwise
  refine ValueKit.dite_eq_of (fun _ => (neg_table _ _).trans (sinAt_low ?_ ?_)) (fun _ => ?_)
  rotate_left 2
  · refine ValueKit.dite_eq_of (fun _ => (sin_table _ _).trans (sinAt_high ?_ ?_)) (fun _ => ?_)
    rotate_left 2
    · refine ValueKit.dite_eq_of (fun _ => (neg_table' _ _).trans (sinAt_low ?_ ?_))
        (fun _ => (sin_table _ _).trans (sinAt_high ?_ ?_))
      all_goals dsimp -failIfUnchanged only; omega
    all_goals dsimp -failIfUnchanged only; omega
  all_goals dsimp -failIfUnchanged only; omega

theorem idx : ∀ t : Fin grid0.N, (win0_0.index t 0 = t.val / 30 ∧ win0_0.index t 1 = 0 ∧ win0_0.index t 2 = t.val % 30) ∧
    (win0_1.index t 0 = 0 ∧ win0_1.index t 1 = 0) ∧ (win0_2.index t 0 = 0 ∧ win0_2.index t 1 = 0) ∧
    (win0_3.index t 0 = t.val / 30 ∧ win0_3.index t 1 = t.val % 30 ∧ win0_3.index t 2 = 0 ∧ win0_3.index t 3 = 0) := by
  decide +kernel

theorem lt60 (t : Fin cfg0.N) : t.val < 60 := t.isLt.trans_eq (by decide +kernel)

/-- The sequence of block `t`. -/
def seq (t : Fin cfg0.N) : Fin 2 := ⟨t.val / 30, by have := lt60 t; omega⟩

/-- Head `e` of block `t`'s pair. -/
def hd (t : Fin cfg0.N) (e : Fin 2) : Fin 60 := ⟨2 * (t.val % 30) + e.val, by omega⟩

/-- Core `c`'s argument holds the projection. -/
abbrev Starts (m : (ℓ : Loc nD τ sig) → Buf (Elt Ideal) ℓ) (c : Dev nD) (P : EMat 4096 5888) : Prop :=
  Holds (m ((c : Thread nD τ).loc main_arg0)) P

theorem blk1 (t : Fin cfg0.N) (r : Fin 2048) (l : Fin 128) : Gen.iblk m c 1 t (ix2 r l) = cosAt r l.val := by
  have hi := (idx t).2.1
  blk_simp [Gen.iblk]
  refine (congrArg (Gen.V m c main_v18) (at_pair (i := r) (j := l) ?_ ?_)).trans (cos_table r l) <;> blk_simp <;>
    simp only [hi.1, hi.2] <;> omega

theorem blk2 (t : Fin cfg0.N) (r : Fin 2048) (l : Fin 128) : Gen.iblk m c 2 t (ix2 r l) = sinAt r l.val := by
  have hi := (idx t).2.2.1
  blk_simp [Gen.iblk]
  refine (congrArg (Gen.V m c main_v21) (at_pair (i := r) (j := l) ?_ ?_)).trans (signed_table r l) <;> blk_simp <;>
    simp only [hi.1, hi.2] <;> omega

/-- The queries' factor, chosen by the pair of heads. -/
theorem factor (t : Fin cfg0.N) (e : Fin 2) : Gen.k0_pay77 (F := Ideal) (grid0.coords t) = scale (hd t e).val := by
  unfold_payloads
  pointwise
  rw [choose (decide (t.val % 30 < 6 ∨ (18 ≤ t.val % 30 ∧ t.val % 30 < 22))) (by revert t; decide +kernel)]
  simp only [scale, hd, decide_eq_true_eq]
  refine if_congr ?_ rfl rfl
  omega

theorem cos_lane (p : Fin 2048) (e : Fin 2) (f : Fin 64) : cosAt p (lane e f).val = cosAt p f.val := by
  simp only [cosAt, lane]
  exact congrArg (fun k => Ideal.cos (angle p k)) (by omega)

theorem sin_lane (p : Fin 2048) (e : Fin 2) (f : Fin 64) : sinAt p (lane e f).val = sinAt p f.val := by
  have h₁ : (64 * e.val + f.val) % 64 = f.val % 64 := by omega
  have h₂ : (64 * e.val + f.val) % 32 = f.val % 32 := by omega
  simp only [sinAt, lane, h₁, h₂]

variable {P : EMat 4096 5888} (h : Starts m c P)

include h

theorem rows (b : Fin 2) (r : Fin 2048) (l : Fin 5888) :
    Gen.V m c main_v0 (ix3 b r l) = P ⟨b.val * 2048 + r.val, by omega⟩ l := by
  unfold_abbrev_sides
  after_results
  pointwise
  exact h _ _

theorem blk0 (t : Fin cfg0.N) (e : Fin 2) (r : Fin 2048) (f : Fin 64) :
    Gen.iblk m c 0 t (ix3 0 r (lane e f)) = head P (seq t) (hd t e) r f := by
  have hi := (idx t).1
  blk_simp [Gen.iblk]
  refine (congrArg (Gen.V m c main_v0)
    (a₂ := ix3 (seq t) r ⟨64 * (hd t e).val + f.val, by have := (hd t e).isLt; omega⟩) ?_).trans (rows h _ _ _)
  funext a
  match a with
  | ⟨0, _⟩ => refine Fin.ext ?_; blk_simp; simp only [hi.1, seq]; omega
  | ⟨1, _⟩ => refine Fin.ext ?_; blk_simp; simp only [hi.2.1]; omega
  | ⟨2, _⟩ => refine Fin.ext ?_; blk_simp; simp only [hi.2.2, hd, lane]; omega

/-- A rotated head's entry. -/
theorem of_turned (t : Fin cfg0.N) (e : Fin 2) (r : Fin 2048) (f : Fin 64) {d : ℕ} (hd24 : (hd t e).val < 24)
    (hdil : dil (hd t e).val = d) :
    turned (Gen.iblk m c 0 t) (Gen.iblk m c 1 t) (Gen.iblk m c 2 t) d (Gen.k0_pay77 (F := Ideal) (grid0.coords t)) e r f
      = entry P (seq t) (hd t e) r f := by
  simp only [turned, entry, base, if_pos hd24, hdil, turn, factor t e, blk0 h, blk1, blk2, cos_lane, sin_lane]

/-- An entry of a head that is not rotated. -/
theorem of_plain (t : Fin cfg0.N) (e : Fin 2) (r : Fin 2048) (f : Fin 64) {d : ℕ} (hd24 : ¬ (hd t e).val < 24)
    (hdil : dil (hd t e).val = d) :
    plain (Gen.iblk m c 0 t) d (Gen.k0_pay77 (F := Ideal) (grid0.coords t)) e r f = entry P (seq t) (hd t e) r f := by
  simp only [plain, entry, base, if_neg hd24, hdil, factor t e, blk0 h]

/-- What block `t` stores. -/
theorem block (t : Fin cfg0.N) (e : Fin 2) (r : Fin 2048) (f : Fin 64) :
    Gen.outsAt0 m c t.val t.isLt (ix4 0 e r f) = entry P (seq t) (hd t e) r f := by
  by_cases hA : t.val % 30 = 0 ∨ t.val % 30 = 1 ∨ t.val % 30 = 6 ∨ t.val % 30 = 7
  · refine (caseA t rfl rfl rfl e r f hA).trans (of_turned h t e r f ?_ ?_)
    · simp only [hd]; omega
    · refine dil_one fun h36 => ?_
      simp only [hd] at h36 ⊢; omega
  by_cases hB : t.val % 30 = 2 ∨ t.val % 30 = 3 ∨ t.val % 30 = 8 ∨ t.val % 30 = 9
  · refine (caseB t rfl rfl rfl e r f hB).trans (of_turned h t e r f ?_ ?_)
    · simp only [hd]; omega
    · refine dil_four ?_ ?_ <;> simp only [hd] <;> omega
  by_cases hC : t.val % 30 = 4 ∨ t.val % 30 = 5 ∨ t.val % 30 = 10 ∨ t.val % 30 = 11
  · refine (caseC t rfl rfl rfl e r f hC).trans (of_turned h t e r f ?_ ?_)
    · simp only [hd]; omega
    · refine dil_sixteen ?_ ?_ <;> simp only [hd] <;> omega
  by_cases hE : 14 ≤ t.val % 30 ∧ t.val % 30 ≤ 15
  · refine (caseE t rfl rfl rfl e r f hE).trans (of_plain h t e r f ?_ ?_)
    · simp only [hd]; omega
    · refine dil_four ?_ ?_ <;> simp only [hd] <;> omega
  by_cases hF : 16 ≤ t.val % 30 ∧ t.val % 30 ≤ 17
  · refine (caseF t rfl rfl rfl e r f hF).trans (of_plain h t e r f ?_ ?_)
    · simp only [hd]; omega
    · refine dil_sixteen ?_ ?_ <;> simp only [hd] <;> omega
  · refine (caseD t rfl rfl rfl e r f (by omega)).trans (of_plain h t e r f ?_ ?_)
    · simp only [hd]; omega
    · refine dil_one fun h36 => ?_
      simp only [hd] at h36 ⊢; omega

/-- The heads after the call. -/
theorem arrHeads (b : Fin 2) (i : Fin 60) (r : Fin 2048) (f : Fin 64) :
    (Gen.dats m 0 c).arrAt 3 cfg0.N (ix4 b i r f) = entry P b i r f := by
  refine (Gen.dats m 0 c).arrAt_forall_of_covers 3 (fun i v => v = entry P (i 0) (i 1) (i 2) (i 3))
    (by decide +kernel) (fun t hf y => ?_) (ix4 b i r f)
  blk_simp
  rw [Gen.after0_3]
  obtain ⟨z, e, p, q, rfl⟩ : ∃ (z : Fin 1) (e : Fin 2) (p : Fin 2048) (q : Fin 64), y = ix4 z e p q :=
    ⟨y 0, y 1, y 2, y 3, eq_ix4 y⟩
  obtain rfl : z = 0 := Subsingleton.elim _ _
  have hy : ((View.whole main_v22).slice (win0_3.rect t)).emb (ix4 0 e p q) = ix4 (seq t) (hd t e) p q := by
    have hi := (idx t).2.2.2
    funext a
    match a with
    | ⟨0, _⟩ => refine Fin.ext ?_; blk_simp; simp only [hi.1, seq]; omega
    | ⟨1, _⟩ => refine Fin.ext ?_; blk_simp; simp only [hi.2.1, hd]; omega
    | ⟨2, _⟩ => refine Fin.ext ?_; blk_simp; simp only [hi.2.2.1]; omega
    | ⟨3, _⟩ => refine Fin.ext ?_; blk_simp; simp only [hi.2.2.2]; omega
  rw [hy]
  exact block h t e p q

end Cert.Kernel17Ideal.Call

end
-- ==== Proof.Heads.Reference.lean ====
module
public import proofs.«01_k».proof.Proof.Gen.Reference17Ideal.Read
public import proofs.«01_k».proof.Proof.Heads.Spec
public import Idealize.ShloMosaic.Lib.Pipeline.ValueKit

/-! The reference of the head layout over the extended reals: each of its arrays holds what the specification names. -/

@[expose] public section

noncomputable section

namespace Cert.Reference17Ideal.Real

open Idealize.ShloMosaic Idealize.ShloMosaic.Tactic Cert.Merge Cert.Heads Cert.Reference17Ideal.Read Cert.Reference17Ideal.Gen

/-! ## Joining heads -/

/-- The pieces, from head `o` on, are the heads of `Y` at one sequence, row and feature. -/
def Stacks (b : Fin 2) (r : Fin 2048) (f : Fin 64) (Y : Fin 60 → EReal) : List ((s : Shape) × (s.Idx → EReal)) → ℕ → Prop
  | [], _ => True
  | p :: L, o => ∃ (n : ℕ) (x : (⟨4, ![2, n, 2048, 64]⟩ : Shape).Idx → EReal), p = ⟨⟨4, ![2, n, 2048, 64]⟩, x⟩ ∧
      (∀ (i : Fin n) (h : o + i.val < 60), x (ix4 b i r f) = Y ⟨o + i.val, h⟩) ∧ Stacks b r f Y L (o + n)

variable {b : Fin 2} {r : Fin 2048} {f : Fin 64}

theorem stacks_cons {n o : ℕ} {Y : Fin 60 → EReal} {L : List ((s : Shape) × (s.Idx → EReal))}
    {x : (⟨4, ![2, n, 2048, 64]⟩ : Shape).Idx → EReal}
    (hx : ∀ (i : Fin n) (h : o + i.val < 60), x (ix4 b i r f) = Y ⟨o + i.val, h⟩) (hL : Stacks b r f Y L (o + n)) :
    Stacks b r f Y (⟨⟨4, ![2, n, 2048, 64]⟩, x⟩ :: L) o := ⟨n, x, rfl, hx, hL⟩

theorem stacks_at {Y : Fin 60 → EReal} (k : Fin 60) :
    ∀ (L : List ((s : Shape) × (s.Idx → EReal))) (o c : ℕ) (hs) (hc), o + c = k.val → Stacks b r f Y L o →
      concatenateAt S2x60x2048x64 1 (ix4 b k r f) L hs c hc = Y k
  | [], _, _, _, hc, _, _ => absurd hc (Nat.not_lt_zero _)
  | [p], o, c, hs, hc, ho, h => by
    obtain ⟨n, x, rfl, hx, -⟩ := h
    have hcn : c < n := by simpa [axisSizes] using hc
    rw [concatenateAt_singleton]
    refine (congrArg x (a₂ := ix4 b ⟨c, hcn⟩ r f) ?_).trans ((hx ⟨c, hcn⟩ (by show o + c < 60; omega)).trans ?_)
    · funext a
      match a with
      | ⟨0, _⟩ => exact Fin.ext rfl
      | ⟨1, _⟩ => exact Fin.ext rfl
      | ⟨2, _⟩ => exact Fin.ext rfl
      | ⟨3, _⟩ => exact Fin.ext rfl
    · exact congrArg Y (Fin.ext ho)
  | p :: q :: L, o, c, hs, hc, ho, h => by
    obtain ⟨n, x, rfl, hx, h⟩ := h
    rw [concatenateAt_cons]
    refine ValueKit.dite_eq_of (fun hcn => ?_) (fun hcn => ?_)
    · refine (congrArg x (a₂ := ix4 b ⟨c, hcn⟩ r f) ?_).trans ((hx ⟨c, hcn⟩ (by show o + c < 60; omega)).trans ?_)
      · funext a
        match a with
        | ⟨0, _⟩ => exact Fin.ext rfl
        | ⟨1, _⟩ => exact Fin.ext rfl
        | ⟨2, _⟩ => exact Fin.ext rfl
        | ⟨3, _⟩ => exact Fin.ext rfl
      · exact congrArg Y (Fin.ext ho)
    · refine stacks_at k (q :: L) (o + n) _ _ _ ?_ h
      have : n ≤ c := Nat.le_of_not_lt hcn
      show o + n + (c - n) = k.val
      omega

/-! ## The rotation -/

/-- The rotation of twelve heads. -/
def rot (z : FVec Ideal S2x12x2048x64 .f32) : FVec Ideal S2x12x2048x64 .f32 :=
  let low := extractStridedSlice S2x12x2048x32 ![0, 0, 0, 0] z slices_S2x12x2048x64_S2x12x2048x32_0_0_0_0
  let high := extractStridedSlice S2x12x2048x32 ![0, 0, 0, 32] z slices_S2x12x2048x64_S2x12x2048x32_0_0_0_32
  concatenate S2x12x2048x64 3
    [⟨S2x12x2048x32, subf (F := Ideal) (mulf low (val_main_v30 (F := Ideal))) (mulf high (val_main_v33 (F := Ideal)))⟩,
      ⟨S2x12x2048x32, addf (F := Ideal) (mulf high (val_main_v37 (F := Ideal))) (mulf low (val_main_v40 (F := Ideal)))⟩]
    concatenates_S2x12x2048x32_S2x12x2048x32_S2x12x2048x64_d3

theorem queries (x0 : FVec Ideal S4096x5888 .f32) : val_main_v43 (F := Ideal) x0 = rot (val_main_v4 (F := Ideal) x0) := rfl

theorem keys (x0 : FVec Ideal S4096x5888 .f32) : val_main_v76 (F := Ideal) x0 = rot (val_main_v5 (F := Ideal) x0) := rfl

theorem angle_at (g : Fin 32) : val_main_v24 (F := Ideal) (ix2 r g) = angle r g.val := by
  unfold val_main_v24 val_main_v23 val_main_v22 val_main_v21 val_main_v20 val_main_v19 val_main_v18 val_main_v17
    val_main_v16 val_main_v15 val_main_v14 val_main_v13 val_main_v0
  pointwise
  rfl

theorem cos_at (j : Fin 12) (g : Fin 32) : val_main_v30 (F := Ideal) (ix4 b j r g) = Ideal.cos (angle r g.val) := by
  unfold val_main_v30 val_main_v29 val_main_v25
  pointwise
  exact congrArg Ideal.cos (angle_at g)

theorem sin_at (j : Fin 12) (g : Fin 32) : val_main_v33 (F := Ideal) (ix4 b j r g) = Ideal.sin (angle r g.val) := by
  unfold val_main_v33 val_main_v32 val_main_v26
  pointwise
  exact congrArg Ideal.sin (angle_at g)

theorem rot_at (z : FVec Ideal S2x12x2048x64 .f32) (j : Fin 12) :
    rot z (ix4 b j r f) = turn r (fun f => z (ix4 b j r f)) f := by
  unfold rot
  pointwise
  have h37 : val_main_v37 (F := Ideal) = val_main_v30 (F := Ideal) := rfl
  have h40 : val_main_v40 (F := Ideal) = val_main_v33 (F := Ideal) := rfl
  refine ValueKit.dite_eq_of (fun hf => ?_) (fun hf => ?_)
  · refine (congrArg₂ (· - ·) (congrArg₂ (· * ·) rfl (cos_at _ _)) (congrArg₂ (· * ·)
      (congrArg (fun a => z (ix4 b j r a)) (Fin.ext ?_)) (sin_at _ _))).trans (turn_low (p := r) (X := fun f => z (ix4 b j r f)) hf).symm
    simp only [other]
    have : f.val < 32 := hf
    omega
  · have hf : ¬ f.val < 32 := hf
    refine (congrArg₂ (· + ·) (congrArg₂ (· * ·) (congrArg (fun a => z (ix4 b j r a)) (Fin.ext ?_))
      ((congrFun h37 _).trans (cos_at _ _))) (congrArg₂ (· * ·) (congrArg (fun a => z (ix4 b j r a)) (Fin.ext ?_))
      ((congrFun h40 _).trans (sin_at _ _)))).trans (turn_high (p := r) (X := fun f => z (ix4 b j r f)) hf).symm
    · dsimp only; omega
    · simp only [other]; omega

/-! ## The interleaved order -/

/-- Four heads left in their order. -/
def fold1 (z : FVec Ideal S2x12x2048x64 .f32) : FVec Ideal S2x4x2048x64 .f32 :=
  shapeCast _ (transpose S2x4x1x2048x64 [0, 1, 3, 2, 4] (shapeCast _
    (extractStridedSlice S2x4x2048x64 ![0, 0, 0, 0] z slices_S2x12x2048x64_S2x4x2048x64_0_0_0_0)
    shapeCasts_S2x4x2048x64_S2x4x2048x1x64) transposes_S2x4x2048x1x64_S2x4x1x2048x64_0_1_3_2_4)
    shapeCasts_S2x4x1x2048x64_S2x4x2048x64

/-- The next four, as four sequences. -/
def fold4 (z : FVec Ideal S2x12x2048x64 .f32) : FVec Ideal S2x4x2048x64 .f32 :=
  shapeCast _ (transpose S2x4x4x512x64 [0, 1, 3, 2, 4] (shapeCast _
    (extractStridedSlice S2x4x2048x64 ![0, 4, 0, 0] z slices_S2x12x2048x64_S2x4x2048x64_0_4_0_0)
    shapeCasts_S2x4x2048x64_S2x4x512x4x64) transposes_S2x4x512x4x64_S2x4x4x512x64_0_1_3_2_4)
    shapeCasts_S2x4x4x512x64_S2x4x2048x64

/-- The last four, as sixteen sequences. -/
def fold16 (z : FVec Ideal S2x12x2048x64 .f32) : FVec Ideal S2x4x2048x64 .f32 :=
  shapeCast _ (transpose S2x4x16x128x64 [0, 1, 3, 2, 4] (shapeCast _
    (extractStridedSlice S2x4x2048x64 ![0, 8, 0, 0] z slices_S2x12x2048x64_S2x4x2048x64_0_8_0_0)
    shapeCasts_S2x4x2048x64_S2x4x128x16x64) transposes_S2x4x128x16x64_S2x4x16x128x64_0_1_3_2_4)
    shapeCasts_S2x4x16x128x64_S2x4x2048x64

theorem fold1_at (z : FVec Ideal S2x12x2048x64 .f32) (i : Fin 4) :
    fold1 z (ix4 b i r f) = z (ix4 b ⟨i.val, by omega⟩ (token 1 r) f) := by
  unfold fold1
  pointwise
  exact congrArg (fun a => z (ix4 b ⟨i.val, by omega⟩ a f)) (token_one r).symm

theorem fold4_at (z : FVec Ideal S2x12x2048x64 .f32) (i : Fin 4) :
    fold4 z (ix4 b i r f) = z (ix4 b ⟨4 + i.val, by omega⟩ (token 4 r) f) := by
  unfold fold4
  pointwise
  exact congrArg (fun a => z (ix4 b ⟨4 + i.val, by omega⟩ a f)) (token_eq (n := 512) (by decide) rfl)

theorem fold16_at (z : FVec Ideal S2x12x2048x64 .f32) (i : Fin 4) :
    fold16 z (ix4 b i r f) = z (ix4 b ⟨8 + i.val, by omega⟩ (token 16 r) f) := by
  unfold fold16
  pointwise
  exact congrArg (fun a => z (ix4 b ⟨8 + i.val, by omega⟩ a f)) (token_eq (n := 128) (by decide) rfl)

/-! What a folded group holds, when the twelve heads are heads `12 s` to `12 s + 11`. -/

section
variable {P : EMat 4096 5888} {z : FVec Ideal S2x12x2048x64 .f32} {s : ℕ}
  (hz : ∀ {b : Fin 2} {r : Fin 2048} {f : Fin 64} (j : Fin 12) {k : Fin 60}, k.val = 12 * s + j.val →
    z (ix4 b j r f) = base P b k r f)
  (hs : s < 3) (i : Fin 4) {k : Fin 60}
include hz hs

theorem fold1_entry (hk : k.val = 12 * s + i.val) : fold1 z (ix4 b i r f) = entry P b k r f := by
  rw [fold1_at, hz _ hk, entry, dil_one (by omega)]

theorem fold4_entry (hk : k.val = 12 * s + (4 + i.val)) : fold4 z (ix4 b i r f) = entry P b k r f := by
  rw [fold4_at, hz _ hk, entry, dil_four (by omega) (by omega)]

theorem fold16_entry (hk : k.val = 12 * s + (8 + i.val)) : fold16 z (ix4 b i r f) = entry P b k r f := by
  rw [fold16_at, hz _ hk, entry, dil_sixteen (by omega) (by omega)]

end

/-- The heads joined. -/
theorem stack_at {x0 : FVec Ideal S4096x5888 .f32} {Y : Fin 60 → EReal} (k : Fin 60)
    (hq : Stacks b r f Y [⟨S2x4x2048x64, fold1 (val_main_v45 (F := Ideal) x0)⟩, ⟨S2x4x2048x64, fold4 (val_main_v45 (F := Ideal) x0)⟩,
      ⟨S2x4x2048x64, fold16 (val_main_v45 (F := Ideal) x0)⟩, ⟨S2x4x2048x64, fold1 (val_main_v76 (F := Ideal) x0)⟩,
      ⟨S2x4x2048x64, fold4 (val_main_v76 (F := Ideal) x0)⟩, ⟨S2x4x2048x64, fold16 (val_main_v76 (F := Ideal) x0)⟩,
      ⟨S2x4x2048x64, fold1 (val_main_v6 (F := Ideal) x0)⟩, ⟨S2x4x2048x64, fold4 (val_main_v6 (F := Ideal) x0)⟩,
      ⟨S2x4x2048x64, fold16 (val_main_v6 (F := Ideal) x0)⟩, ⟨S2x8x2048x64, val_main_v114 (F := Ideal) x0⟩,
      ⟨S2x8x2048x64, val_main_v11 (F := Ideal) x0⟩, ⟨S2x8x2048x64, val_main_v12 (F := Ideal) x0⟩] 0) :
    val_main_v115 (F := Ideal) x0 (ix4 b k r f) = Y k := by
  unfold val_main_v115
  rw [concatenate_apply]
  exact stacks_at k _ 0 _ _ _ (Nat.zero_add _) hq

variable {x0 : FVec Ideal S4096x5888 .f32} {P : EMat 4096 5888} (h : Holds x0 P)
include h

theorem wide_at (j : Fin 36) : val_main_v3 (F := Ideal) x0 (ix4 b j r f) = head P b ⟨j.val, by omega⟩ r f := by
  unfold val_main_v3 val_main_v2 val_main_v1
  pointwise
  exact (h _ _).trans (congrArg₂ P rfl (Fin.ext (by dsimp only; omega)))

theorem narrow_at (j : Fin 24) : val_main_v9 (F := Ideal) x0 (ix4 b j r f) = head P b ⟨36 + j.val, by omega⟩ r f := by
  unfold val_main_v9 val_main_v8 val_main_v7
  pointwise
  exact (h _ _).trans (congrArg₂ P rfl (Fin.ext (by dsimp only; omega)))

theorem q_at (j : Fin 12) {k : Fin 60} (hk : k.val = 12 * 0 + j.val) :
    val_main_v45 (F := Ideal) x0 (ix4 b j r f) = base P b k r f := by
  have hz : (fun f => val_main_v4 (F := Ideal) x0 (ix4 b j r f)) = head P b k r := by
    funext f
    unfold val_main_v4
    pointwise
    exact (wide_at h _).trans (congrArg (fun k => head P b k r f) (Fin.ext (by dsimp only; omega)))
  unfold val_main_v45
  rw [queries, base_rotated_query (by omega), ← hz, ← rot_at]
  rfl

theorem k_at (j : Fin 12) {k : Fin 60} (hk : k.val = 12 * 1 + j.val) :
    val_main_v76 (F := Ideal) x0 (ix4 b j r f) = base P b k r f := by
  have hz : (fun f => val_main_v5 (F := Ideal) x0 (ix4 b j r f)) = head P b k r := by
    funext f
    unfold val_main_v5
    pointwise
    exact (wide_at h _).trans (congrArg (fun k => head P b k r f) (Fin.ext (by dsimp only; omega)))
  rw [keys, base_rotated_key (by omega) (by omega), ← hz, ← rot_at]

theorem v_at (j : Fin 12) {k : Fin 60} (hk : k.val = 12 * 2 + j.val) :
    val_main_v6 (F := Ideal) x0 (ix4 b j r f) = base P b k r f := by
  unfold val_main_v6
  pointwise
  rw [base_other (by omega) (by omega)]
  exact (wide_at h _).trans (congrArg (fun k => head P b k r f) (Fin.ext (by dsimp only; omega)))

/-! The heads that are not interleaved. -/

theorem q_at' (j : Fin 8) {k : Fin 60} (hk : k.val = 36 + j.val) :
    val_main_v114 (F := Ideal) x0 (ix4 b j r f) = entry P b k r f := by
  unfold val_main_v114 val_main_v10
  pointwise
  rw [entry_one (by omega), base_query (by omega) (by omega)]
  exact congrArg (· * eighth) ((narrow_at h _).trans (congrArg (fun k => head P b k r f) (Fin.ext (by dsimp only; omega))))

theorem k_at' (j : Fin 8) {k : Fin 60} (hk : k.val = 44 + j.val) :
    val_main_v11 (F := Ideal) x0 (ix4 b j r f) = entry P b k r f := by
  unfold val_main_v11
  pointwise
  rw [entry_one (by omega), base_other (by omega) (by omega)]
  exact (narrow_at h _).trans (congrArg (fun k => head P b k r f) (Fin.ext (by dsimp only; omega)))

theorem v_at' (j : Fin 8) {k : Fin 60} (hk : k.val = 52 + j.val) :
    val_main_v12 (F := Ideal) x0 (ix4 b j r f) = entry P b k r f := by
  unfold val_main_v12
  pointwise
  rw [entry_one (by omega), base_other (by omega) (by omega)]
  exact (narrow_at h _).trans (congrArg (fun k => head P b k r f) (Fin.ext (by dsimp only; omega)))

/-- The reference's result. -/
theorem heads_at (k : Fin 60) : val_main_v116 (F := Ideal) x0 (ix4 b k r f) = entry P b k r f := by
  refine stack_at (Y := fun k => entry P b k r f) k ?_
  refine stacks_cons (fun i _ => fold1_entry (q_at h) (by omega) i (by dsimp only)) ?_
  refine stacks_cons (fun i _ => fold4_entry (q_at h) (by omega) i (by dsimp only; omega)) ?_
  refine stacks_cons (fun i _ => fold16_entry (q_at h) (by omega) i (by dsimp only; omega)) ?_
  refine stacks_cons (fun i _ => fold1_entry (k_at h) (by omega) i (by dsimp only)) ?_
  refine stacks_cons (fun i _ => fold4_entry (k_at h) (by omega) i (by dsimp only; omega)) ?_
  refine stacks_cons (fun i _ => fold16_entry (k_at h) (by omega) i (by dsimp only; omega)) ?_
  refine stacks_cons (fun i _ => fold1_entry (v_at h) (by omega) i (by dsimp only)) ?_
  refine stacks_cons (fun i _ => fold4_entry (v_at h) (by omega) i (by dsimp only; omega)) ?_
  refine stacks_cons (fun i _ => fold16_entry (v_at h) (by omega) i (by dsimp only; omega)) ?_
  refine stacks_cons (fun i _ => q_at' h i (by dsimp only)) ?_
  refine stacks_cons (fun i _ => k_at' h i (by dsimp only)) ?_
  exact stacks_cons (fun i _ => v_at' h i (by dsimp only)) trivial

end Cert.Reference17Ideal.Real

end
-- ==== Proof.Heads.Ends.lean ====
module
public import Idealize.ShloMosaic.Lib.Quiescent
public import proofs.«01_k».proof.Defs
public import proofs.«01_k».proof.Proof.Heads.Call
public import proofs.«01_k».proof.Proof.Heads.Reference

/-! The head layout: the call and its reference end with equal results. -/

@[expose] public section

noncomputable section

namespace Cert.Heads

open Idealize.ShloMosaic Idealize.ShloMosaic.TcCoe Idealize.SL.Sem Cert.Merge

attribute [local instance] Cert.Kernel17Ideal.Gen.facts Cert.Reference17Ideal.Gen.facts

theorem equal : algebraic_Kernel17Ideal_Reference17Ideal := by
  intro m ρ m' ρ' _ hargs
  refine ⟨fun c => (Cert.Kernel17Ideal.Gen.dats m 0 c).arrAt 3 Cert.Kernel17Ideal.cfg0.N,
    Cert.Kernel17Ideal.Value.run_blocks m ρ,
    (θ_run Cert.Reference17Ideal.defs _ _).mono (fun r h c => ?_) (Cert.Reference17Ideal.Value.run m' ρ')⟩
  obtain ⟨r116, rest⟩ := h c
  have e := hargs c
  obtain ⟨P, start⟩ : ∃ P, Cert.Kernel17Ideal.Call.Starts m c P := ⟨fun i j => _, fun _ _ => rfl⟩
  have start' := start
  unfold Cert.Kernel17Ideal.Call.Starts at start'
  rw [← e] at start'
  refine ⟨r116.trans ((Cert.Reference17Ideal.Read.val_main_v116_eq m' c).trans ?_), rest⟩
  funext k
  obtain ⟨b, i, p, f, rfl⟩ : ∃ (b : Fin 2) (i : Fin 60) (p : Fin 2048) (f : Fin 64), k = ix4 b i p f :=
    ⟨k 0, k 1, k 2, k 3, eq_ix4 k⟩
  exact (Cert.Reference17Ideal.Real.heads_at start' i).trans (Cert.Kernel17Ideal.Call.arrHeads start b i p f).symm

theorem frame : quiescent_Reference17Ideal := fun m ρ _ =>
  (θ_run Cert.Reference17Ideal.defs _ _).mono
    (fun r h => ⟨fun c => (h c).2, sem_eq_zero_of_no_sems rfl r.2⟩) (Cert.Reference17Ideal.Value.run m ρ)

end Cert.Heads

end
-- ==== Proof.lean ====
/- The certificate of the feed-forward half of a layer and of the mixer's projections, gates and norm, forward and
   backward, of the last norm with the loss, and of the optimiser.

   The frames and the printed program's unchanged semantics are the generated lemmas. The algebraic claim is put
   together here: where every element of every argument is a real number (`Finite.lean`), the kernel's five results
   (`Chain.lean`, read off its run by `Ends.lean`) and the reference's five (`Reference.lean`) are the same real
   matrices, those that `Spec.lean` names. The mixer's programs (`Project/`, `Merge/`) follow the same plan, over the
   extended reals; the optimiser's (`Adam/`), the loss's (`Loss/`), the norm gradient's (`Pull/`) and the
   head layout's (`Heads/`) end with their claims. -/
module
public import proofs.«01_k».proof.Defs
public import proofs.«01_k».proof.Proof.Gen.Kernel.Frame
public import proofs.«01_k».proof.Proof.Gen.KernelIdeal.Frame
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import Idealize.ShloMosaic.Lib.Quiescent
public import proofs.«01_k».proof.Proof.Ends
public import proofs.«01_k».proof.Proof.Chain
public import proofs.«01_k».proof.Proof.Finite
public import proofs.«01_k».proof.Proof.Reference
public import proofs.«01_k».proof.Proof.Project.Ends
public import proofs.«01_k».proof.Proof.Project.Forward
public import proofs.«01_k».proof.Proof.Project.DWin
public import proofs.«01_k».proof.Proof.Project.DHid
public import proofs.«01_k».proof.Proof.Project.Reference
public import proofs.«01_k».proof.Proof.Merge.Ends
public import proofs.«01_k».proof.Proof.Merge.Chain
public import proofs.«01_k».proof.Proof.Merge.Reference
public import proofs.«01_k».proof.Proof.Adam.Up
public import proofs.«01_k».proof.Proof.Adam.Down
public import proofs.«01_k».proof.Proof.Adam.In
public import proofs.«01_k».proof.Proof.Adam.BranchA
public import proofs.«01_k».proof.Proof.Adam.BranchB
public import proofs.«01_k».proof.Proof.Adam.Out
public import proofs.«01_k».proof.Proof.Adam.Norm
public import proofs.«01_k».proof.Proof.Adam.Bias
public import proofs.«01_k».proof.Proof.Adam.Final
public import proofs.«01_k».proof.Proof.Loss.Ends
public import proofs.«01_k».proof.Proof.Pull.Ends
public import proofs.«01_k».proof.Proof.Heads.Ends

@[expose] public section

noncomputable section

namespace Cert.Proof

open Idealize.ShloMosaic Idealize.ShloMosaic.TcCoe Idealize.SL.Sem Cert.Half

attribute [local instance] Cert.Kernel.Gen.facts Cert.KernelIdeal.Gen.facts Cert.ReferenceIdeal.Gen.facts Cert.Pre_finite.Gen.facts
attribute [local instance] Cert.Kernel2.Gen.facts Cert.Kernel2Ideal.Gen.facts Cert.Reference2Ideal.Gen.facts
attribute [local instance] Cert.Kernel3.Gen.facts Cert.Kernel3Ideal.Gen.facts Cert.Reference3Ideal.Gen.facts
attribute [local instance] Cert.Kernel4.Gen.facts Cert.Kernel4Ideal.Gen.facts Cert.Reference4Ideal.Gen.facts
attribute [local instance] Cert.Kernel5.Gen.facts Cert.Kernel5Ideal.Gen.facts Cert.Reference5Ideal.Gen.facts
attribute [local instance] Cert.Kernel6.Gen.facts Cert.Kernel6Ideal.Gen.facts Cert.Reference6Ideal.Gen.facts
attribute [local instance] Cert.Kernel7.Gen.facts Cert.Kernel7Ideal.Gen.facts Cert.Reference7Ideal.Gen.facts
attribute [local instance] Cert.Kernel8.Gen.facts Cert.Kernel8Ideal.Gen.facts Cert.Reference8Ideal.Gen.facts
attribute [local instance] Cert.Kernel9.Gen.facts Cert.Kernel9Ideal.Gen.facts Cert.Reference9Ideal.Gen.facts
attribute [local instance] Cert.Kernel10.Gen.facts Cert.Kernel10Ideal.Gen.facts Cert.Reference10Ideal.Gen.facts
attribute [local instance] Cert.Kernel11.Gen.facts Cert.Kernel11Ideal.Gen.facts Cert.Reference11Ideal.Gen.facts
attribute [local instance] Cert.Kernel12.Gen.facts Cert.Kernel12Ideal.Gen.facts Cert.Reference12Ideal.Gen.facts
attribute [local instance] Cert.Kernel13.Gen.facts Cert.Kernel13Ideal.Gen.facts Cert.Reference13Ideal.Gen.facts
attribute [local instance] Cert.Kernel14.Gen.facts Cert.Kernel14Ideal.Gen.facts Cert.Reference14Ideal.Gen.facts
attribute [local instance] Cert.Kernel15.Gen.facts Cert.Kernel15Ideal.Gen.facts Cert.Reference15Ideal.Gen.facts
attribute [local instance] Cert.Kernel16.Gen.facts Cert.Kernel16Ideal.Gen.facts Cert.Reference16Ideal.Gen.facts
attribute [local instance] Cert.Kernel17.Gen.facts Cert.Kernel17Ideal.Gen.facts Cert.Reference17Ideal.Gen.facts

/-- Where the arguments are finite, the kernel and the reference end with equal results. -/
theorem equal_results : algebraic_KernelIdeal_ReferenceIdeal_pre_finite := by
  intro m ρ m' ρ' hpre hargs
  refine ⟨fun c => Cert.KernelIdeal.Gen.W15 m ρ c (Proc.devRef .tc Cert.KernelIdeal.main_v18),
    fun c => Cert.KernelIdeal.Gen.W15 m ρ c (Proc.devRef .tc Cert.KernelIdeal.main_v19),
    fun c => Cert.KernelIdeal.Gen.W15 m ρ c (Proc.devRef .tc Cert.KernelIdeal.main_v20),
    fun c => Cert.KernelIdeal.Gen.W15 m ρ c (Proc.devRef .tc Cert.KernelIdeal.main_v12),
    fun c => Cert.KernelIdeal.Gen.W15 m ρ c (Proc.devRef .tc Cert.KernelIdeal.main_v9),
    Cert.KernelIdeal.Ends.ends m ρ,
    (θ_run Cert.ReferenceIdeal.defs _ _).mono (fun r h c => ?_) (Cert.ReferenceIdeal.Value.run m' ρ')⟩
  obtain ⟨r24, r58, r43, r59, r60, rest⟩ := h c
  obtain ⟨e₀, e₁, e₂, e₃, e₄⟩ := hargs c
  obtain ⟨a, start⟩ : ∃ a, Cert.KernelIdeal.Host.Starts m c a := ⟨_, reads_of_test (hpre c)⟩
  have start' := start
  unfold Cert.KernelIdeal.Host.Starts at start'
  rw [← e₀, ← e₁, ← e₂, ← e₃, ← e₄] at start'
  refine ⟨r24.trans ?_, r58.trans ?_, r43.trans ?_, r59.trans ?_, r60.trans ?_, rest⟩
  · exact (Cert.ReferenceIdeal.Read.val_main_v24_eq _ _ _ _).trans
      ((Cert.ReferenceIdeal.Real.out_at start').unique (Cert.KernelIdeal.Chain.out15 ρ start))
  · exact (Cert.ReferenceIdeal.Read.val_main_v58_eq m' c).trans
      ((Cert.ReferenceIdeal.Real.rows_at start').unique (Cert.KernelIdeal.Chain.rows15 ρ start))
  · refine (Cert.ReferenceIdeal.Read.val_main_v43_eq m' c).trans (funext fun k => ?_)
    rw [eq_ix1 k]
    exact (Cert.ReferenceIdeal.Real.dgain_at start' _).trans (Cert.KernelIdeal.Chain.gain15 ρ start _).symm
  · exact (Cert.ReferenceIdeal.Read.val_main_v59_eq m' c).trans
      ((Cert.ReferenceIdeal.Real.win_at start').unique (Cert.KernelIdeal.Chain.win15 ρ start))
  · exact (Cert.ReferenceIdeal.Read.val_main_v60_eq _ _ _ _).trans
      ((Cert.ReferenceIdeal.Real.down_at start').unique (Cert.KernelIdeal.Chain.down15 ρ start))

/-- The reference's frame: its run leaves the arguments, and its program has no semaphore. -/
theorem reference_frame : quiescent_ReferenceIdeal := fun m ρ _ =>
  (θ_run Cert.ReferenceIdeal.defs _ _).mono
    (fun r h => ⟨fun c => (h c).2.2.2.2.2, sem_eq_zero_of_no_sems rfl r.2⟩) (Cert.ReferenceIdeal.Value.run m ρ)

/-- The combined projection and its reference end with equal results. -/
theorem equal_projection : algebraic_Kernel2Ideal_Reference2Ideal := by
  intro m ρ m' ρ' _ hargs
  refine ⟨fun c => Cert.Kernel2Ideal.Gen.W4 m ρ c (Proc.devRef .tc Cert.Kernel2Ideal.main_v5),
    Cert.Kernel2Ideal.Ends.ends m ρ,
    (θ_run Cert.Reference2Ideal.defs _ _).mono (fun r h c => ?_) (Cert.Reference2Ideal.Value.run m' ρ')⟩
  obtain ⟨r13, rest⟩ := h c
  obtain ⟨e₀, e₁, e₂⟩ := hargs c
  refine ⟨r13.trans ((Cert.Reference2Ideal.Read.val_main_v13_eq _ _ _).trans (funext fun k => ?_)), rest⟩
  rw [eq_ix3 k]
  refine (Cert.Reference2Ideal.Real.out_at _ _ _ _ _ _).trans (Eq.trans ?_ (Cert.Kernel2Ideal.Forward.p4 m ρ c _ _ _).symm)
  rw [e₀, e₁, e₂]
  rfl

/-- The gradient of the projection's weight and its reference end with equal results. -/
theorem equal_weight : algebraic_Kernel3Ideal_Reference3Ideal := by
  intro m ρ m' ρ' _ hargs
  refine ⟨fun c => (Cert.Kernel3Ideal.Gen.dats m 0 c).arrAt 2 Cert.Kernel3Ideal.cfg0.N,
    Cert.Kernel3Ideal.Value.run_blocks m ρ,
    (θ_run Cert.Reference3Ideal.defs _ _).mono (fun r h c => ?_) (Cert.Reference3Ideal.Value.run m' ρ')⟩
  obtain ⟨r6, rest⟩ := h c
  obtain ⟨e₀, e₁⟩ := hargs c
  refine ⟨r6.trans ((Cert.Reference3Ideal.Read.val_main_v6_eq _ _).trans (funext fun k => ?_)), rest⟩
  rw [eq_ix2 k]
  refine (Cert.Reference3Ideal.Real.out_at _ _ _ _).trans (Eq.trans ?_ (Cert.Kernel3Ideal.DWin.arr m c _ _).symm)
  rw [e₀, e₁]
  rfl

/-- The gradient of the projection's rows and its reference end with equal results. -/
theorem equal_rows : algebraic_Kernel4Ideal_Reference4Ideal := by
  intro m ρ m' ρ' _ hargs
  refine ⟨fun c => (Cert.Kernel4Ideal.Gen.dats m 0 c).arrAt 2 Cert.Kernel4Ideal.cfg0.N,
    Cert.Kernel4Ideal.Value.run_blocks m ρ,
    (θ_run Cert.Reference4Ideal.defs _ _).mono (fun r h c => ?_) (Cert.Reference4Ideal.Value.run m' ρ')⟩
  obtain ⟨r4, rest⟩ := h c
  obtain ⟨e₀, e₁⟩ := hargs c
  refine ⟨r4.trans ((Cert.Reference4Ideal.Read.val_main_v4_eq _ _).trans (funext fun k => ?_)), rest⟩
  rw [eq_ix2 k]
  refine (Cert.Reference4Ideal.Real.out_at _ _ _ _).trans (Eq.trans ?_ (Cert.Kernel4Ideal.DHid.arr m c _ _).symm)
  rw [e₀, e₁]
  rfl

/-- The gated merge with its gradients and its reference end with equal results. -/
theorem equal_merge : algebraic_Kernel5Ideal_Reference5Ideal := by
  intro m ρ m' ρ' _ hargs
  refine ⟨fun c => Cert.Kernel5Ideal.Gen.W14 m ρ c (Proc.devRef .tc Cert.Kernel5Ideal.main_v17),
    fun c => Cert.Kernel5Ideal.Gen.W14 m ρ c (Proc.devRef .tc Cert.Kernel5Ideal.main_v18),
    fun c => Cert.Kernel5Ideal.Gen.W14 m ρ c (Proc.devRef .tc Cert.Kernel5Ideal.main_v15),
    fun c => Cert.Kernel5Ideal.Gen.W14 m ρ c (Proc.devRef .tc Cert.Kernel5Ideal.main_v16),
    fun c => Cert.Kernel5Ideal.Gen.W14 m ρ c (Proc.devRef .tc Cert.Kernel5Ideal.main_v13),
    fun c => Cert.Kernel5Ideal.Gen.W14 m ρ c (Proc.devRef .tc Cert.Kernel5Ideal.main_v14),
    fun c => Cert.Kernel5Ideal.Gen.W14 m ρ c (Proc.devRef .tc Cert.Kernel5Ideal.main_v10),
    Cert.Kernel5Ideal.Ends.ends m ρ,
    (θ_run Cert.Reference5Ideal.defs _ _).mono (fun r h c => ?_) (Cert.Reference5Ideal.Value.run m' ρ')⟩
  obtain ⟨r37, r38, r33, r28, r39, r40, r41, rest⟩ := h c
  obtain ⟨e₀, e₁, e₂, e₃, e₄, e₅, e₆, e₇⟩ := hargs c
  obtain ⟨a, start⟩ : ∃ a, Cert.Kernel5Ideal.Host.Starts m c a := Merge.reads _ _ _ _ _ _ _ _
  have start' := start
  unfold Cert.Kernel5Ideal.Host.Starts at start'
  rw [← e₀, ← e₁, ← e₂, ← e₃, ← e₄, ← e₅, ← e₆, ← e₇] at start'
  refine ⟨r37.trans ?_, r38.trans ?_, r33.trans ?_, r28.trans ?_, r39.trans ?_, r40.trans ?_, r41.trans ?_, rest⟩
  · exact (Cert.Reference5Ideal.Read.val_main_v37_eq _ _ _ _ _ _ _).trans
      ((Cert.Reference5Ideal.Real.out_at start').unique (Cert.Kernel5Ideal.Chain.out14 ρ start))
  · exact (Cert.Reference5Ideal.Read.val_main_v38_eq _ _ _ _ _ _ _).trans
      ((Cert.Reference5Ideal.Real.dlogits_at start').unique (Cert.Kernel5Ideal.Chain.dg14 ρ start))
  · exact (Cert.Reference5Ideal.Read.val_main_v33_eq _ _ _ _).trans
      ((Cert.Reference5Ideal.Real.dya_at start').unique (Cert.Kernel5Ideal.Chain.ya14 ρ start))
  · exact (Cert.Reference5Ideal.Read.val_main_v28_eq _ _ _ _).trans
      ((Cert.Reference5Ideal.Real.dyb_at start').unique (Cert.Kernel5Ideal.Chain.yb14 ρ start))
  · exact (Cert.Reference5Ideal.Read.val_main_v39_eq _ _ _ _).trans
      ((Cert.Reference5Ideal.Real.dwa_at start').unique (Cert.Kernel5Ideal.Chain.wa14 ρ start))
  · exact (Cert.Reference5Ideal.Read.val_main_v40_eq _ _ _ _).trans
      ((Cert.Reference5Ideal.Real.dwb_at start').unique (Cert.Kernel5Ideal.Chain.wb14 ρ start))
  · exact (Cert.Reference5Ideal.Read.val_main_v41_eq _ _ _ _ _ _).trans
      ((Cert.Reference5Ideal.Real.dwo_at start').unique (Cert.Kernel5Ideal.Chain.wo14 ρ start))

theorem projection_frame : quiescent_Reference2Ideal := fun m ρ _ =>
  (θ_run Cert.Reference2Ideal.defs _ _).mono
    (fun r h => ⟨fun c => (h c).2, sem_eq_zero_of_no_sems rfl r.2⟩) (Cert.Reference2Ideal.Value.run m ρ)

theorem weight_frame : quiescent_Reference3Ideal := fun m ρ _ =>
  (θ_run Cert.Reference3Ideal.defs _ _).mono
    (fun r h => ⟨fun c => (h c).2, sem_eq_zero_of_no_sems rfl r.2⟩) (Cert.Reference3Ideal.Value.run m ρ)

theorem rows_frame : quiescent_Reference4Ideal := fun m ρ _ =>
  (θ_run Cert.Reference4Ideal.defs _ _).mono
    (fun r h => ⟨fun c => (h c).2, sem_eq_zero_of_no_sems rfl r.2⟩) (Cert.Reference4Ideal.Value.run m ρ)

theorem merge_frame : quiescent_Reference5Ideal := fun m ρ _ =>
  (θ_run Cert.Reference5Ideal.defs _ _).mono
    (fun r h => ⟨fun c => (h c).2.2.2.2.2.2.2, sem_eq_zero_of_no_sems rfl r.2⟩) (Cert.Reference5Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.Kernel2.Gen.frame m ρ, fun m ρ _ => Cert.Kernel2Ideal.Gen.frame m ρ, projection_frame,
    fun m ρ _ => Cert.Kernel3.Gen.frame m ρ, fun m ρ _ => Cert.Kernel3Ideal.Gen.frame m ρ, weight_frame,
    fun m ρ _ => Cert.Kernel4.Gen.frame m ρ, fun m ρ _ => Cert.Kernel4Ideal.Gen.frame m ρ, rows_frame,
    fun m ρ _ => Cert.Kernel5.Gen.frame m ρ, fun m ρ _ => Cert.Kernel5Ideal.Gen.frame m ρ, merge_frame,
    fun m ρ _ => Cert.Kernel6.Gen.frame m ρ, fun m ρ _ => Cert.Kernel6Ideal.Gen.frame m ρ, Cert.Kernel6Ideal.Up.frame,
    fun m ρ _ => Cert.Kernel7.Gen.frame m ρ, fun m ρ _ => Cert.Kernel7Ideal.Gen.frame m ρ, Cert.Kernel7Ideal.Down.frame,
    fun m ρ _ => Cert.Kernel8.Gen.frame m ρ, fun m ρ _ => Cert.Kernel8Ideal.Gen.frame m ρ, Cert.Kernel8Ideal.In.frame,
    fun m ρ _ => Cert.Kernel9.Gen.frame m ρ, fun m ρ _ => Cert.Kernel9Ideal.Gen.frame m ρ, Cert.Kernel9Ideal.BranchA.frame,
    fun m ρ _ => Cert.Kernel10.Gen.frame m ρ, fun m ρ _ => Cert.Kernel10Ideal.Gen.frame m ρ, Cert.Kernel10Ideal.BranchB.frame,
    fun m ρ _ => Cert.Kernel11.Gen.frame m ρ, fun m ρ _ => Cert.Kernel11Ideal.Gen.frame m ρ, Cert.Kernel11Ideal.Out.frame,
    fun m ρ _ => Cert.Kernel12.Gen.frame m ρ, fun m ρ _ => Cert.Kernel12Ideal.Gen.frame m ρ, Cert.Kernel12Ideal.Norm.frame,
    fun m ρ _ => Cert.Kernel13.Gen.frame m ρ, fun m ρ _ => Cert.Kernel13Ideal.Gen.frame m ρ, Cert.Kernel13Ideal.Bias.frame,
    fun m ρ _ => Cert.Kernel14.Gen.frame m ρ, fun m ρ _ => Cert.Kernel14Ideal.Gen.frame m ρ, Cert.Kernel14Ideal.Final.frame,
    fun m ρ _ => Cert.Kernel15.Gen.frame m ρ, fun m ρ _ => Cert.Kernel15Ideal.Gen.frame m ρ,
    Cert.Loss.frame,
    fun m ρ _ => Cert.Kernel16.Gen.frame m ρ, fun m ρ _ => Cert.Kernel16Ideal.Gen.frame m ρ,
    Cert.Pull.frame,
    fun m ρ _ => Cert.Kernel17.Gen.frame m ρ, fun m ρ _ => Cert.Kernel17Ideal.Gen.frame m ρ,
    Cert.Heads.frame,
    trivial, equal_results, trivial, equal_projection, trivial, equal_weight, trivial, equal_rows,
    trivial, equal_merge,
    trivial, Cert.Kernel6Ideal.Up.equal, trivial, Cert.Kernel7Ideal.Down.equal, trivial, Cert.Kernel8Ideal.In.equal,
    trivial, Cert.Kernel9Ideal.BranchA.equal, trivial, Cert.Kernel10Ideal.BranchB.equal, trivial, Cert.Kernel11Ideal.Out.equal,
    trivial, Cert.Kernel12Ideal.Norm.equal, trivial, Cert.Kernel13Ideal.Bias.equal, trivial, Cert.Kernel14Ideal.Final.equal,
    trivial, Cert.Loss.equal, trivial, Cert.Pull.equal,
    trivial, Cert.Heads.equal⟩

end Cert.Proof

end
